-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x192x56x56 : Shape := ⟨4, ![32, 192, 56, 56]⟩
abbrev S_ : Shape := ⟨0, ![]⟩
abbrev S32x56x56x192 : Shape := ⟨4, ![32, 56, 56, 192]⟩
abbrev S1x1 : Shape := ⟨2, ![1, 1]⟩
abbrev S16x2x2x56x192 : Shape := ⟨5, ![16, 2, 2, 56, 192]⟩
abbrev S1x2x2x56x192 : Shape := ⟨5, ![1, 2, 2, 56, 192]⟩
abbrev S8x56x384 : Shape := ⟨3, ![8, 56, 384]⟩
abbrev S56x384 : Shape := ⟨2, ![56, 384]⟩
abbrev S1x384 : Shape := ⟨2, ![1, 384]⟩
abbrev S55x384 : Shape := ⟨2, ![55, 384]⟩
abbrev S2x384 : Shape := ⟨2, ![2, 384]⟩
abbrev S54x384 : Shape := ⟨2, ![54, 384]⟩
abbrev S3x384 : Shape := ⟨2, ![3, 384]⟩
abbrev S53x384 : Shape := ⟨2, ![53, 384]⟩
abbrev S1x56x384 : Shape := ⟨3, ![1, 56, 384]⟩
abbrev S56x192 : Shape := ⟨2, ![56, 192]⟩
abbrev S1x1x1x56x192 : Shape := ⟨5, ![1, 1, 1, 56, 192]⟩
abbrev S1 : Shape := ⟨1, ![1]⟩
abbrev S1x1x1 : Shape := ⟨3, ![1, 1, 1]⟩
abbrev S32x2x56x192 : Shape := ⟨4, ![32, 2, 56, 192]⟩
abbrev S1x56x56x192 : Shape := ⟨4, ![1, 56, 56, 192]⟩
abbrev S1x2x56x192 : Shape := ⟨4, ![1, 2, 56, 192]⟩
abbrev S1x1x56x192 : Shape := ⟨4, ![1, 1, 56, 192]⟩
abbrev S56x56x192 : Shape := ⟨3, ![56, 56, 192]⟩
abbrev S1x56x192 : Shape := ⟨3, ![1, 56, 192]⟩

abbrev nBuf : Space → Nat
  | .hbm => 12
  | .vmem => 13
  | .smem => 3
  | _ => 0

abbrev bufTy : (tb : Table) → Fin (tcTables nBuf tb) → BufTy
  | .hbm, ⟨0, _⟩ => ⟨S32x192x56x56, .f32⟩
  | .hbm, ⟨1, _⟩ => ⟨S_, .f32⟩
  | .hbm, ⟨2, _⟩ => ⟨S32x56x56x192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S16x2x2x56x192, .i32⟩
  | .hbm, ⟨8, _⟩ => ⟨S1x1, .i32⟩
  | .hbm, ⟨9, _⟩ => ⟨S32x2x56x192, .i32⟩
  | .hbm, ⟨10, _⟩ => ⟨S32x56x56x192, .f32⟩
  | .hbm, ⟨11, _⟩ => ⟨S32x192x56x56, .f32⟩
  | .local _ .vmem, ⟨0, _⟩ => ⟨S1x2x2x56x192, .i32⟩
  | .local _ .vmem, ⟨1, _⟩ => ⟨S1x2x2x56x192, .i32⟩
  | .local _ .vmem, ⟨2, _⟩ => ⟨S8x56x384, .f32⟩
  | .local _ .vmem, ⟨3, _⟩ => ⟨S8x56x384, .f32⟩
  | .local _ .vmem, ⟨4, _⟩ => ⟨S56x384, .i32⟩
  | .local _ .vmem, ⟨5, _⟩ => ⟨S56x384, .i32⟩
  | .local _ .vmem, ⟨6, _⟩ => ⟨S56x384, .i32⟩
  | .local _ .vmem, ⟨7, _⟩ => ⟨S1x56x56x192, .f32⟩
  | .local _ .vmem, ⟨8, _⟩ => ⟨S1x56x56x192, .f32⟩
  | .local _ .vmem, ⟨9, _⟩ => ⟨S1x2x56x192, .i32⟩
  | .local _ .vmem, ⟨10, _⟩ => ⟨S1x2x56x192, .i32⟩
  | .local _ .vmem, ⟨11, _⟩ => ⟨S1x56x56x192, .f32⟩
  | .local _ .vmem, ⟨12, _⟩ => ⟨S1x56x56x192, .f32⟩
  | .local _ .smem, ⟨0, _⟩ => ⟨S1x1, .f32⟩
  | .local _ .smem, ⟨1, _⟩ => ⟨S1x1, .i32⟩
  | .local _ .smem, ⟨2, _⟩ => ⟨S1x1, .i32⟩
  | _, _ => ⟨S32x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_stg0_0 : Ref sig .tc := ⟨.smem, 0, rfl⟩
abbrev cc0_stg2_0 : Ref sig .tc := ⟨.smem, 1, rfl⟩
abbrev cc1_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c6_i32_456 : BitVec 32 := 6#32
  let c50_i32 : BitVec 32 := 50#32
  let v1328 : BitVec 32 := Scalar.addi c6_i32_456 c50_i32
  let c1_i32_457 : BitVec 32 := 1#32
  ⟨c6_i32_456, v1328, c1_i32_457⟩
def k0_off1 (k0_t1 : Fin k0_t1_loop.trips) (c1_i32_552 : BitVec 32) : Fin 3 → Nat :=
  let c6_i32_456 : BitVec 32 := 6#32
  let c1_i32_457 : BitVec 32 := 1#32
  let arg9 : BitVec 32 := Scf.iv c6_i32_456 c1_i32_457 k0_t1
  let v1549 : BitVec 32 := Scalar.subi arg9 c1_i32_552
  let c7_i32 : BitVec 32 := 7#32
  let v1550 : BitVec 32 := Scalar.andi v1549 c7_i32
  let v1551 : Index := Scalar.indexCast v1550
  let c0_553 : Index := 0#32
  let c0_554 : Index := 0#32
  ![v1551.toNat, 0, 0]
def k0_off1_at (r : Fin 4) : BitVec 32 :=
  if r.val < 2 then
    if r.val < 1 then
      1#32
    else
      2#32
  else
    if r.val < 3 then
      4#32
    else
      6#32
def k0_off2 (k0_t1 : Fin k0_t1_loop.trips) : Fin 3 → Nat :=
  let c6_i32_456 : BitVec 32 := 6#32
  let c1_i32_457 : BitVec 32 := 1#32
  let arg9 : BitVec 32 := Scf.iv c6_i32_456 c1_i32_457 k0_t1
  let c7_i32_567 : BitVec 32 := 7#32
  let v1573 : BitVec 32 := Scalar.andi arg9 c7_i32_567
  let v1574 : Index := Scalar.indexCast v1573
  let c0_568 : Index := 0#32
  let c0_569 : Index := 0#32
  ![v1574.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x2x56x192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S1x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x56x56x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x56x192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x56x56x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S32x192x56x56 : Shape := ⟨4, ![32, 192, 56, 56]⟩
abbrev S_ : Shape := ⟨0, ![]⟩
abbrev S1 : Shape := ⟨1, ![1]⟩
abbrev S2 : Shape := ⟨1, ![2]⟩
abbrev S1x1x1x1 : Shape := ⟨4, ![1, 1, 1, 1]⟩

abbrev nBuf : Space → Nat
  | .hbm => 310
  | .vmem => 0
  | .smem => 0
  | _ => 0

abbrev hbmTy0_0 (i : Nat) : BufTy := match i % 128 with
  | 0 => ⟨S32x192x56x56, .f32⟩
  | 1 => ⟨S_, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1x1x1, .f32⟩
  | 17 => ⟨S1x1x1x1, .f32⟩
  | 18 => ⟨S1, .i32⟩
  | 19 => ⟨S_, .i32⟩
  | 20 => ⟨S1, .i32⟩
  | 21 => ⟨S_, .i32⟩
  | 22 => ⟨S32x192x56x56, .i64⟩
  | 23 => ⟨S32x192x56x56, .i64⟩
  | 24 => ⟨S32x192x56x56, .i64⟩
  | 25 => ⟨S32x192x56x56, .i64⟩
  | 26 => ⟨S_, .i64⟩
  | 27 => ⟨S32x192x56x56, .i64⟩
  | 28 => ⟨S32x192x56x56, .i64⟩
  | 29 => ⟨S_, .i64⟩
  | 30 => ⟨S32x192x56x56, .i64⟩
  | 31 => ⟨S32x192x56x56, .i64⟩
  | 32 => ⟨S_, .i64⟩
  | 33 => ⟨S32x192x56x56, .i64⟩
  | 34 => ⟨S32x192x56x56, .i64⟩
  | 35 => ⟨S_, .i64⟩
  | 36 => ⟨S32x192x56x56, .i64⟩
  | 37 => ⟨S32x192x56x56, .i64⟩
  | 38 => ⟨S32x192x56x56, .i64⟩
  | 39 => ⟨S32x192x56x56, .i64⟩
  | 40 => ⟨S32x192x56x56, .i64⟩
  | 41 => ⟨S_, .i64⟩
  | 42 => ⟨S32x192x56x56, .i64⟩
  | 43 => ⟨S32x192x56x56, .i64⟩
  | 44 => ⟨S32x192x56x56, .i32⟩
  | 45 => ⟨S32x192x56x56, .i32⟩
  | 46 => ⟨S_, .i32⟩
  | 47 => ⟨S_, .i32⟩
  | 48 => ⟨S_, .i32⟩
  | 49 => ⟨S32x192x56x56, .i32⟩
  | 50 => ⟨S32x192x56x56, .i32⟩
  | 51 => ⟨S32x192x56x56, .i32⟩
  | 52 => ⟨S32x192x56x56, .i32⟩
  | 53 => ⟨S32x192x56x56, .i32⟩
  | 54 => ⟨S_, .i32⟩
  | 55 => ⟨S32x192x56x56, .i32⟩
  | 56 => ⟨S32x192x56x56, .i32⟩
  | 57 => ⟨S_, .i32⟩
  | 58 => ⟨S32x192x56x56, .i32⟩
  | 59 => ⟨S32x192x56x56, .i32⟩
  | 60 => ⟨S32x192x56x56, .i32⟩
  | 61 => ⟨S32x192x56x56, .i32⟩
  | 62 => ⟨S32x192x56x56, .i32⟩
  | 63 => ⟨S_, .i32⟩
  | 64 => ⟨S32x192x56x56, .i32⟩
  | 65 => ⟨S32x192x56x56, .i32⟩
  | 66 => ⟨S_, .i32⟩
  | 67 => ⟨S32x192x56x56, .i32⟩
  | 68 => ⟨S32x192x56x56, .i32⟩
  | 69 => ⟨S32x192x56x56, .i32⟩
  | 70 => ⟨S32x192x56x56, .i32⟩
  | 71 => ⟨S32x192x56x56, .i32⟩
  | 72 => ⟨S_, .i32⟩
  | 73 => ⟨S32x192x56x56, .i32⟩
  | 74 => ⟨S32x192x56x56, .i32⟩
  | 75 => ⟨S_, .i32⟩
  | 76 => ⟨S32x192x56x56, .i32⟩
  | 77 => ⟨S32x192x56x56, .i32⟩
  | 78 => ⟨S32x192x56x56, .i32⟩
  | 79 => ⟨S32x192x56x56, .i32⟩
  | 80 => ⟨S32x192x56x56, .i32⟩
  | 81 => ⟨S_, .i32⟩
  | 82 => ⟨S32x192x56x56, .i32⟩
  | 83 => ⟨S32x192x56x56, .i32⟩
  | 84 => ⟨S_, .i32⟩
  | 85 => ⟨S32x192x56x56, .i32⟩
  | 86 => ⟨S32x192x56x56, .i32⟩
  | 87 => ⟨S32x192x56x56, .i32⟩
  | 88 => ⟨S32x192x56x56, .i32⟩
  | 89 => ⟨S32x192x56x56, .i32⟩
  | 90 => ⟨S32x192x56x56, .i32⟩
  | 91 => ⟨S32x192x56x56, .i32⟩
  | 92 => ⟨S32x192x56x56, .i32⟩
  | 93 => ⟨S_, .i32⟩
  | 94 => ⟨S32x192x56x56, .i32⟩
  | 95 => ⟨S32x192x56x56, .i32⟩
  | 96 => ⟨S32x192x56x56, .i32⟩
  | 97 => ⟨S_, .i32⟩
  | 98 => ⟨S32x192x56x56, .i32⟩
  | 99 => ⟨S32x192x56x56, .i32⟩
  | 100 => ⟨S_, .i32⟩
  | 101 => ⟨S32x192x56x56, .i32⟩
  | 102 => ⟨S32x192x56x56, .i32⟩
  | 103 => ⟨S32x192x56x56, .i32⟩
  | 104 => ⟨S32x192x56x56, .i32⟩
  | 105 => ⟨S32x192x56x56, .i32⟩
  | 106 => ⟨S_, .i32⟩
  | 107 => ⟨S32x192x56x56, .i32⟩
  | 108 => ⟨S32x192x56x56, .i32⟩
  | 109 => ⟨S_, .i32⟩
  | 110 => ⟨S32x192x56x56, .i32⟩
  | 111 => ⟨S32x192x56x56, .i32⟩
  | 112 => ⟨S32x192x56x56, .i32⟩
  | 113 => ⟨S32x192x56x56, .i32⟩
  | 114 => ⟨S32x192x56x56, .i32⟩
  | 115 => ⟨S_, .i32⟩
  | 116 => ⟨S32x192x56x56, .i32⟩
  | 117 => ⟨S32x192x56x56, .i32⟩
  | 118 => ⟨S_, .i32⟩
  | 119 => ⟨S32x192x56x56, .i32⟩
  | 120 => ⟨S32x192x56x56, .i32⟩
  | 121 => ⟨S32x192x56x56, .i32⟩
  | 122 => ⟨S32x192x56x56, .i32⟩
  | 123 => ⟨S32x192x56x56, .i32⟩
  | 124 => ⟨S_, .i32⟩
  | 125 => ⟨S32x192x56x56, .i32⟩
  | 126 => ⟨S32x192x56x56, .i32⟩
  | 127 => ⟨S_, .i32⟩
  | _ => ⟨S32x192x56x56, .f32⟩

abbrev hbmTy0_1 (i : Nat) : BufTy := match i % 128 with
  | 0 => ⟨S32x192x56x56, .i32⟩
  | 1 => ⟨S32x192x56x56, .i32⟩
  | 2 => ⟨S32x192x56x56, .i32⟩
  | 3 => ⟨S32x192x56x56, .i32⟩
  | 4 => ⟨S32x192x56x56, .i32⟩
  | 5 => ⟨S32x192x56x56, .i32⟩
  | 6 => ⟨S32x192x56x56, .i32⟩
  | 7 => ⟨S32x192x56x56, .i32⟩
  | 8 => ⟨S_, .i32⟩
  | 9 => ⟨S32x192x56x56, .i32⟩
  | 10 => ⟨S32x192x56x56, .i32⟩
  | 11 => ⟨S32x192x56x56, .i32⟩
  | 12 => ⟨S_, .i32⟩
  | 13 => ⟨S32x192x56x56, .i32⟩
  | 14 => ⟨S32x192x56x56, .i32⟩
  | 15 => ⟨S_, .i32⟩
  | 16 => ⟨S32x192x56x56, .i32⟩
  | 17 => ⟨S32x192x56x56, .i32⟩
  | 18 => ⟨S32x192x56x56, .i32⟩
  | 19 => ⟨S32x192x56x56, .i32⟩
  | 20 => ⟨S32x192x56x56, .i32⟩
  | 21 => ⟨S_, .i32⟩
  | 22 => ⟨S32x192x56x56, .i32⟩
  | 23 => ⟨S32x192x56x56, .i32⟩
  | 24 => ⟨S_, .i32⟩
  | 25 => ⟨S32x192x56x56, .i32⟩
  | 26 => ⟨S32x192x56x56, .i32⟩
  | 27 => ⟨S32x192x56x56, .i32⟩
  | 28 => ⟨S32x192x56x56, .i32⟩
  | 29 => ⟨S32x192x56x56, .i32⟩
  | 30 => ⟨S_, .i32⟩
  | 31 => ⟨S32x192x56x56, .i32⟩
  | 32 => ⟨S32x192x56x56, .i32⟩
  | 33 => ⟨S_, .i32⟩
  | 34 => ⟨S32x192x56x56, .i32⟩
  | 35 => ⟨S32x192x56x56, .i32⟩
  | 36 => ⟨S32x192x56x56, .i32⟩
  | 37 => ⟨S32x192x56x56, .i32⟩
  | 38 => ⟨S32x192x56x56, .i32⟩
  | 39 => ⟨S_, .i32⟩
  | 40 => ⟨S32x192x56x56, .i32⟩
  | 41 => ⟨S32x192x56x56, .i32⟩
  | 42 => ⟨S_, .i32⟩
  | 43 => ⟨S32x192x56x56, .i32⟩
  | 44 => ⟨S32x192x56x56, .i32⟩
  | 45 => ⟨S32x192x56x56, .i32⟩
  | 46 => ⟨S32x192x56x56, .i32⟩
  | 47 => ⟨S32x192x56x56, .i32⟩
  | 48 => ⟨S32x192x56x56, .i32⟩
  | 49 => ⟨S32x192x56x56, .i32⟩
  | 50 => ⟨S32x192x56x56, .i32⟩
  | 51 => ⟨S_, .i32⟩
  | 52 => ⟨S32x192x56x56, .i32⟩
  | 53 => ⟨S32x192x56x56, .i32⟩
  | 54 => ⟨S32x192x56x56, .i32⟩
  | 55 => ⟨S_, .i32⟩
  | 56 => ⟨S32x192x56x56, .i32⟩
  | 57 => ⟨S32x192x56x56, .i32⟩
  | 58 => ⟨S_, .i32⟩
  | 59 => ⟨S32x192x56x56, .i32⟩
  | 60 => ⟨S32x192x56x56, .i32⟩
  | 61 => ⟨S32x192x56x56, .i32⟩
  | 62 => ⟨S32x192x56x56, .i32⟩
  | 63 => ⟨S32x192x56x56, .i32⟩
  | 64 => ⟨S_, .i32⟩
  | 65 => ⟨S32x192x56x56, .i32⟩
  | 66 => ⟨S32x192x56x56, .i32⟩
  | 67 => ⟨S_, .i32⟩
  | 68 => ⟨S32x192x56x56, .i32⟩
  | 69 => ⟨S32x192x56x56, .i32⟩
  | 70 => ⟨S32x192x56x56, .i32⟩
  | 71 => ⟨S32x192x56x56, .i32⟩
  | 72 => ⟨S32x192x56x56, .i32⟩
  | 73 => ⟨S_, .i32⟩
  | 74 => ⟨S32x192x56x56, .i32⟩
  | 75 => ⟨S32x192x56x56, .i32⟩
  | 76 => ⟨S_, .i32⟩
  | 77 => ⟨S32x192x56x56, .i32⟩
  | 78 => ⟨S32x192x56x56, .i32⟩
  | 79 => ⟨S32x192x56x56, .i32⟩
  | 80 => ⟨S32x192x56x56, .i32⟩
  | 81 => ⟨S32x192x56x56, .i32⟩
  | 82 => ⟨S_, .i32⟩
  | 83 => ⟨S32x192x56x56, .i32⟩
  | 84 => ⟨S32x192x56x56, .i32⟩
  | 85 => ⟨S_, .i32⟩
  | 86 => ⟨S32x192x56x56, .i32⟩
  | 87 => ⟨S32x192x56x56, .i32⟩
  | 88 => ⟨S32x192x56x56, .i32⟩
  | 89 => ⟨S32x192x56x56, .i32⟩
  | 90 => ⟨S32x192x56x56, .i32⟩
  | 91 => ⟨S32x192x56x56, .i32⟩
  | 92 => ⟨S32x192x56x56, .i32⟩
  | 93 => ⟨S32x192x56x56, .i32⟩
  | 94 => ⟨S_, .i32⟩
  | 95 => ⟨S32x192x56x56, .i32⟩
  | 96 => ⟨S32x192x56x56, .i32⟩
  | 97 => ⟨S32x192x56x56, .i32⟩
  | 98 => ⟨S_, .i32⟩
  | 99 => ⟨S32x192x56x56, .i32⟩
  | 100 => ⟨S32x192x56x56, .i32⟩
  | 101 => ⟨S_, .i32⟩
  | 102 => ⟨S32x192x56x56, .i32⟩
  | 103 => ⟨S32x192x56x56, .i32⟩
  | 104 => ⟨S32x192x56x56, .i32⟩
  | 105 => ⟨S32x192x56x56, .i32⟩
  | 106 => ⟨S32x192x56x56, .i32⟩
  | 107 => ⟨S_, .i32⟩
  | 108 => ⟨S32x192x56x56, .i32⟩
  | 109 => ⟨S32x192x56x56, .i32⟩
  | 110 => ⟨S_, .i32⟩
  | 111 => ⟨S32x192x56x56, .i32⟩
  | 112 => ⟨S32x192x56x56, .i32⟩
  | 113 => ⟨S32x192x56x56, .i32⟩
  | 114 => ⟨S32x192x56x56, .i32⟩
  | 115 => ⟨S32x192x56x56, .i32⟩
  | 116 => ⟨S_, .i32⟩
  | 117 => ⟨S32x192x56x56, .i32⟩
  | 118 => ⟨S32x192x56x56, .i32⟩
  | 119 => ⟨S_, .i32⟩
  | 120 => ⟨S32x192x56x56, .i32⟩
  | 121 => ⟨S32x192x56x56, .i32⟩
  | 122 => ⟨S32x192x56x56, .i32⟩
  | 123 => ⟨S32x192x56x56, .i32⟩
  | 124 => ⟨S32x192x56x56, .i32⟩
  | 125 => ⟨S_, .i32⟩
  | 126 => ⟨S32x192x56x56, .i32⟩
  | 127 => ⟨S32x192x56x56, .i32⟩
  | _ => ⟨S32x192x56x56, .f32⟩

abbrev hbmTy0_2 (i : Nat) : BufTy := match i % 128 with
  | 0 => ⟨S_, .i32⟩
  | 1 => ⟨S32x192x56x56, .i32⟩
  | 2 => ⟨S32x192x56x56, .i32⟩
  | 3 => ⟨S32x192x56x56, .i32⟩
  | 4 => ⟨S32x192x56x56, .i32⟩
  | 5 => ⟨S32x192x56x56, .i32⟩
  | 6 => ⟨S32x192x56x56, .i32⟩
  | 7 => ⟨S32x192x56x56, .i32⟩
  | 8 => ⟨S32x192x56x56, .i32⟩
  | 9 => ⟨S_, .i32⟩
  | 10 => ⟨S32x192x56x56, .i32⟩
  | 11 => ⟨S32x192x56x56, .i32⟩
  | 12 => ⟨S32x192x56x56, .i32⟩
  | 13 => ⟨S_, .i32⟩
  | 14 => ⟨S32x192x56x56, .i32⟩
  | 15 => ⟨S32x192x56x56, .i32⟩
  | 16 => ⟨S_, .i32⟩
  | 17 => ⟨S32x192x56x56, .i32⟩
  | 18 => ⟨S32x192x56x56, .i32⟩
  | 19 => ⟨S32x192x56x56, .f32⟩
  | 20 => ⟨S_, .f32⟩
  | 21 => ⟨S32x192x56x56, .f32⟩
  | 22 => ⟨S32x192x56x56, .f32⟩
  | 23 => ⟨S1x1x1x1, .f32⟩
  | 24 => ⟨S32x192x56x56, .f32⟩
  | 25 => ⟨S32x192x56x56, .f32⟩
  | 26 => ⟨S32x192x56x56, .f32⟩
  | 27 => ⟨S32x192x56x56, .f32⟩
  | 28 => ⟨S32x192x56x56, .f32⟩
  | 29 => ⟨S32x192x56x56, .f32⟩
  | 30 => ⟨S32x192x56x56, .f32⟩
  | 31 => ⟨S32x192x56x56, .i1⟩
  | 32 => ⟨S32x192x56x56, .f32⟩
  | 33 => ⟨S_, .f32⟩
  | 34 => ⟨S_, .f32⟩
  | 35 => ⟨S32x192x56x56, .f32⟩
  | 36 => ⟨S_, .f32⟩
  | 37 => ⟨S_, .f32⟩
  | 38 => ⟨S_, .f32⟩
  | 39 => ⟨S32x192x56x56, .f32⟩
  | 40 => ⟨S32x192x56x56, .f32⟩
  | 41 => ⟨S_, .f32⟩
  | 42 => ⟨S32x192x56x56, .f32⟩
  | 43 => ⟨S32x192x56x56, .f32⟩
  | 44 => ⟨S_, .f32⟩
  | 45 => ⟨S32x192x56x56, .f32⟩
  | 46 => ⟨S32x192x56x56, .f32⟩
  | 47 => ⟨S_, .f32⟩
  | 48 => ⟨S_, .f32⟩
  | 49 => ⟨S32x192x56x56, .f32⟩
  | 50 => ⟨S_, .f32⟩
  | 51 => ⟨S_, .f32⟩
  | 52 => ⟨S32x192x56x56, .f32⟩
  | 53 => ⟨S32x192x56x56, .f32⟩
  | _ => ⟨S32x192x56x56, .f32⟩

abbrev hbmTy (i : Nat) : BufTy := match i / 128 with
  | 0 => hbmTy0_0 i
  | 1 => hbmTy0_1 i
  | 2 => hbmTy0_2 i
  | _ => ⟨S32x192x56x56, .f32⟩

abbrev bufTy : (tb : Table) → Fin (tcTables nBuf tb) → BufTy
  | .hbm, ⟨i, _⟩ => hbmTy i
  | _, _ => ⟨S32x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c : Ref sig .tc := ⟨.hbm, 26, rfl⟩
abbrev main_call0_v12 : Ref sig .tc := ⟨.hbm, 27, rfl⟩
abbrev main_call0_v13 : Ref sig .tc := ⟨.hbm, 28, rfl⟩
abbrev main_call0_c_0 : Ref sig .tc := ⟨.hbm, 29, rfl⟩
abbrev main_call0_v14 : Ref sig .tc := ⟨.hbm, 30, rfl⟩
abbrev main_call0_v15 : Ref sig .tc := ⟨.hbm, 31, rfl⟩
abbrev main_call0_c_1 : Ref sig .tc := ⟨.hbm, 32, rfl⟩
abbrev main_call0_v16 : Ref sig .tc := ⟨.hbm, 33, rfl⟩
abbrev main_call0_v17 : Ref sig .tc := ⟨.hbm, 34, rfl⟩
abbrev main_call0_c_2 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_c_3 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_call0_v0 : Ref sig .tc := ⟨.hbm, 46, rfl⟩
abbrev main_call0_call0_c : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_c_0 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_c_1 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_call0_v12 : Ref sig .tc := ⟨.hbm, 61, rfl⟩
abbrev main_call0_call0_v13 : Ref sig .tc := ⟨.hbm, 62, rfl⟩
abbrev main_call0_call0_c_2 : Ref sig .tc := ⟨.hbm, 63, rfl⟩
abbrev main_call0_call0_v14 : Ref sig .tc := ⟨.hbm, 64, rfl⟩
abbrev main_call0_call0_v15 : Ref sig .tc := ⟨.hbm, 65, rfl⟩
abbrev main_call0_call0_c_3 : Ref sig .tc := ⟨.hbm, 66, rfl⟩
abbrev main_call0_call0_v16 : Ref sig .tc := ⟨.hbm, 67, rfl⟩
abbrev main_call0_call0_v17 : Ref sig .tc := ⟨.hbm, 68, rfl⟩
abbrev main_call0_call0_v18 : Ref sig .tc := ⟨.hbm, 69, rfl⟩
abbrev main_call0_call0_v19 : Ref sig .tc := ⟨.hbm, 70, rfl⟩
abbrev main_call0_call0_v20 : Ref sig .tc := ⟨.hbm, 71, rfl⟩
abbrev main_call0_call0_c_4 : Ref sig .tc := ⟨.hbm, 72, rfl⟩
abbrev main_call0_call0_v21 : Ref sig .tc := ⟨.hbm, 73, rfl⟩
abbrev main_call0_call0_v22 : Ref sig .tc := ⟨.hbm, 74, rfl⟩
abbrev main_call0_call0_c_5 : Ref sig .tc := ⟨.hbm, 75, rfl⟩
abbrev main_call0_call0_v23 : Ref sig .tc := ⟨.hbm, 76, rfl⟩
abbrev main_call0_call0_v24 : Ref sig .tc := ⟨.hbm, 77, rfl⟩
abbrev main_call0_call0_v25 : Ref sig .tc := ⟨.hbm, 78, rfl⟩
abbrev main_call0_call0_v26 : Ref sig .tc := ⟨.hbm, 79, rfl⟩
abbrev main_call0_call0_v27 : Ref sig .tc := ⟨.hbm, 80, rfl⟩
abbrev main_call0_call0_c_6 : Ref sig .tc := ⟨.hbm, 81, rfl⟩
abbrev main_call0_call0_v28 : Ref sig .tc := ⟨.hbm, 82, rfl⟩
abbrev main_call0_call0_v29 : Ref sig .tc := ⟨.hbm, 83, rfl⟩
abbrev main_call0_call0_c_7 : Ref sig .tc := ⟨.hbm, 84, rfl⟩
abbrev main_call0_call0_v30 : Ref sig .tc := ⟨.hbm, 85, rfl⟩
abbrev main_call0_call0_v31 : Ref sig .tc := ⟨.hbm, 86, rfl⟩
abbrev main_call0_call0_v32 : Ref sig .tc := ⟨.hbm, 87, rfl⟩
abbrev main_call0_call0_v33 : Ref sig .tc := ⟨.hbm, 88, rfl⟩
abbrev main_call0_call0_v34 : Ref sig .tc := ⟨.hbm, 89, rfl⟩
abbrev main_call0_call0_v35 : Ref sig .tc := ⟨.hbm, 90, rfl⟩
abbrev main_call0_call0_v36 : Ref sig .tc := ⟨.hbm, 91, rfl⟩
abbrev main_call0_call0_v37 : Ref sig .tc := ⟨.hbm, 92, rfl⟩
abbrev main_call0_call0_c_8 : Ref sig .tc := ⟨.hbm, 93, rfl⟩
abbrev main_call0_call0_v38 : Ref sig .tc := ⟨.hbm, 94, rfl⟩
abbrev main_call0_call0_v39 : Ref sig .tc := ⟨.hbm, 95, rfl⟩
abbrev main_call0_call0_v40 : Ref sig .tc := ⟨.hbm, 96, rfl⟩
abbrev main_call0_call0_c_9 : Ref sig .tc := ⟨.hbm, 97, rfl⟩
abbrev main_call0_call0_v41 : Ref sig .tc := ⟨.hbm, 98, rfl⟩
abbrev main_call0_call0_v42 : Ref sig .tc := ⟨.hbm, 99, rfl⟩
abbrev main_call0_call0_c_10 : Ref sig .tc := ⟨.hbm, 100, rfl⟩
abbrev main_call0_call0_v43 : Ref sig .tc := ⟨.hbm, 101, rfl⟩
abbrev main_call0_call0_v44 : Ref sig .tc := ⟨.hbm, 102, rfl⟩
abbrev main_call0_call0_v45 : Ref sig .tc := ⟨.hbm, 103, rfl⟩
abbrev main_call0_call0_v46 : Ref sig .tc := ⟨.hbm, 104, rfl⟩
abbrev main_call0_call0_v47 : Ref sig .tc := ⟨.hbm, 105, rfl⟩
abbrev main_call0_call0_c_11 : Ref sig .tc := ⟨.hbm, 106, rfl⟩
abbrev main_call0_call0_v48 : Ref sig .tc := ⟨.hbm, 107, rfl⟩
abbrev main_call0_call0_v49 : Ref sig .tc := ⟨.hbm, 108, rfl⟩
abbrev main_call0_call0_c_12 : Ref sig .tc := ⟨.hbm, 109, rfl⟩
abbrev main_call0_call0_v50 : Ref sig .tc := ⟨.hbm, 110, rfl⟩
abbrev main_call0_call0_v51 : Ref sig .tc := ⟨.hbm, 111, rfl⟩
abbrev main_call0_call0_v52 : Ref sig .tc := ⟨.hbm, 112, rfl⟩
abbrev main_call0_call0_v53 : Ref sig .tc := ⟨.hbm, 113, rfl⟩
abbrev main_call0_call0_v54 : Ref sig .tc := ⟨.hbm, 114, rfl⟩
abbrev main_call0_call0_c_13 : Ref sig .tc := ⟨.hbm, 115, rfl⟩
abbrev main_call0_call0_v55 : Ref sig .tc := ⟨.hbm, 116, rfl⟩
abbrev main_call0_call0_v56 : Ref sig .tc := ⟨.hbm, 117, rfl⟩
abbrev main_call0_call0_c_14 : Ref sig .tc := ⟨.hbm, 118, rfl⟩
abbrev main_call0_call0_v57 : Ref sig .tc := ⟨.hbm, 119, rfl⟩
abbrev main_call0_call0_v58 : Ref sig .tc := ⟨.hbm, 120, rfl⟩
abbrev main_call0_call0_v59 : Ref sig .tc := ⟨.hbm, 121, rfl⟩
abbrev main_call0_call0_v60 : Ref sig .tc := ⟨.hbm, 122, rfl⟩
abbrev main_call0_call0_v61 : Ref sig .tc := ⟨.hbm, 123, rfl⟩
abbrev main_call0_call0_c_15 : Ref sig .tc := ⟨.hbm, 124, rfl⟩
abbrev main_call0_call0_v62 : Ref sig .tc := ⟨.hbm, 125, rfl⟩
abbrev main_call0_call0_v63 : Ref sig .tc := ⟨.hbm, 126, rfl⟩
abbrev main_call0_call0_c_16 : Ref sig .tc := ⟨.hbm, 127, rfl⟩
abbrev main_call0_call0_v64 : Ref sig .tc := ⟨.hbm, 128, rfl⟩
abbrev main_call0_call0_v65 : Ref sig .tc := ⟨.hbm, 129, rfl⟩
abbrev main_call0_call0_v66 : Ref sig .tc := ⟨.hbm, 130, rfl⟩
abbrev main_call0_call0_v67 : Ref sig .tc := ⟨.hbm, 131, rfl⟩
abbrev main_call0_call0_v68 : Ref sig .tc := ⟨.hbm, 132, rfl⟩
abbrev main_call0_call0_v69 : Ref sig .tc := ⟨.hbm, 133, rfl⟩
abbrev main_call0_call0_v70 : Ref sig .tc := ⟨.hbm, 134, rfl⟩
abbrev main_call0_call0_v71 : Ref sig .tc := ⟨.hbm, 135, rfl⟩
abbrev main_call0_call0_c_17 : Ref sig .tc := ⟨.hbm, 136, rfl⟩
abbrev main_call0_call0_v72 : Ref sig .tc := ⟨.hbm, 137, rfl⟩
abbrev main_call0_call0_v73 : Ref sig .tc := ⟨.hbm, 138, rfl⟩
abbrev main_call0_call0_v74 : Ref sig .tc := ⟨.hbm, 139, rfl⟩
abbrev main_call0_call0_c_18 : Ref sig .tc := ⟨.hbm, 140, rfl⟩
abbrev main_call0_call0_v75 : Ref sig .tc := ⟨.hbm, 141, rfl⟩
abbrev main_call0_call0_v76 : Ref sig .tc := ⟨.hbm, 142, rfl⟩
abbrev main_call0_call0_c_19 : Ref sig .tc := ⟨.hbm, 143, rfl⟩
abbrev main_call0_call0_v77 : Ref sig .tc := ⟨.hbm, 144, rfl⟩
abbrev main_call0_call0_v78 : Ref sig .tc := ⟨.hbm, 145, rfl⟩
abbrev main_call0_call0_v79 : Ref sig .tc := ⟨.hbm, 146, rfl⟩
abbrev main_call0_call0_v80 : Ref sig .tc := ⟨.hbm, 147, rfl⟩
abbrev main_call0_call0_v81 : Ref sig .tc := ⟨.hbm, 148, rfl⟩
abbrev main_call0_call0_c_20 : Ref sig .tc := ⟨.hbm, 149, rfl⟩
abbrev main_call0_call0_v82 : Ref sig .tc := ⟨.hbm, 150, rfl⟩
abbrev main_call0_call0_v83 : Ref sig .tc := ⟨.hbm, 151, rfl⟩
abbrev main_call0_call0_c_21 : Ref sig .tc := ⟨.hbm, 152, rfl⟩
abbrev main_call0_call0_v84 : Ref sig .tc := ⟨.hbm, 153, rfl⟩
abbrev main_call0_call0_v85 : Ref sig .tc := ⟨.hbm, 154, rfl⟩
abbrev main_call0_call0_v86 : Ref sig .tc := ⟨.hbm, 155, rfl⟩
abbrev main_call0_call0_v87 : Ref sig .tc := ⟨.hbm, 156, rfl⟩
abbrev main_call0_call0_v88 : Ref sig .tc := ⟨.hbm, 157, rfl⟩
abbrev main_call0_call0_c_22 : Ref sig .tc := ⟨.hbm, 158, rfl⟩
abbrev main_call0_call0_v89 : Ref sig .tc := ⟨.hbm, 159, rfl⟩
abbrev main_call0_call0_v90 : Ref sig .tc := ⟨.hbm, 160, rfl⟩
abbrev main_call0_call0_c_23 : Ref sig .tc := ⟨.hbm, 161, rfl⟩
abbrev main_call0_call0_v91 : Ref sig .tc := ⟨.hbm, 162, rfl⟩
abbrev main_call0_call0_v92 : Ref sig .tc := ⟨.hbm, 163, rfl⟩
abbrev main_call0_call0_v93 : Ref sig .tc := ⟨.hbm, 164, rfl⟩
abbrev main_call0_call0_v94 : Ref sig .tc := ⟨.hbm, 165, rfl⟩
abbrev main_call0_call0_v95 : Ref sig .tc := ⟨.hbm, 166, rfl⟩
abbrev main_call0_call0_c_24 : Ref sig .tc := ⟨.hbm, 167, rfl⟩
abbrev main_call0_call0_v96 : Ref sig .tc := ⟨.hbm, 168, rfl⟩
abbrev main_call0_call0_v97 : Ref sig .tc := ⟨.hbm, 169, rfl⟩
abbrev main_call0_call0_c_25 : Ref sig .tc := ⟨.hbm, 170, rfl⟩
abbrev main_call0_call0_v98 : Ref sig .tc := ⟨.hbm, 171, rfl⟩
abbrev main_call0_call0_v99 : Ref sig .tc := ⟨.hbm, 172, rfl⟩
abbrev main_call0_call0_v100 : Ref sig .tc := ⟨.hbm, 173, rfl⟩
abbrev main_call0_call0_v101 : Ref sig .tc := ⟨.hbm, 174, rfl⟩
abbrev main_call0_call0_v102 : Ref sig .tc := ⟨.hbm, 175, rfl⟩
abbrev main_call0_call0_v103 : Ref sig .tc := ⟨.hbm, 176, rfl⟩
abbrev main_call0_call0_v104 : Ref sig .tc := ⟨.hbm, 177, rfl⟩
abbrev main_call0_call0_v105 : Ref sig .tc := ⟨.hbm, 178, rfl⟩
abbrev main_call0_call0_c_26 : Ref sig .tc := ⟨.hbm, 179, rfl⟩
abbrev main_call0_call0_v106 : Ref sig .tc := ⟨.hbm, 180, rfl⟩
abbrev main_call0_call0_v107 : Ref sig .tc := ⟨.hbm, 181, rfl⟩
abbrev main_call0_call0_v108 : Ref sig .tc := ⟨.hbm, 182, rfl⟩
abbrev main_call0_call0_c_27 : Ref sig .tc := ⟨.hbm, 183, rfl⟩
abbrev main_call0_call0_v109 : Ref sig .tc := ⟨.hbm, 184, rfl⟩
abbrev main_call0_call0_v110 : Ref sig .tc := ⟨.hbm, 185, rfl⟩
abbrev main_call0_call0_c_28 : Ref sig .tc := ⟨.hbm, 186, rfl⟩
abbrev main_call0_call0_v111 : Ref sig .tc := ⟨.hbm, 187, rfl⟩
abbrev main_call0_call0_v112 : Ref sig .tc := ⟨.hbm, 188, rfl⟩
abbrev main_call0_call0_v113 : Ref sig .tc := ⟨.hbm, 189, rfl⟩
abbrev main_call0_call0_v114 : Ref sig .tc := ⟨.hbm, 190, rfl⟩
abbrev main_call0_call0_v115 : Ref sig .tc := ⟨.hbm, 191, rfl⟩
abbrev main_call0_call0_c_29 : Ref sig .tc := ⟨.hbm, 192, rfl⟩
abbrev main_call0_call0_v116 : Ref sig .tc := ⟨.hbm, 193, rfl⟩
abbrev main_call0_call0_v117 : Ref sig .tc := ⟨.hbm, 194, rfl⟩
abbrev main_call0_call0_c_30 : Ref sig .tc := ⟨.hbm, 195, rfl⟩
abbrev main_call0_call0_v118 : Ref sig .tc := ⟨.hbm, 196, rfl⟩
abbrev main_call0_call0_v119 : Ref sig .tc := ⟨.hbm, 197, rfl⟩
abbrev main_call0_call0_v120 : Ref sig .tc := ⟨.hbm, 198, rfl⟩
abbrev main_call0_call0_v121 : Ref sig .tc := ⟨.hbm, 199, rfl⟩
abbrev main_call0_call0_v122 : Ref sig .tc := ⟨.hbm, 200, rfl⟩
abbrev main_call0_call0_c_31 : Ref sig .tc := ⟨.hbm, 201, rfl⟩
abbrev main_call0_call0_v123 : Ref sig .tc := ⟨.hbm, 202, rfl⟩
abbrev main_call0_call0_v124 : Ref sig .tc := ⟨.hbm, 203, rfl⟩
abbrev main_call0_call0_c_32 : Ref sig .tc := ⟨.hbm, 204, rfl⟩
abbrev main_call0_call0_v125 : Ref sig .tc := ⟨.hbm, 205, rfl⟩
abbrev main_call0_call0_v126 : Ref sig .tc := ⟨.hbm, 206, rfl⟩
abbrev main_call0_call0_v127 : Ref sig .tc := ⟨.hbm, 207, rfl⟩
abbrev main_call0_call0_v128 : Ref sig .tc := ⟨.hbm, 208, rfl⟩
abbrev main_call0_call0_v129 : Ref sig .tc := ⟨.hbm, 209, rfl⟩
abbrev main_call0_call0_c_33 : Ref sig .tc := ⟨.hbm, 210, rfl⟩
abbrev main_call0_call0_v130 : Ref sig .tc := ⟨.hbm, 211, rfl⟩
abbrev main_call0_call0_v131 : Ref sig .tc := ⟨.hbm, 212, rfl⟩
abbrev main_call0_call0_c_34 : Ref sig .tc := ⟨.hbm, 213, rfl⟩
abbrev main_call0_call0_v132 : Ref sig .tc := ⟨.hbm, 214, rfl⟩
abbrev main_call0_call0_v133 : Ref sig .tc := ⟨.hbm, 215, rfl⟩
abbrev main_call0_call0_v134 : Ref sig .tc := ⟨.hbm, 216, rfl⟩
abbrev main_call0_call0_v135 : Ref sig .tc := ⟨.hbm, 217, rfl⟩
abbrev main_call0_call0_v136 : Ref sig .tc := ⟨.hbm, 218, rfl⟩
abbrev main_call0_call0_v137 : Ref sig .tc := ⟨.hbm, 219, rfl⟩
abbrev main_call0_call0_v138 : Ref sig .tc := ⟨.hbm, 220, rfl⟩
abbrev main_call0_call0_v139 : Ref sig .tc := ⟨.hbm, 221, rfl⟩
abbrev main_call0_call0_c_35 : Ref sig .tc := ⟨.hbm, 222, rfl⟩
abbrev main_call0_call0_v140 : Ref sig .tc := ⟨.hbm, 223, rfl⟩
abbrev main_call0_call0_v141 : Ref sig .tc := ⟨.hbm, 224, rfl⟩
abbrev main_call0_call0_v142 : Ref sig .tc := ⟨.hbm, 225, rfl⟩
abbrev main_call0_call0_c_36 : Ref sig .tc := ⟨.hbm, 226, rfl⟩
abbrev main_call0_call0_v143 : Ref sig .tc := ⟨.hbm, 227, rfl⟩
abbrev main_call0_call0_v144 : Ref sig .tc := ⟨.hbm, 228, rfl⟩
abbrev main_call0_call0_c_37 : Ref sig .tc := ⟨.hbm, 229, rfl⟩
abbrev main_call0_call0_v145 : Ref sig .tc := ⟨.hbm, 230, rfl⟩
abbrev main_call0_call0_v146 : Ref sig .tc := ⟨.hbm, 231, rfl⟩
abbrev main_call0_call0_v147 : Ref sig .tc := ⟨.hbm, 232, rfl⟩
abbrev main_call0_call0_v148 : Ref sig .tc := ⟨.hbm, 233, rfl⟩
abbrev main_call0_call0_v149 : Ref sig .tc := ⟨.hbm, 234, rfl⟩
abbrev main_call0_call0_c_38 : Ref sig .tc := ⟨.hbm, 235, rfl⟩
abbrev main_call0_call0_v150 : Ref sig .tc := ⟨.hbm, 236, rfl⟩
abbrev main_call0_call0_v151 : Ref sig .tc := ⟨.hbm, 237, rfl⟩
abbrev main_call0_call0_c_39 : Ref sig .tc := ⟨.hbm, 238, rfl⟩
abbrev main_call0_call0_v152 : Ref sig .tc := ⟨.hbm, 239, rfl⟩
abbrev main_call0_call0_v153 : Ref sig .tc := ⟨.hbm, 240, rfl⟩
abbrev main_call0_call0_v154 : Ref sig .tc := ⟨.hbm, 241, rfl⟩
abbrev main_call0_call0_v155 : Ref sig .tc := ⟨.hbm, 242, rfl⟩
abbrev main_call0_call0_v156 : Ref sig .tc := ⟨.hbm, 243, rfl⟩
abbrev main_call0_call0_c_40 : Ref sig .tc := ⟨.hbm, 244, rfl⟩
abbrev main_call0_call0_v157 : Ref sig .tc := ⟨.hbm, 245, rfl⟩
abbrev main_call0_call0_v158 : Ref sig .tc := ⟨.hbm, 246, rfl⟩
abbrev main_call0_call0_c_41 : Ref sig .tc := ⟨.hbm, 247, rfl⟩
abbrev main_call0_call0_v159 : Ref sig .tc := ⟨.hbm, 248, rfl⟩
abbrev main_call0_call0_v160 : Ref sig .tc := ⟨.hbm, 249, rfl⟩
abbrev main_call0_call0_v161 : Ref sig .tc := ⟨.hbm, 250, rfl⟩
abbrev main_call0_call0_v162 : Ref sig .tc := ⟨.hbm, 251, rfl⟩
abbrev main_call0_call0_v163 : Ref sig .tc := ⟨.hbm, 252, rfl⟩
abbrev main_call0_call0_c_42 : Ref sig .tc := ⟨.hbm, 253, rfl⟩
abbrev main_call0_call0_v164 : Ref sig .tc := ⟨.hbm, 254, rfl⟩
abbrev main_call0_call0_v165 : Ref sig .tc := ⟨.hbm, 255, rfl⟩
abbrev main_call0_call0_c_43 : Ref sig .tc := ⟨.hbm, 256, rfl⟩
abbrev main_call0_call0_v166 : Ref sig .tc := ⟨.hbm, 257, rfl⟩
abbrev main_call0_call0_v167 : Ref sig .tc := ⟨.hbm, 258, rfl⟩
abbrev main_call0_call0_v168 : Ref sig .tc := ⟨.hbm, 259, rfl⟩
abbrev main_call0_call0_v169 : Ref sig .tc := ⟨.hbm, 260, rfl⟩
abbrev main_call0_call0_v170 : Ref sig .tc := ⟨.hbm, 261, rfl⟩
abbrev main_call0_v27_0 : Ref sig .tc := ⟨.hbm, 262, rfl⟩
abbrev main_call0_call0_v172 : Ref sig .tc := ⟨.hbm, 263, rfl⟩
abbrev main_call0_call0_v173 : Ref sig .tc := ⟨.hbm, 264, rfl⟩
abbrev main_call0_call0_c_44 : Ref sig .tc := ⟨.hbm, 265, rfl⟩
abbrev main_call0_call0_v174 : Ref sig .tc := ⟨.hbm, 266, rfl⟩
abbrev main_call0_v27_1 : Ref sig .tc := ⟨.hbm, 267, rfl⟩
abbrev main_call0_v28 : Ref sig .tc := ⟨.hbm, 268, rfl⟩
abbrev main_call0_c_4 : Ref sig .tc := ⟨.hbm, 269, rfl⟩
abbrev main_call0_v29 : Ref sig .tc := ⟨.hbm, 270, rfl⟩
abbrev main_call0_v30 : Ref sig .tc := ⟨.hbm, 271, rfl⟩
abbrev main_call0_c_5 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_call0_cst : Ref sig .tc := ⟨.hbm, 276, rfl⟩
abbrev main_call0_v34 : Ref sig .tc := ⟨.hbm, 277, rfl⟩
abbrev main_call0_v35 : Ref sig .tc := ⟨.hbm, 278, rfl⟩
abbrev main_call0_v36 : Ref sig .tc := ⟨.hbm, 279, rfl⟩
abbrev main_call0_v37 : Ref sig .tc := ⟨.hbm, 280, rfl⟩
abbrev main_call0_v38 : Ref sig .tc := ⟨.hbm, 281, rfl⟩
abbrev main_call0_v39 : Ref sig .tc := ⟨.hbm, 282, rfl⟩
abbrev main_call0_v40 : Ref sig .tc := ⟨.hbm, 283, rfl⟩
abbrev main_call0_v41 : Ref sig .tc := ⟨.hbm, 284, rfl⟩
abbrev main_v7 : Ref sig .tc := ⟨.hbm, 285, rfl⟩
abbrev main_v8 : Ref sig .tc := ⟨.hbm, 286, rfl⟩
abbrev main_v9 : Ref sig .tc := ⟨.hbm, 287, rfl⟩
abbrev main_v10 : Ref sig .tc := ⟨.hbm, 288, rfl⟩
abbrev main_cst_3 : Ref sig .tc := ⟨.hbm, 289, rfl⟩
abbrev main_v11 : Ref sig .tc := ⟨.hbm, 290, rfl⟩
abbrev main_v12 : Ref sig .tc := ⟨.hbm, 291, rfl⟩
abbrev main_cst_4 : Ref sig .tc := ⟨.hbm, 292, rfl⟩
abbrev main_cst_5 : Ref sig .tc := ⟨.hbm, 293, rfl⟩
abbrev main_call1_v0 : Ref sig .tc := ⟨.hbm, 294, rfl⟩
abbrev main_call1_v1 : Ref sig .tc := ⟨.hbm, 295, rfl⟩
abbrev main_call1_v2 : Ref sig .tc := ⟨.hbm, 296, rfl⟩
abbrev main_call1_v3 : Ref sig .tc := ⟨.hbm, 297, rfl⟩
abbrev main_call1_v4 : Ref sig .tc := ⟨.hbm, 298, rfl⟩
abbrev main_v13 : Ref sig .tc := ⟨.hbm, 299, rfl⟩
abbrev main_cst_6 : Ref sig .tc := ⟨.hbm, 300, rfl⟩
abbrev main_v14 : Ref sig .tc := ⟨.hbm, 301, rfl⟩
abbrev main_v15 : Ref sig .tc := ⟨.hbm, 302, rfl⟩
abbrev main_cst_7 : Ref sig .tc := ⟨.hbm, 303, rfl⟩
abbrev main_v16 : Ref sig .tc := ⟨.hbm, 304, rfl⟩
abbrev main_v17 : Ref sig .tc := ⟨.hbm, 305, rfl⟩
abbrev main_cst_8 : Ref sig .tc := ⟨.hbm, 306, rfl⟩
abbrev main_v18 : Ref sig .tc := ⟨.hbm, 307, rfl⟩
abbrev main_v19 : Ref sig .tc := ⟨.hbm, 308, rfl⟩
abbrev main_v20 : Ref sig .tc := ⟨.hbm, 309, rfl⟩

abbrev nD : Nat := 1
abbrev τ : Topo := Topo.v7x

variable {F : FTy → Type} [FloatOps F]
-- ==== Proof.Spec.lean ====
/-
  What the mask kernel computes, as plain functions of the grid point, the threshold and the plane number: the
  generator's word at a position, a plane of row minima, a plane of window minima, and the accumulated keep words.
-/
module

public import proofs.«01_k».proof.Proof.Gen.KernelIdeal.Skeleton
public import proofs.«01_k».proof.Proof.Gen.KernelIdeal

@[expose] public section

set_option maxRecDepth 16384

noncomputable section

namespace Cert.KernelIdeal.Spec

open Cert.KernelIdeal Cert.KernelIdeal.Gen
open Idealize.ShloMosaic Idealize.SL.Sem

variable {F : FTy → Type} [FloatOps F]

/-- One mixing round on a pair of words per position: add, rotate left by `r` (`s = 32 - r`), exclusive or. -/
def rnd {S : Shape} (r s : BitVec 32) (v : IVec S 32 × IVec S 32) : IVec S 32 × IVec S 32 :=
  (addi v.1 v.2, xori (addi v.1 v.2) (ori (shli v.2 (broadcast S r)) (shrui v.2 (broadcast S s))))

/-- A key injection: `a` into the first word, `b` into the second. -/
def inj {S : Shape} (a b : BitVec 32) (v : IVec S 32 × IVec S 32) : IVec S 32 × IVec S 32 :=
  (addi v.1 (broadcast S a), addi v.2 (broadcast S b))

/-- The four rounds by 17, 29, 16, 24. -/
def rndsB {S : Shape} (v : IVec S 32 × IVec S 32) : IVec S 32 × IVec S 32 :=
  rnd 24#32 8#32 (rnd 16#32 16#32 (rnd 29#32 3#32 (rnd 17#32 15#32 v)))

/-- The three rounds by 15, 26, 6. -/
def rndsA' {S : Shape} (v : IVec S 32 × IVec S 32) : IVec S 32 × IVec S 32 :=
  rnd 6#32 26#32 (rnd 26#32 6#32 (rnd 15#32 17#32 v))

/-- The four rounds by 13, 15, 26, 6. -/
def rndsA {S : Shape} (v : IVec S 32 × IVec S 32) : IVec S 32 × IVec S 32 :=
  rndsA' (rnd 13#32 19#32 v)

/-- The third key word. -/
abbrev ks2 : BitVec 32 := 466689008#32

theorem key0 : Scalar.muli 0#32 56#32 = 0#32 := rfl
theorem key1 : Scalar.addi 466689008#32 1#32 = 466689009#32 := rfl
theorem key2 : Scalar.addi 0#32 2#32 = 2#32 := rfl
theorem key3 : Scalar.addi 42#32 3#32 = 45#32 := rfl
theorem key4 : Scalar.addi 466689008#32 4#32 = 466689012#32 := rfl
theorem key5 : Scalar.addi 0#32 5#32 = 5#32 := rfl

/-- The generator's word pair, from the word `w` its first round starts at. -/
def mixed {S : Shape} (w : IVec S 32) : IVec S 32 × IVec S 32 :=
  inj ks2 5#32 <| rndsA <| inj 42#32 466689012#32 <| rndsB <| inj 0#32 45#32 <|
    rndsA <| inj ks2 2#32 <| rndsB <| inj 42#32 466689009#32 <| rndsA'
      (w, xori w (ori (shli w (broadcast S 13#32)) (shrui w (broadcast S 19#32))))

/-- The generator's output word. -/
def hash {S : Shape} (w : IVec S 32) : IVec S 32 := xori (mixed w).1 (mixed w).2

/-- The word the first round starts at, plane `p` of grid point `i`: the position's flat index plus the key's low word. -/
def start (i : grid0.Coords) (p : BitVec 32) : IVec S56x384 32 :=
  addi (addi (k0_pay44 i) (broadcast S56x384 (Scalar.muli p 56#32))) (broadcast S56x384 42#32)

/-- The generator's word cut to its upper 23 bits, as a float. -/
def draw (i : grid0.Coords) (p : BitVec 32) : FVec F S56x384 .f32 :=
  sitofp .f32 (shrui (hash (start i p)) (broadcast S56x384 9#32))

/-- The bound put above every draw. -/
def big : FVec F S56x384 .f32 := broadcast S56x384 (Scalar.ofBits (F := F) .f32 0x4B800000#32)

/-- Minimum with the row one before. -/
def min1 (m : FVec F S56x384 .f32) : FVec F S56x384 .f32 :=
  minimumf m (select k0_pay45 big (concatenate S56x384 0
    [⟨S1x384, extractStridedSlice S1x384 ![55, 0] m slices_S56x384_o55_0_S1x384⟩,
     ⟨S55x384, extractStridedSlice S55x384 ![0, 0] m slices_S56x384_o0_0_S55x384⟩] concatenates_S1x384_S55x384_S56x384_d0))

/-- Minimum with the row two before. -/
def min2 (m : FVec F S56x384 .f32) : FVec F S56x384 .f32 :=
  minimumf m (select k0_pay46 big (concatenate S56x384 0
    [⟨S2x384, extractStridedSlice S2x384 ![54, 0] m slices_S56x384_o54_0_S2x384⟩,
     ⟨S54x384, extractStridedSlice S54x384 ![0, 0] m slices_S56x384_o0_0_S54x384⟩] concatenates_S2x384_S54x384_S56x384_d0))

/-- Minimum with the row three before. -/
def min3 (m : FVec F S56x384 .f32) : FVec F S56x384 .f32 :=
  minimumf m (select k0_pay47 big (concatenate S56x384 0
    [⟨S3x384, extractStridedSlice S3x384 ![53, 0] m slices_S56x384_o53_0_S3x384⟩,
     ⟨S53x384, extractStridedSlice S53x384 ![0, 0] m slices_S56x384_o0_0_S53x384⟩] concatenates_S3x384_S53x384_S56x384_d0))

/-- Plane `p` of row minima: the least draw of the last seven rows. -/
def rowMin (i : grid0.Coords) (p : ℕ) : FVec F S56x384 .f32 := min3 (min2 (min1 (draw i (BitVec.ofNat 32 p))))

/-- The least of two planes of row minima. -/
def twoMin (i : grid0.Coords) (p : ℕ) : FVec F S56x384 .f32 := minimumf (rowMin i p) (rowMin i (p - 1))

/-- The running minimum over the first planes. -/
def runMin (i : grid0.Coords) : ℕ → FVec F S56x384 .f32
  | 0 => rowMin i 0
  | p + 1 => minimumf (runMin i p) (rowMin i (p + 1))

/-- Plane `p` of window minima. -/
def winMin (i : grid0.Coords) (p : ℕ) : FVec F S56x384 .f32 :=
  if p < 6 then runMin i p
  else minimumf (minimumf (minimumf (twoMin i p) (twoMin i (p - 2))) (twoMin i (p - 4))) (rowMin i (p - 6))

/-- Where the window minimum reaches the threshold: one, else zero. -/
def keep (i : grid0.Coords) (g : Elt F .f32) (p : ℕ) : IVec S56x384 32 :=
  extui 32 (cmpf .oge (winMin i p) (broadcast S56x384 g)) natLt_1_32

/-- The number of kept planes before plane `p`. -/
def count (i : grid0.Coords) (g : Elt F .f32) : ℕ → IVec S56x384 32
  | 0 => broadcast S56x384 0#32
  | p + 1 => addi (count i g p) (keep i g p)

/-- The kept planes of the first 32 before plane `p`, a bit each. -/
def low (i : grid0.Coords) (g : Elt F .f32) : ℕ → IVec S56x384 32
  | 0 => broadcast S56x384 0#32
  | p + 1 => if p < 32 then ori (low i g p) (shli (keep i g p) (broadcast S56x384 (BitVec.ofNat 32 (p % 32)))) else low i g p

/-- The kept planes from the 32nd on before plane `p`, a bit each. -/
def high (i : grid0.Coords) (g : Elt F .f32) : ℕ → IVec S56x384 32
  | 0 => broadcast S56x384 0#32
  | p + 1 => if p < 32 then high i g p else ori (high i g p) (shli (keep i g p) (broadcast S56x384 (BitVec.ofNat 32 (p % 32))))

end Cert.KernelIdeal.Spec

end
-- ==== Proof.Trip.lean ====
module

public import proofs.«01_k».proof.Proof.Spec
public import proofs.«01_k».proof.Proof.Gen.KernelIdeal.Launch
public import proofs.«01_k».proof.Proof.Gen.KernelIdeal.Loops
public import proofs.«01_k».proof.Proof.Gen.KernelIdeal.Points
public import Idealize.ShloMosaic.Lib.VecWindow
import Idealize.ShloMosaic.Lib.Pipeline.Value
public import Idealize.ShloMosaic.Lib.Tactic

@[expose] public section

set_option maxRecDepth 16384

noncomputable section

namespace Cert.KernelIdeal.Spec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- The scratch buffers. -/
abbrev rbufM : Memref sig .tc .vmem S8x56x384 .f32 := Memref.whole cc0_scratch0
abbrev sbufM : Memref sig .tc .vmem S8x56x384 .f32 := Memref.whole cc0_scratch1
abbrev lowM : Memref sig .tc .vmem S56x384 .i32 := Memref.whole cc0_scratch2
abbrev highM : Memref sig .tc .vmem S56x384 .i32 := Memref.whole cc0_scratch3
abbrev accM : Memref sig .tc .vmem S56x384 .i32 := Memref.whole cc0_scratch4

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable (c : Dev nD) (i : grid0.Coords)
  (arg1 : Memref sig .tc .smem S1x1 .f32) (harg1 : arg1.IsWhole)
  (arg2 : Memref sig .tc .vmem S1x2x2x56x192 .i32) (harg2 : arg2.IsWhole)
  (arg3 : Memref sig .tc .smem S1x1 .i32) (harg3 : arg3.IsWhole)

theorem slotInb (q : ℕ) : ∀ a, (![q % 8, 0, 0] : Fin 3 → ℕ) a + S1x56x384.size a ≤ S8x56x384.size a := by
  have : q % 8 < 8 := Nat.mod_lt _ (by decide)
  intro a
  fin_cases a
  · show q % 8 + 1 ≤ 8; omega
  · show 0 + 56 ≤ 56; omega
  · show 0 + 384 ≤ 384; omega

/-- Ring slot `q % 8` of a buffer of eight planes. -/
def slot (x : S8x56x384.Idx → F .f32) (q : ℕ) : S1x56x384.Idx → F .f32 :=
  VecWindow.window x ![q % 8, 0, 0] S1x56x384.size (slotInb q)

/-- A plane as a slot's contents. -/
abbrev asSlot (v : FVec F S56x384 .f32) : FVec F S1x56x384 .f32 := shapeCast S1x56x384 v shapeCasts_S56x384_S1x56x384

/-- What the scratch buffers hold before plane `p`: the last six planes of row minima and the last five of pairwise
    minima in their ring slots, the keep bits and the keep counts of the planes before `p`. -/
structure State (i : grid0.Coords) (g : Elt F .f32) (p : ℕ) (xr xs : S8x56x384.Idx → F .f32) (xl xh xa : IVec S56x384 32) : Prop where
  rows : ∀ q, p ≤ q + 6 → q < p → slot xr q = asSlot (rowMin i q)
  twos : ∀ q, p ≤ q + 5 → q < p → 1 ≤ q → slot xs q = asSlot (twoMin i q)
  low : xl = low i g p
  high : xh = high i g p
  acc : xa = count i g p

/-- Plane `p` put over its slot leaves the other live slots. -/
theorem slot_put (x : S8x56x384.Idx → F .f32) (p q : ℕ) (h : p < q + 8) (h' : q < p) (w : S1x56x384.Idx → F .f32) :
    slot (VecWindow.put x ![p % 8, 0, 0] S1x56x384.size w) q = slot x q := by
  refine VecWindow.window_put_of_disjoint x _ _ _ _ _ w 0 ?_
  show q % 8 + 1 ≤ p % 8 ∨ p % 8 + 1 ≤ q % 8
  omega

theorem slot_put_same (x : S8x56x384.Idx → F .f32) (p : ℕ) (w : S1x56x384.Idx → F .f32) :
    slot (VecWindow.put x ![p % 8, 0, 0] S1x56x384.size w) p = w :=
  VecWindow.window_put_same x _ _ (slotInb p) w

/-- Plane `p` done: the state before the next one. -/
theorem State.next {i : grid0.Coords} {g : Elt F .f32} {p : ℕ} {xr xs : S8x56x384.Idx → F .f32} {xl xh xa : IVec S56x384 32}
    (h : State i g p xr xs xl xh xa) {xr' xs' : S8x56x384.Idx → F .f32} {xl' xh' xa' : IVec S56x384 32}
    (hr : xr' = VecWindow.put xr ![p % 8, 0, 0] S1x56x384.size (asSlot (rowMin i p)))
    (hs : 1 ≤ p → xs' = VecWindow.put xs ![p % 8, 0, 0] S1x56x384.size (asSlot (twoMin i p)))
    (hl : xl' = Spec.low i g (p + 1)) (hh : xh' = Spec.high i g (p + 1)) (ha : xa' = count i g (p + 1)) :
    State i g (p + 1) xr' xs' xl' xh' xa' where
  rows q h1 h2 := by
    subst hr
    rcases Nat.lt_or_ge q p with hq | hq
    · rw [slot_put _ _ _ (by omega) hq]; exact h.rows q (by omega) hq
    · obtain rfl : q = p := by omega
      rw [slot_put_same]
  twos q h1 h2 h3 := by
    rw [hs (by omega)]
    rcases Nat.lt_or_ge q p with hq | hq
    · rw [slot_put _ _ _ (by omega) hq]; exact h.twos q (by omega) hq h3
    · obtain rfl : q = p := by omega
      rw [slot_put_same]
  low := hl
  high := hh
  acc := ha

theorem iv_eq : ∀ k : Fin k0_t1_loop.trips, Scf.iv 6#32 1#32 k.val = BitVec.ofNat 32 (6 + k.val) := by decide +kernel
theorem off2_eq : ∀ k : Fin k0_t1_loop.trips, k0_off2 k = ![(6 + k.val) % 8, 0, 0] := by decide +kernel
theorem off1_1 : ∀ k : Fin k0_t1_loop.trips, k0_off1 k 1#32 = ![(6 + k.val - 1) % 8, 0, 0] := by decide +kernel
theorem off1_2 : ∀ k : Fin k0_t1_loop.trips, k0_off1 k 2#32 = ![(6 + k.val - 2) % 8, 0, 0] := by decide +kernel
theorem off1_4 : ∀ k : Fin k0_t1_loop.trips, k0_off1 k 4#32 = ![(6 + k.val - 4) % 8, 0, 0] := by decide +kernel
theorem off1_6 : ∀ k : Fin k0_t1_loop.trips, k0_off1 k 6#32 = ![(6 + k.val - 6) % 8, 0, 0] := by decide +kernel
/-- The shift of a plane's keep bit in its word. -/
theorem shift_eq : ∀ k : Fin k0_t1_loop.trips, Scalar.andi (Scf.iv 6#32 1#32 k.val) 31#32 = BitVec.ofNat 32 ((6 + k.val) % 32) := by decide +kernel
theorem cond_lt : ∀ k : Fin k0_t1_loop.trips,
    Scalar.cmpi .ne (Scalar.extui (Scalar.cmpi .slt (Scf.iv 6#32 1#32 k.val) 32#32)) 0#32 = 1#1 ↔ 6 + k.val < 32 := by decide +kernel
theorem cond_ge : ∀ k : Fin k0_t1_loop.trips,
    Scalar.cmpi .ne (Scalar.extui (Scalar.cmpi .sge (Scf.iv 6#32 1#32 k.val) 32#32)) 0#32 = 1#1 ↔ ¬ 6 + k.val < 32 := by decide +kernel

theorem slot_cast (x : S8x56x384.Idx → F .f32) (q : ℕ) (v : FVec F S56x384 .f32) (h : slot x q = asSlot v) :
    shapeCast S56x384 (slot x q) shapeCasts_S1x56x384_S56x384 = v := by
  rw [h]; exact shapeCast_shapeCast _ _ _

/-- The generator's last rounds and the first of the row minima. -/
theorem lastRounds (a b : IVec S56x384 32) :
    k0_pay38 (F := F) k0_pay45 (Scalar.ofBits .f32 0x4B800000#32) ks2 a b (broadcast S56x384 42#32)
      = min1 (sitofp .f32 (shrui (xori (inj ks2 5#32 (rndsA (inj 42#32 466689012#32 (a, b)))).1 (inj ks2 5#32 (rndsA (inj 42#32 466689012#32 (a, b)))).2)
          (broadcast S56x384 9#32))) := by
  unfold k0_pay38
  generalize hm : (inj ks2 5#32 (rndsA (inj 42#32 466689012#32 (a, b)))) = m
  simp only [rndsA, rndsA', rnd, inj, key4, key5] at hm ⊢
  subst hm
  rfl

set_option backward.isDefEq.respectTransparency.types false in
/-- One trip of the plane loop. -/
theorem trip (g : Elt F .f32) (v1094 v1302 : FVec F S56x384 .f32) (k : Fin k0_t1_loop.trips)
    (fr : Bf (F := F) c rbufM) (fs : Bf (F := F) c sbufM) (fl : Bf (F := F) c lowM) (fh : Bf (F := F) c highM) (fa : Bf (F := F) c accM)
    (h : State i g (6 + k.val) (rbufM.view.read (Elt F) fr) (sbufM.view.read (Elt F) fs) (lowM.view.read (Elt F) fl)
      (highM.view.read (Elt F) fh) (accM.view.read (Elt F) fa)) :
    iprop(pt c rbufM fr ∗ pt c sbufM fs ∗ pt c lowM fl ∗ pt c highM fh ∗ pt c accM fa)
    ⊢ wp frame (wpE defs₀ 𝒱₀ (c : Thread nD τ) none) Set.univ
      (k0_t1_body (F := F) i arg1 harg1 arg2 harg2 arg3 harg3 rbufM (Memref.isWhole_whole _) sbufM (Memref.isWhole_whole _) lowM (Memref.isWhole_whole _)
        highM (Memref.isWhole_whole _) accM (Memref.isWhole_whole _) g (k0_pay44 i) k0_pay45 k0_pay46 k0_pay47 v1094 v1302 (Scalar.ofBits .f32 0x4B800000#32) k ())
      (fun _ => iprop(∃ fr' fs' fl' fh' fa', ⌜State i g (6 + k.val + 1) (rbufM.view.read (Elt F) fr') (sbufM.view.read (Elt F) fs')
          (lowM.view.read (Elt F) fl') (highM.view.read (Elt F) fh') (accM.view.read (Elt F) fa')⌝
        ∗ pt c rbufM fr' ∗ pt c sbufM fs' ∗ pt c lowM fl' ∗ pt c highM fh' ∗ pt c accM fa')) := by
  unfold k0_t1_body
  iintro ⟨Hr, Hs, Hl, Hh, Ha⟩
  sl_exec
  sl_step
  iexists _, _, _, _, _
  isplitr
  swap
  · isplitl [Hr]; · iexact Hr
    isplitl [Hs]; · iexact Hs
    isplitl [Hl]; · iexact Hl
    isplitl [Hh]; · iexact Hh
    iexact Ha
  ipureintro
  have hr : trip.sl.r i k = min1 (F := F) (draw i (BitVec.ofNat 32 (6 + k.val))) := by
    refine (lastRounds _ _).trans (congrArg (fun v => min1 (sitofp .f32 (shrui v (broadcast S56x384 9#32)))) ?_)
    delta trip.sl.arg9 trip.sl.v1356 trip.sl.v1357 trip.sl.v1358 trip.sl.v1361 trip.sl.v1362 trip.sl.v1363
      trip.sl.v1364 trip.sl.v1365 trip.sl.v1366 trip.sl.v1367 trip.sl.v1368 trip.sl.v1369 trip.sl.v1370 trip.sl.v1371
      trip.sl.v1372 trip.sl.v1373 trip.sl.v1374 trip.sl.v1375 trip.sl.v1376 trip.sl.v1377 trip.sl.v1378 trip.sl.v1379
      trip.sl.v1380 trip.sl.v1381 trip.sl.v1382 trip.sl.v1383 trip.sl.v1385 trip.sl.v1387 trip.sl.v1388 trip.sl.v1389
      trip.sl.v1391 trip.sl.v1393 trip.sl.v1394 trip.sl.v1395 trip.sl.v1397 trip.sl.v1399 trip.sl.v1400 trip.sl.v1401
      trip.sl.v1402 trip.sl.v1403 trip.sl.v1404 trip.sl.v1405 trip.sl.v1406 trip.sl.v1407 trip.sl.v1408 trip.sl.v1409
      trip.sl.v1410 trip.sl.v1411 trip.sl.v1413 trip.sl.v1414 trip.sl.v1415 trip.sl.v1416 trip.sl.v1417 trip.sl.v1418
      trip.sl.v1419 trip.sl.v1420 trip.sl.v1421 trip.sl.v1422 trip.sl.v1423 trip.sl.v1424 trip.sl.v1426 trip.sl.v1427
      trip.sl.v1428 trip.sl.v1430 trip.sl.v1432 trip.sl.v1433 trip.sl.v1434 trip.sl.v1435 trip.sl.v1437 trip.sl.v1439
      trip.sl.v1440 trip.sl.v1441 trip.sl.v1442 trip.sl.v1444 trip.sl.v1446 trip.sl.v1447 trip.sl.v1448 trip.sl.v1449
      trip.sl.v1451 trip.sl.v1453 trip.sl.v1454 trip.sl.v1455 trip.sl.v1456 trip.sl.v1457 trip.sl.v1459 trip.sl.v1460
      trip.sl.v1461 trip.sl.v1463 trip.sl.v1465 trip.sl.v1466 trip.sl.v1467 trip.sl.v1468 trip.sl.v1470 trip.sl.v1472
      trip.sl.v1473 trip.sl.v1474 trip.sl.v1475 trip.sl.v1477 trip.sl.v1479 trip.sl.v1480 trip.sl.v1481 trip.sl.v1482
      trip.sl.v1484 trip.sl.v1486 trip.sl.v1487 trip.sl.v1488
    simp only [← iv_eq, key1, key2, key3, key4, key5, hash, mixed, rndsA, rndsA', rndsB, rnd, inj, start, ks2]
  have hr1 : trip.sl.r_1 i k = extractStridedSlice S2x384 ![54, 0] (trip.sl.r (F := F) i k) slices_S56x384_o54_0_S2x384 := by
    delta trip.sl.r_1 trip.sl.r; unfold k0_pay39; rfl
  have hrow : k0_pay40 k0_pay46 k0_pay47 (FloatOps.ofBits FTy.f32 1266679808#32) (trip.sl.r i k) (trip.sl.r_1 i k) = rowMin (F := F) i (6 + k.val) := by
    rw [hr1, hr]; rfl
  have htwo : trip.sl.r_2 c i k fr = twoMin i (6 + k.val) := by
    delta trip.sl.r_2
    unfold k0_pay41
    rw [hrow, View.readAt_unit _ _ _ (off1_1 k) (slotInb _)]
    show minimumf _ (shapeCast S56x384 (slot _ _) _) = _
    rw [slot_cast _ _ _ (h.rows _ (by omega) (by omega))]; rfl
  have hwin : trip.sl.r_3 c i k fr fs = winMin i (6 + k.val) := by
    delta trip.sl.r_3
    unfold k0_pay42
    rw [show k0_pay41 _ _ _ _ _ _ = twoMin i (6 + k.val) from htwo, View.readAt_unit _ _ _ (off1_2 k) (slotInb _), View.readAt_unit _ _ _ (off1_4 k) (slotInb _), View.readAt_unit _ _ _ (off1_6 k) (slotInb _)]
    show minimumf (minimumf (minimumf _ (shapeCast S56x384 (slot _ _) _)) (shapeCast S56x384 (slot _ _) _)) (shapeCast S56x384 (slot _ _) _) = _
    rw [slot_cast _ _ _ (h.twos _ (by omega) (by omega) (by omega)), slot_cast _ _ _ (h.twos _ (by omega) (by omega) (by omega)), slot_cast _ _ _ (h.rows _ (by omega) (by omega))]
    unfold winMin
    rw [if_neg (by omega)]
  refine h.next ?_ (fun _ => ?_) ?_ ?_ ?_
  · delta trip.sl.Hr_1
    rw [View.read_writes_cons_put _ _ _ _ _ (off2_eq k), View.writes_nil]
    unfold k0_pay43; rw [hrow]
  · delta trip.sl.Hs_1
    rw [View.read_writes_cons_put _ _ _ _ _ (off2_eq k), View.writes_nil, htwo]
    rfl
  · rw [Spec.low]
    by_cases hk : 6 + k.val < 32
    · have hc : trip.sl.v1596 k = 1#1 := (cond_lt k).mpr hk
      rw [dif_pos hc, if_pos hk, View.read_writes_full, hwin, View.readAt_full, h.low, ← shift_eq k]
      unfold k0_pay324 k0_pay323
      exact shapeCast_self _ _
    · have hc : ¬ trip.sl.v1596 k = 1#1 := fun e => hk ((cond_lt k).mp e)
      rw [dif_neg hc, if_neg hk, h.low]
  · rw [Spec.high]
    by_cases hk : 6 + k.val < 32
    · have hc : ¬ trip.sl.v1599 k = 1#1 := fun e => (cond_ge k).mp e hk
      rw [dif_neg hc, if_pos hk, h.high]
    · have hc : trip.sl.v1599 k = 1#1 := (cond_ge k).mpr hk
      rw [dif_pos hc, if_neg hk, View.read_writes_full, hwin, View.readAt_full, h.high, ← shift_eq k]
      unfold k0_pay325 k0_pay323
      exact shapeCast_self _ _
  · delta trip.sl.Ha_1
    rw [View.read_writes_full, hwin, View.readAt_full, h.acc]
    unfold k0_pay322
    exact shapeCast_self _ _

end Cert.KernelIdeal.Spec

end
-- ==== Proof.Body.lean ====
module

public import proofs.«01_k».proof.Proof.Trip
import Idealize.ShloMosaic.Lib.Pipeline.Value

@[expose] public section

noncomputable section

namespace Cert.KernelIdeal.Spec
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ
variable (c : Dev nD) (i : grid0.Coords)
  (arg1 : Memref sig .tc .smem S1x1 .f32) (harg1 : arg1.IsWhole) (arg2 : Memref sig .tc .vmem S1x2x2x56x192 .i32) (harg2 : arg2.IsWhole)
  (arg3 : Memref sig .tc .smem S1x1 .i32) (harg3 : arg3.IsWhole)

/-- One ring slot stored over. -/
theorem read_slot (M : Memref sig .tc .vmem S8x56x384 .f32) (f : M.view.ty.Contents (Elt F)) (p : ℕ) {off : Fin 3 → ℕ} (h : off = ![p % 8, 0, 0])
    (inb : ∀ a, off a + S1x56x384.size a ≤ S8x56x384.size a) (w : S1x56x384.Idx → F .f32) (L : List (View.Piece (Elt F) S8x56x384 .f32)) :
    M.view.read (Elt F) (M.view.writes (Elt F) f (⟨Rect.unit (s := S8x56x384) off S1x56x384.size inb, w⟩ :: L))
      = VecWindow.put (M.view.read (Elt F) (M.view.writes (Elt F) f L)) ![p % 8, 0, 0] S1x56x384.size w :=
  View.read_writes_cons_put _ _ _ _ _ h

/-- The planes of row minima before plane `p` put over a ring buffer. -/
def rowPuts (x : S8x56x384.Idx → F .f32) : ℕ → S8x56x384.Idx → F .f32
  | 0 => x
  | p + 1 => VecWindow.put (rowPuts x p) ![p % 8, 0, 0] S1x56x384.size (asSlot (rowMin i p))

/-- The planes of pairwise minima before plane `p` put over a ring buffer, from plane 1 on. -/
def twoPuts (x : S8x56x384.Idx → F .f32) : ℕ → S8x56x384.Idx → F .f32
  | 0 => x
  | 1 => x
  | p + 2 => VecWindow.put (twoPuts x (p + 1)) ![(p + 1) % 8, 0, 0] S1x56x384.size (asSlot (twoMin i (p + 1)))

theorem state_zero (g : Elt F .f32) (xr xs : S8x56x384.Idx → F .f32) : State i g 0 xr xs (low i g 0) (high i g 0) (count i g 0) :=
  ⟨fun q _ h => absurd h (Nat.not_lt_zero q), fun q _ h => absurd h (Nat.not_lt_zero q), rfl, rfl, rfl⟩

theorem state_puts (g : Elt F .f32) (xr xs : S8x56x384.Idx → F .f32) :
    ∀ p, State i g p (rowPuts i xr p) (twoPuts i xs p) (low i g p) (high i g p) (count i g p)
  | 0 => state_zero i g xr xs
  | 1 => (state_zero i g xr xs).next rfl (fun h => absurd h (by decide)) rfl rfl rfl
  | p + 2 => (state_puts g xr xs (p + 1)).next rfl (fun _ => rfl) rfl rfl rfl

/-- The row minima of plane `p`, read back right after plane `p + 1`. -/
theorem rowPuts_prev (x : S8x56x384.Idx → F .f32) (p : ℕ) : slot (rowPuts i x (p + 2)) p = asSlot (rowMin i p) := by
  rw [rowPuts, slot_put _ _ _ (by omega) (by omega), rowPuts, slot_put_same]

/-- The plane's keep bits from the running minimum. -/
theorem keep_run (g : Elt F .f32) (p : ℕ) (h : p < 6) : keep i g p = extui 32 (cmpf .oge (runMin i p) (broadcast S56x384 g)) natLt_1_32 := by
  rw [keep, winMin, if_pos h]

theorem firstPoint : ∀ i : grid0.Coords, Scalar.cmpi .ne (Scalar.extui (Scalar.cmpi .eq (BitVec.ofNat 32 (i 0).val) 0#32)) 0#32 = 1#1 ↔ (i 0).val = 0 := by
  decide +kernel

theorem oneWord (j j' : S1x1.Idx) : j = j' := by
  funext a
  fin_cases a <;> exact Subsingleton.elim (α := Fin 1) _ _

theorem count_run (g : Elt F .f32) (p : ℕ) (h : p < 6) :
    count i g (p + 1) = addi (count i g p) (extui 32 (cmpf .oge (runMin i p) (broadcast S56x384 g)) natLt_1_32) := by
  rw [count, keep_run i g p h]

theorem low_run (g : Elt F .f32) (p : ℕ) (h : p < 6) : Spec.low i g (p + 1)
    = ori (Spec.low i g p) (shli (extui 32 (cmpf .oge (runMin i p) (broadcast S56x384 g)) natLt_1_32) (broadcast S56x384 (BitVec.ofNat 32 p))) := by
  rw [Spec.low, if_pos (by omega), keep_run i g p h, Nat.mod_eq_of_lt (by omega)]

/-- The kept positions of one point. -/
def tally (i : grid0.Coords) (g : Elt F .f32) : BitVec 32 := extractAt ![0, 0, 0] (k0_pay2 (F := F) (count i g 56)) inpos_S1x1x1_p0_0_0

/-- The block of packed bits of one point: image, half, row, channel. -/
def packed (i : grid0.Coords) (g : Elt F .f32) (x : S1x2x2x56x192.Idx → BitVec 32) : S1x2x2x56x192.Idx → BitVec 32 :=
  VecWindow.put (VecWindow.put (VecWindow.put (VecWindow.put x
    ![0, 0, 0, 0, 0] S1x1x1x56x192.size (k0_pay326 (F := F) (VecWindow.window (low i g 56) ![0, 0] S56x192.size inb_S56x384_S56x192_0_0)))
    ![0, 0, 1, 0, 0] S1x1x1x56x192.size (k0_pay327 (F := F) (VecWindow.window (high i g 56) ![0, 0] S56x192.size inb_S56x384_S56x192_0_0)))
    ![0, 1, 0, 0, 0] S1x1x1x56x192.size (k0_pay328 (F := F) (VecWindow.window (low i g 56) ![0, 192] S56x192.size inb_S56x384_S56x192_0_192)))
    ![0, 1, 1, 0, 0] S1x1x1x56x192.size (k0_pay1 (F := F) (VecWindow.window (high i g 56) ![0, 192] S56x192.size inb_S56x384_S56x192_0_192))

/-- Before trip `k` of the plane loop: the scratch buffers at the state of plane `6 + k`. -/
def inv (g : Elt F .f32) (k : ℕ) (_ : Unit) : sProp 𝕄 :=
  iprop(∃ fr' fs' fl' fh' fa', ⌜State i g (6 + k) (rbufM.view.read (Elt F) fr') (sbufM.view.read (Elt F) fs')
          (lowM.view.read (Elt F) fl') (highM.view.read (Elt F) fh') (accM.view.read (Elt F) fa')⌝
        ∗ pt c rbufM fr' ∗ pt c sbufM fs' ∗ pt c lowM fl' ∗ pt c highM fh' ∗ pt c accM fa')

theorem trip_inv (g : Elt F .f32) (v1094 v1302 : FVec F S56x384 .f32) (k : Fin k0_t1_loop.trips) (u : Unit) :
    inv c i g k u ⊢ wp frame (wpE defs₀ 𝒱₀ (c : Thread nD τ) none) Set.univ
      (k0_t1_body (F := F) i arg1 harg1 arg2 harg2 arg3 harg3 rbufM (Memref.isWhole_whole _) sbufM (Memref.isWhole_whole _) lowM (Memref.isWhole_whole _)
        highM (Memref.isWhole_whole _) accM (Memref.isWhole_whole _) g (k0_pay44 i) k0_pay45 k0_pay46 k0_pay47 v1094 v1302 (Scalar.ofBits .f32 0x4B800000#32) k u)
      (inv c i g (k.val + 1)) := by
  unfold inv
  iintro ⟨%fr, %fs, %fl, %fh, %fa, %h, HP⟩
  iapply (trip c i arg1 harg1 arg2 harg2 arg3 harg3 g v1094 v1302 k fr fs fl fh fa h)
  iexact HP

theorem maskBody (g : Elt F .f32) (fg : Bf (F := F) c arg1) (fp : Bf (F := F) c arg2) (fn : Bf (F := F) c arg3) (hg : arg1.view.read (Elt F) fg = fun _ => g)
    (fr : Bf (F := F) c rbufM) (fs : Bf (F := F) c sbufM) (fl : Bf (F := F) c lowM) (fh : Bf (F := F) c highM) (fa : Bf (F := F) c accM) :
    iprop(pt c arg1 fg ∗ pt c arg2 fp ∗ pt c arg3 fn ∗ pt c rbufM fr ∗ pt c sbufM fs ∗ pt c lowM fl ∗ pt c highM fh ∗ pt c accM fa)
    ⊢ wp frame (wpE defs₀ 𝒱₀ (c : Thread nD τ) none) Set.univ
      (cc0__mask_kernel (F := F) i arg1 harg1 arg2 harg2 arg3 harg3 rbufM (Memref.isWhole_whole _) sbufM (Memref.isWhole_whole _) lowM (Memref.isWhole_whole _)
        highM (Memref.isWhole_whole _) accM (Memref.isWhole_whole _))
      (fun _ => iprop(∃ fp' fn' fr' fs' fl' fh' fa', ⌜arg2.view.read (Elt F) fp' = packed i g (arg2.view.read (Elt F) fp)
          ∧ arg3.view.read (Elt F) fn' = fun j => Scalar.addi (if (i 0).val = 0 then 0#32 else arg3.view.read (Elt F) fn j) (tally i g)⌝
        ∗ pt c arg1 fg ∗ pt c arg2 fp' ∗ pt c arg3 fn' ∗ pt c rbufM fr' ∗ pt c sbufM fs' ∗ pt c lowM fl' ∗ pt c highM fh' ∗ pt c accM fa')) := by
  iintro ⟨Hg, Hp, Hn, Hr, Hs, Hl, Hh, Ha⟩
  sl_unfold [cc0__mask_kernel]
  sl_exec
  have h0 : k0_pay88 (maskBody.sl.r_1 i) (maskBody.sl.r_2 i) = rowMin (F := F) i 0 := by
    delta maskBody.sl.r_1 maskBody.sl.r_2 maskBody.sl.v0 maskBody.sl.v2 maskBody.sl.v3 maskBody.sl.v4 maskBody.sl.v6 maskBody.sl.v7
      maskBody.sl.v8 maskBody.sl.v9 maskBody.sl.v11 maskBody.sl.v13 maskBody.sl.v15 maskBody.sl.v29 maskBody.sl.v32 maskBody.sl.v33
      maskBody.sl.v34 maskBody.sl.v35 maskBody.sl.v36 maskBody.sl.v37 maskBody.sl.v38 maskBody.sl.v39 maskBody.sl.v40 maskBody.sl.v41
      maskBody.sl.v42 maskBody.sl.v43 maskBody.sl.v44 maskBody.sl.v45 maskBody.sl.v46 maskBody.sl.v47 maskBody.sl.v48 maskBody.sl.v49
      maskBody.sl.v50 maskBody.sl.v51 maskBody.sl.v52 maskBody.sl.v53 maskBody.sl.v54 maskBody.sl.v56 maskBody.sl.v58 maskBody.sl.v59
      maskBody.sl.v60 maskBody.sl.v62 maskBody.sl.v64 maskBody.sl.v65 maskBody.sl.v66 maskBody.sl.v68 maskBody.sl.v70 maskBody.sl.v71
      maskBody.sl.v72 maskBody.sl.v73 maskBody.sl.v74 maskBody.sl.v75 maskBody.sl.v77 maskBody.sl.v78 maskBody.sl.v79 maskBody.sl.v80
      maskBody.sl.v81 maskBody.sl.v82 maskBody.sl.v84 maskBody.sl.v85 maskBody.sl.v86 maskBody.sl.v87 maskBody.sl.v88 maskBody.sl.v89
      maskBody.sl.v90 maskBody.sl.v91 maskBody.sl.v92 maskBody.sl.v93 maskBody.sl.v94 maskBody.sl.v95 maskBody.sl.v98 maskBody.sl.v99
      maskBody.sl.v101 maskBody.sl.v103 maskBody.sl.v104 maskBody.sl.v105 maskBody.sl.v106 maskBody.sl.v108 maskBody.sl.v110
      maskBody.sl.v111 maskBody.sl.v112 maskBody.sl.v113 maskBody.sl.v115 maskBody.sl.v117 maskBody.sl.v118 maskBody.sl.v119
      maskBody.sl.v120 maskBody.sl.v122 maskBody.sl.v124 maskBody.sl.v125 maskBody.sl.v126 maskBody.sl.v128 maskBody.sl.v130
      maskBody.sl.v131 maskBody.sl.v132 maskBody.sl.v134 maskBody.sl.v136 maskBody.sl.v137 maskBody.sl.v138 maskBody.sl.v139
      maskBody.sl.v141 maskBody.sl.v143 maskBody.sl.v144 maskBody.sl.v145 maskBody.sl.v146 maskBody.sl.v148 maskBody.sl.v150
      maskBody.sl.v151 maskBody.sl.v152 maskBody.sl.v153 maskBody.sl.v155 maskBody.sl.v157 maskBody.sl.v158 maskBody.sl.v159
      maskBody.sl.v161 maskBody.sl.v163 maskBody.sl.v164 maskBody.sl.v165 maskBody.sl.v167 maskBody.sl.v169 maskBody.sl.v170
      maskBody.sl.v226 maskBody.sl.v233
    simp only [rowMin, key0, key1, key2, key3, key4, key5, min1, min2, min3, draw, hash, mixed, rndsA, rndsA', rndsB, rnd, inj, start, big, ks2, Scalar.ofBits,
      k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
  have h1 : maskBody.sl.r_7 i = rowMin (F := F) i 1 := by
    delta maskBody.sl.r_7 maskBody.sl.r_4 maskBody.sl.r_5 maskBody.sl.r_6 maskBody.sl.v0 maskBody.sl.v2 maskBody.sl.v3 maskBody.sl.v4
      maskBody.sl.v6 maskBody.sl.v7 maskBody.sl.v8 maskBody.sl.v9 maskBody.sl.v11 maskBody.sl.v13 maskBody.sl.v15 maskBody.sl.v81
      maskBody.sl.v43 maskBody.sl.v74 maskBody.sl.v41 maskBody.sl.v94 maskBody.sl.v48 maskBody.sl.v90 maskBody.sl.v36 maskBody.sl.v34
      maskBody.sl.v32 maskBody.sl.v50 maskBody.sl.v163 maskBody.sl.v88 maskBody.sl.v64 maskBody.sl.v130 maskBody.sl.v255 maskBody.sl.v256
      maskBody.sl.v257 maskBody.sl.v258 maskBody.sl.v260 maskBody.sl.v262 maskBody.sl.v263 maskBody.sl.v264 maskBody.sl.v265
      maskBody.sl.v267 maskBody.sl.v269 maskBody.sl.v270 maskBody.sl.v271 maskBody.sl.v273 maskBody.sl.v276 maskBody.sl.v277
      maskBody.sl.v279 maskBody.sl.v281 maskBody.sl.v282 maskBody.sl.v283 maskBody.sl.v284 maskBody.sl.v286 maskBody.sl.v288
      maskBody.sl.v289 maskBody.sl.v290 maskBody.sl.v291 maskBody.sl.v293 maskBody.sl.v295 maskBody.sl.v296 maskBody.sl.v297
      maskBody.sl.v298 maskBody.sl.v300 maskBody.sl.v302 maskBody.sl.v303 maskBody.sl.v304 maskBody.sl.v306 maskBody.sl.v309
      maskBody.sl.v310 maskBody.sl.v312 maskBody.sl.v314 maskBody.sl.v315 maskBody.sl.v316 maskBody.sl.v317 maskBody.sl.v319
      maskBody.sl.v321 maskBody.sl.v322 maskBody.sl.v323 maskBody.sl.v324 maskBody.sl.v326 maskBody.sl.v328 maskBody.sl.v329
      maskBody.sl.v330 maskBody.sl.v331 maskBody.sl.v333 maskBody.sl.v335 maskBody.sl.v336 maskBody.sl.v337 maskBody.sl.v339
      maskBody.sl.v342 maskBody.sl.v343 maskBody.sl.v345 maskBody.sl.v347 maskBody.sl.v348 maskBody.sl.v349 maskBody.sl.v350
      maskBody.sl.v352 maskBody.sl.v354 maskBody.sl.v355 maskBody.sl.v356 maskBody.sl.v357 maskBody.sl.v359 maskBody.sl.v361
      maskBody.sl.v362 maskBody.sl.v363 maskBody.sl.v364 maskBody.sl.v366 maskBody.sl.v368 maskBody.sl.v369 maskBody.sl.v370
      maskBody.sl.v372 maskBody.sl.v375 maskBody.sl.v376 maskBody.sl.v378 maskBody.sl.v380 maskBody.sl.v381 maskBody.sl.v382
      maskBody.sl.v383 maskBody.sl.v385 maskBody.sl.v387 maskBody.sl.v388 maskBody.sl.v389 maskBody.sl.v390 maskBody.sl.v434
    simp only [rowMin, key0, key1, key2, key3, key4, key5, min1, min2, min3, draw, hash, mixed, rndsA, rndsA', rndsB, rnd, inj, start, big, ks2, Scalar.ofBits,
      k0_pay44, k0_pay45, k0_pay46, k0_pay47, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137]
  have h2 : maskBody.sl.r_13 i = rowMin (F := F) i 2 := by
    delta maskBody.sl.r_13 maskBody.sl.r_10 maskBody.sl.r_11 maskBody.sl.r_12 maskBody.sl.v0 maskBody.sl.v2 maskBody.sl.v3 maskBody.sl.v4
      maskBody.sl.v6 maskBody.sl.v7 maskBody.sl.v8 maskBody.sl.v9 maskBody.sl.v11 maskBody.sl.v13 maskBody.sl.v15 maskBody.sl.v81
      maskBody.sl.v43 maskBody.sl.v74 maskBody.sl.v41 maskBody.sl.v94 maskBody.sl.v48 maskBody.sl.v90 maskBody.sl.v36 maskBody.sl.v34
      maskBody.sl.v32 maskBody.sl.v50 maskBody.sl.v163 maskBody.sl.v88 maskBody.sl.v64 maskBody.sl.v130 maskBody.sl.v444 maskBody.sl.v451
      maskBody.sl.v473 maskBody.sl.v474 maskBody.sl.v475 maskBody.sl.v476 maskBody.sl.v478 maskBody.sl.v480 maskBody.sl.v481
      maskBody.sl.v482 maskBody.sl.v483 maskBody.sl.v485 maskBody.sl.v487 maskBody.sl.v488 maskBody.sl.v489 maskBody.sl.v491
      maskBody.sl.v494 maskBody.sl.v495 maskBody.sl.v497 maskBody.sl.v499 maskBody.sl.v500 maskBody.sl.v501 maskBody.sl.v502
      maskBody.sl.v504 maskBody.sl.v506 maskBody.sl.v507 maskBody.sl.v508 maskBody.sl.v509 maskBody.sl.v511 maskBody.sl.v513
      maskBody.sl.v514 maskBody.sl.v515 maskBody.sl.v516 maskBody.sl.v518 maskBody.sl.v520 maskBody.sl.v521 maskBody.sl.v522
      maskBody.sl.v524 maskBody.sl.v527 maskBody.sl.v528 maskBody.sl.v530 maskBody.sl.v532 maskBody.sl.v533 maskBody.sl.v534
      maskBody.sl.v535 maskBody.sl.v537 maskBody.sl.v539 maskBody.sl.v540 maskBody.sl.v541 maskBody.sl.v542 maskBody.sl.v544
      maskBody.sl.v546 maskBody.sl.v547 maskBody.sl.v548 maskBody.sl.v549 maskBody.sl.v551 maskBody.sl.v553 maskBody.sl.v554
      maskBody.sl.v555 maskBody.sl.v557 maskBody.sl.v560 maskBody.sl.v561 maskBody.sl.v563 maskBody.sl.v565 maskBody.sl.v566
      maskBody.sl.v567 maskBody.sl.v568 maskBody.sl.v570 maskBody.sl.v572 maskBody.sl.v573 maskBody.sl.v574 maskBody.sl.v575
      maskBody.sl.v577 maskBody.sl.v579 maskBody.sl.v580 maskBody.sl.v581 maskBody.sl.v582 maskBody.sl.v584 maskBody.sl.v586
      maskBody.sl.v587 maskBody.sl.v588 maskBody.sl.v590 maskBody.sl.v593 maskBody.sl.v594 maskBody.sl.v596 maskBody.sl.v598
      maskBody.sl.v599 maskBody.sl.v600 maskBody.sl.v601 maskBody.sl.v603 maskBody.sl.v605 maskBody.sl.v606 maskBody.sl.v607
      maskBody.sl.v608 maskBody.sl.v652
    simp only [rowMin, key0, key1, key2, key3, key4, key5, min1, min2, min3, draw, hash, mixed, rndsA, rndsA', rndsB, rnd, inj, start, big, ks2, Scalar.ofBits,
      k0_pay44, k0_pay45, k0_pay46, k0_pay47, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184]
  have h3 : maskBody.sl.r_17 i = rowMin (F := F) i 3 := by
    delta maskBody.sl.r_17 maskBody.sl.r_15 maskBody.sl.r_16 maskBody.sl.v0 maskBody.sl.v2 maskBody.sl.v3 maskBody.sl.v4 maskBody.sl.v6
      maskBody.sl.v7 maskBody.sl.v8 maskBody.sl.v9 maskBody.sl.v11 maskBody.sl.v13 maskBody.sl.v15 maskBody.sl.v81 maskBody.sl.v43
      maskBody.sl.v74 maskBody.sl.v41 maskBody.sl.v94 maskBody.sl.v48 maskBody.sl.v90 maskBody.sl.v36 maskBody.sl.v34 maskBody.sl.v32
      maskBody.sl.v50 maskBody.sl.v163 maskBody.sl.v88 maskBody.sl.v64 maskBody.sl.v130 maskBody.sl.v652 maskBody.sl.v662 maskBody.sl.v669
      maskBody.sl.v689 maskBody.sl.v691 maskBody.sl.v692 maskBody.sl.v693 maskBody.sl.v694 maskBody.sl.v696 maskBody.sl.v698
      maskBody.sl.v699 maskBody.sl.v700 maskBody.sl.v701 maskBody.sl.v703 maskBody.sl.v705 maskBody.sl.v706 maskBody.sl.v707
      maskBody.sl.v709 maskBody.sl.v712 maskBody.sl.v713 maskBody.sl.v715 maskBody.sl.v717 maskBody.sl.v718 maskBody.sl.v719
      maskBody.sl.v720 maskBody.sl.v722 maskBody.sl.v724 maskBody.sl.v725 maskBody.sl.v726 maskBody.sl.v727 maskBody.sl.v729
      maskBody.sl.v731 maskBody.sl.v732 maskBody.sl.v733 maskBody.sl.v734 maskBody.sl.v736 maskBody.sl.v738 maskBody.sl.v739
      maskBody.sl.v740 maskBody.sl.v742 maskBody.sl.v745 maskBody.sl.v746 maskBody.sl.v748 maskBody.sl.v750 maskBody.sl.v751
      maskBody.sl.v752 maskBody.sl.v753 maskBody.sl.v755 maskBody.sl.v757 maskBody.sl.v758 maskBody.sl.v759 maskBody.sl.v760
      maskBody.sl.v762 maskBody.sl.v764 maskBody.sl.v765 maskBody.sl.v766 maskBody.sl.v767 maskBody.sl.v769 maskBody.sl.v771
      maskBody.sl.v772 maskBody.sl.v773 maskBody.sl.v775 maskBody.sl.v778 maskBody.sl.v779 maskBody.sl.v781 maskBody.sl.v783
      maskBody.sl.v784 maskBody.sl.v785 maskBody.sl.v786 maskBody.sl.v788 maskBody.sl.v790 maskBody.sl.v791 maskBody.sl.v792
      maskBody.sl.v793 maskBody.sl.v795 maskBody.sl.v797 maskBody.sl.v798 maskBody.sl.v799 maskBody.sl.v800 maskBody.sl.v802
      maskBody.sl.v804 maskBody.sl.v805 maskBody.sl.v806 maskBody.sl.v808 maskBody.sl.v811 maskBody.sl.v812 maskBody.sl.v814
      maskBody.sl.v816 maskBody.sl.v817 maskBody.sl.v818 maskBody.sl.v819 maskBody.sl.v821 maskBody.sl.v823 maskBody.sl.v824
      maskBody.sl.v825 maskBody.sl.v826 maskBody.sl.v870
    simp only [rowMin, key0, key1, key2, key3, key4, key5, min1, min2, min3, draw, hash, mixed, rndsA, rndsA', rndsB, rnd, inj, start, big, ks2, Scalar.ofBits,
      k0_pay44, k0_pay45, k0_pay46, k0_pay47, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229]
  have h4 : maskBody.sl.r_21 i = rowMin (F := F) i 4 := by
    delta maskBody.sl.r_21 maskBody.sl.r_19 maskBody.sl.r_20 maskBody.sl.v0 maskBody.sl.v2 maskBody.sl.v3 maskBody.sl.v4 maskBody.sl.v6
      maskBody.sl.v7 maskBody.sl.v8 maskBody.sl.v9 maskBody.sl.v11 maskBody.sl.v13 maskBody.sl.v15 maskBody.sl.v81 maskBody.sl.v43
      maskBody.sl.v74 maskBody.sl.v41 maskBody.sl.v94 maskBody.sl.v48 maskBody.sl.v90 maskBody.sl.v36 maskBody.sl.v34 maskBody.sl.v32
      maskBody.sl.v50 maskBody.sl.v163 maskBody.sl.v88 maskBody.sl.v64 maskBody.sl.v130 maskBody.sl.v870 maskBody.sl.v880 maskBody.sl.v887
      maskBody.sl.v907 maskBody.sl.v909 maskBody.sl.v910 maskBody.sl.v911 maskBody.sl.v912 maskBody.sl.v914 maskBody.sl.v916
      maskBody.sl.v917 maskBody.sl.v918 maskBody.sl.v919 maskBody.sl.v921 maskBody.sl.v923 maskBody.sl.v924 maskBody.sl.v925
      maskBody.sl.v927 maskBody.sl.v930 maskBody.sl.v931 maskBody.sl.v933 maskBody.sl.v935 maskBody.sl.v936 maskBody.sl.v937
      maskBody.sl.v938 maskBody.sl.v940 maskBody.sl.v942 maskBody.sl.v943 maskBody.sl.v944 maskBody.sl.v945 maskBody.sl.v947
      maskBody.sl.v949 maskBody.sl.v950 maskBody.sl.v951 maskBody.sl.v952 maskBody.sl.v954 maskBody.sl.v956 maskBody.sl.v957
      maskBody.sl.v958 maskBody.sl.v960 maskBody.sl.v963 maskBody.sl.v964 maskBody.sl.v966 maskBody.sl.v968 maskBody.sl.v969
      maskBody.sl.v970 maskBody.sl.v971 maskBody.sl.v973 maskBody.sl.v975 maskBody.sl.v976 maskBody.sl.v977 maskBody.sl.v978
      maskBody.sl.v980 maskBody.sl.v982 maskBody.sl.v983 maskBody.sl.v984 maskBody.sl.v985 maskBody.sl.v987 maskBody.sl.v989
      maskBody.sl.v990 maskBody.sl.v991 maskBody.sl.v993 maskBody.sl.v996 maskBody.sl.v997 maskBody.sl.v999 maskBody.sl.v1001
      maskBody.sl.v1002 maskBody.sl.v1003 maskBody.sl.v1004 maskBody.sl.v1006 maskBody.sl.v1008 maskBody.sl.v1009 maskBody.sl.v1010
      maskBody.sl.v1011 maskBody.sl.v1013 maskBody.sl.v1015 maskBody.sl.v1016 maskBody.sl.v1017 maskBody.sl.v1018 maskBody.sl.v1020
      maskBody.sl.v1022 maskBody.sl.v1023 maskBody.sl.v1024 maskBody.sl.v1026 maskBody.sl.v1029 maskBody.sl.v1030 maskBody.sl.v1032
      maskBody.sl.v1034 maskBody.sl.v1035 maskBody.sl.v1036 maskBody.sl.v1037 maskBody.sl.v1039 maskBody.sl.v1041 maskBody.sl.v1042
      maskBody.sl.v1043 maskBody.sl.v1088
    simp only [rowMin, key0, key1, key2, key3, key4, key5, min1, min2, min3, draw, hash, mixed, rndsA, rndsA', rndsB, rnd, inj, start, big, ks2, Scalar.ofBits,
      k0_pay44, k0_pay45, k0_pay46, k0_pay47, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272]
  have h5 : maskBody.sl.r_25 i = rowMin (F := F) i 5 := by
    delta maskBody.sl.r_25 maskBody.sl.r_23 maskBody.sl.r_24 maskBody.sl.v0 maskBody.sl.v2 maskBody.sl.v3 maskBody.sl.v4 maskBody.sl.v6
      maskBody.sl.v7 maskBody.sl.v8 maskBody.sl.v9 maskBody.sl.v11 maskBody.sl.v13 maskBody.sl.v15 maskBody.sl.v81 maskBody.sl.v43
      maskBody.sl.v74 maskBody.sl.v41 maskBody.sl.v94 maskBody.sl.v48 maskBody.sl.v90 maskBody.sl.v36 maskBody.sl.v34 maskBody.sl.v32
      maskBody.sl.v50 maskBody.sl.v163 maskBody.sl.v88 maskBody.sl.v64 maskBody.sl.v130 maskBody.sl.v1088 maskBody.sl.v1098
      maskBody.sl.v1105 maskBody.sl.v1125 maskBody.sl.v1127 maskBody.sl.v1128 maskBody.sl.v1129 maskBody.sl.v1130 maskBody.sl.v1132
      maskBody.sl.v1134 maskBody.sl.v1135 maskBody.sl.v1136 maskBody.sl.v1137 maskBody.sl.v1139 maskBody.sl.v1141 maskBody.sl.v1142
      maskBody.sl.v1143 maskBody.sl.v1145 maskBody.sl.v1148 maskBody.sl.v1149 maskBody.sl.v1151 maskBody.sl.v1153 maskBody.sl.v1154
      maskBody.sl.v1155 maskBody.sl.v1156 maskBody.sl.v1158 maskBody.sl.v1160 maskBody.sl.v1161 maskBody.sl.v1162 maskBody.sl.v1163
      maskBody.sl.v1165 maskBody.sl.v1167 maskBody.sl.v1168 maskBody.sl.v1169 maskBody.sl.v1170 maskBody.sl.v1172 maskBody.sl.v1174
      maskBody.sl.v1175 maskBody.sl.v1176 maskBody.sl.v1178 maskBody.sl.v1181 maskBody.sl.v1182 maskBody.sl.v1184 maskBody.sl.v1186
      maskBody.sl.v1187 maskBody.sl.v1188 maskBody.sl.v1189 maskBody.sl.v1191 maskBody.sl.v1193 maskBody.sl.v1194 maskBody.sl.v1195
      maskBody.sl.v1196 maskBody.sl.v1198 maskBody.sl.v1200 maskBody.sl.v1201 maskBody.sl.v1202 maskBody.sl.v1203 maskBody.sl.v1205
      maskBody.sl.v1207 maskBody.sl.v1208 maskBody.sl.v1209 maskBody.sl.v1211 maskBody.sl.v1214 maskBody.sl.v1215 maskBody.sl.v1217
      maskBody.sl.v1219 maskBody.sl.v1220 maskBody.sl.v1221 maskBody.sl.v1222 maskBody.sl.v1224 maskBody.sl.v1226 maskBody.sl.v1227
      maskBody.sl.v1228 maskBody.sl.v1229 maskBody.sl.v1231 maskBody.sl.v1233 maskBody.sl.v1234 maskBody.sl.v1235 maskBody.sl.v1236
      maskBody.sl.v1238 maskBody.sl.v1240 maskBody.sl.v1241 maskBody.sl.v1242 maskBody.sl.v1244 maskBody.sl.v1247 maskBody.sl.v1248
      maskBody.sl.v1250 maskBody.sl.v1252 maskBody.sl.v1253 maskBody.sl.v1254 maskBody.sl.v1255 maskBody.sl.v1257 maskBody.sl.v1259
      maskBody.sl.v1260 maskBody.sl.v1306
    simp only [rowMin, key0, key1, key2, key3, key4, key5, min1, min2, min3, draw, hash, mixed, rndsA, rndsA', rndsB, rnd, inj, start, big, ks2, Scalar.ofBits,
      k0_pay44, k0_pay45, k0_pay46, k0_pay47, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316]
  have hgr : maskBody.sl.r c arg1 fg = g := by
    delta maskBody.sl.r
    rw [View.readAt_full, hg]
  have e0 : maskBody.sl.r_3 (F := F) i = runMin i 0 := h0
  have e1 : maskBody.sl.r_9 (F := F) i = runMin i 1 := by delta maskBody.sl.r_9; rw [e0, h1]; rfl
  have e2 : maskBody.sl.r_14 (F := F) i = runMin i 2 := by delta maskBody.sl.r_14; rw [e1, h2]; rfl
  have e3 : maskBody.sl.r_18 (F := F) i = runMin i 3 := by delta maskBody.sl.r_18; rw [e2, h3]; rfl
  have e4 : maskBody.sl.r_22 (F := F) i = runMin i 4 := by delta maskBody.sl.r_22; rw [e3, h4]; rfl
  have e5 : minimumf (maskBody.sl.r_22 (F := F) i) (maskBody.sl.r_25 i) = runMin i 5 := by rw [e4, h5]; rfl
  have hr2 : ∀ f : Bf (F := F) c rbufM, rbufM.view.read (Elt F) (rbufM.view.writes (Elt F) f (maskBody.sl.Hr_2 i)) = rowPuts i (rbufM.view.read (Elt F) f) 2 := fun f => by
    delta maskBody.sl.Hr_2
    rw [read_slot _ _ 1 rfl, read_slot _ _ 0 rfl, View.writes_nil]
    unfold k0_pay89 k0_pay135
    exact (congrArg (fun v => VecWindow.put (VecWindow.put (rbufM.view.read (Elt F) f) ![0 % 8, 0, 0] S1x56x384.size (asSlot v)) ![1 % 8, 0, 0] S1x56x384.size
      (asSlot (maskBody.sl.r_7 i))) h0).trans (congrArg (fun v => VecWindow.put (VecWindow.put (rbufM.view.read (Elt F) f) ![0 % 8, 0, 0] S1x56x384.size
      (asSlot (rowMin i 0))) ![1 % 8, 0, 0] S1x56x384.size (asSlot v)) h1)
  have hr3 : ∀ f : Bf (F := F) c rbufM, rbufM.view.read (Elt F) (rbufM.view.writes (Elt F) f (maskBody.sl.Hr_3 i)) = rowPuts i (rbufM.view.read (Elt F) f) 3 := fun f => by
    delta maskBody.sl.Hr_3
    rw [read_slot _ _ 2 rfl, hr2]
    unfold k0_pay183
    exact congrArg (fun v => VecWindow.put (rowPuts i (rbufM.view.read (Elt F) f) 2) ![2 % 8, 0, 0] S1x56x384.size (asSlot v)) h2
  have hr4 : ∀ f : Bf (F := F) c rbufM, rbufM.view.read (Elt F) (rbufM.view.writes (Elt F) f (maskBody.sl.Hr_4 i)) = rowPuts i (rbufM.view.read (Elt F) f) 4 := fun f => by
    delta maskBody.sl.Hr_4
    rw [read_slot _ _ 3 rfl, hr3]
    unfold k0_pay228
    exact congrArg (fun v => VecWindow.put (rowPuts i (rbufM.view.read (Elt F) f) 3) ![3 % 8, 0, 0] S1x56x384.size (asSlot v)) h3
  have hr5 : ∀ f : Bf (F := F) c rbufM, rbufM.view.read (Elt F) (rbufM.view.writes (Elt F) f (maskBody.sl.Hr_5 i)) = rowPuts i (rbufM.view.read (Elt F) f) 5 := fun f => by
    delta maskBody.sl.Hr_5
    rw [read_slot _ _ 4 rfl, hr4]
    unfold k0_pay271
    exact congrArg (fun v => VecWindow.put (rowPuts i (rbufM.view.read (Elt F) f) 4) ![4 % 8, 0, 0] S1x56x384.size (asSlot v)) h4
  have hr6 : ∀ f : Bf (F := F) c rbufM, rbufM.view.read (Elt F) (rbufM.view.writes (Elt F) f (maskBody.sl.Hr_6 i)) = rowPuts i (rbufM.view.read (Elt F) f) 6 := fun f => by
    delta maskBody.sl.Hr_6
    rw [read_slot _ _ 5 rfl, hr5]
    unfold k0_pay315
    exact congrArg (fun v => VecWindow.put (rowPuts i (rbufM.view.read (Elt F) f) 5) ![5 % 8, 0, 0] S1x56x384.size (asSlot v)) h5
  have t1 : k0_pay137 (maskBody.sl.r_7 (F := F) i) (maskBody.sl.r_8 i) = asSlot (twoMin i 1) := by
    rw [h1, show maskBody.sl.r_8 (F := F) i = rowMin i 0 from slot_cast (rbufM.view.read (Elt F) (rbufM.view.writes (Elt F) rbufM.view.junk (maskBody.sl.Hr_2 i))) 0 _
      (by rw [hr2]; exact rowPuts_prev i _ 0)]
    rfl
  have t2 : k0_pay184 (maskBody.sl.r_13 (F := F) i) (maskBody.sl.v652 i) = asSlot (twoMin i 2) := by
    rw [h2]
    exact congrArg (fun v => asSlot (minimumf (rowMin i 2) v)) (slot_cast (rbufM.view.read (Elt F) (rbufM.view.writes (Elt F) rbufM.view.junk (maskBody.sl.Hr_3 i))) 1 _
      (by rw [hr3]; exact rowPuts_prev i _ 1))
  have t3 : k0_pay229 (maskBody.sl.r_17 (F := F) i) (maskBody.sl.v870 i) = asSlot (twoMin i 3) := by
    rw [h3]
    exact congrArg (fun v => asSlot (minimumf (rowMin i 3) v)) (slot_cast (rbufM.view.read (Elt F) (rbufM.view.writes (Elt F) rbufM.view.junk (maskBody.sl.Hr_4 i))) 2 _
      (by rw [hr4]; exact rowPuts_prev i _ 2))
  have t4 : k0_pay272 (maskBody.sl.r_21 (F := F) i) (maskBody.sl.v1088 i) = asSlot (twoMin i 4) := by
    rw [h4]
    exact congrArg (fun v => asSlot (minimumf (rowMin i 4) v)) (slot_cast (rbufM.view.read (Elt F) (rbufM.view.writes (Elt F) rbufM.view.junk (maskBody.sl.Hr_5 i))) 3 _
      (by rw [hr5]; exact rowPuts_prev i _ 3))
  have t5 : k0_pay316 (maskBody.sl.r_25 (F := F) i) (maskBody.sl.v1306 i) = asSlot (twoMin i 5) := by
    rw [h5]
    exact congrArg (fun v => asSlot (minimumf (rowMin i 5) v)) (slot_cast (rbufM.view.read (Elt F) (rbufM.view.writes (Elt F) rbufM.view.junk (maskBody.sl.Hr_6 i))) 4 _
      (by rw [hr6]; exact rowPuts_prev i _ 4))
  have a1 : ∀ (M : Memref sig .tc .vmem S56x384 .i32) f, M.view.read (Elt F) (M.view.writes (Elt F) f maskBody.sl.Ha_1) = broadcast S56x384 0#32 := fun M f => by
    delta maskBody.sl.Ha_1 maskBody.sl.v15
    rw [View.read_writes_full, shapeCast_self]
  have count1 : accM.view.read (Elt F) (accM.view.writes (Elt F) accM.view.junk (maskBody.sl.Ha_2 c i arg1 fg)) = Spec.count i g 1 := by
    delta maskBody.sl.Ha_2 maskBody.sl.v226
    rw [View.read_writes_full, View.readCov, View.readAt_full, (a1 accM _), hgr]
    unfold k0_pay91
    refine (shapeCast_self _ _).trans ?_
    rw [count_run i g 0 (by decide)]
    unfold k0_pay90
    exact congrArg (fun v => addi (count i g 0) (extui 32 (cmpf .oge v (broadcast S56x384 g)) natLt_1_32)) e0
  have count2 : accM.view.read (Elt F) (accM.view.writes (Elt F) accM.view.junk (maskBody.sl.Ha_3 c i arg1 fg)) = Spec.count i g 2 := by
    delta maskBody.sl.Ha_3 maskBody.sl.v444
    rw [View.read_writes_full, View.readCov, View.readAt_full, count1, hgr]
    unfold k0_pay140
    refine (shapeCast_self _ _).trans ?_
    rw [count_run i g 1 (by decide)]
    unfold k0_pay139
    exact congrArg (fun v => addi (count i g 1) (extui 32 (cmpf .oge v (broadcast S56x384 g)) natLt_1_32)) e1
  have count3 : accM.view.read (Elt F) (accM.view.writes (Elt F) accM.view.junk (maskBody.sl.Ha_4 c i arg1 fg)) = Spec.count i g 3 := by
    delta maskBody.sl.Ha_4 maskBody.sl.v662
    rw [View.read_writes_full, View.readCov, View.readAt_full, count2, hgr]
    unfold k0_pay187
    refine (shapeCast_self _ _).trans ?_
    rw [count_run i g 2 (by decide)]
    unfold k0_pay186
    exact congrArg (fun v => addi (count i g 2) (extui 32 (cmpf .oge v (broadcast S56x384 g)) natLt_1_32)) e2
  have count4 : accM.view.read (Elt F) (accM.view.writes (Elt F) accM.view.junk (maskBody.sl.Ha_5 c i arg1 fg)) = Spec.count i g 4 := by
    delta maskBody.sl.Ha_5 maskBody.sl.v880
    rw [View.read_writes_full, View.readCov, View.readAt_full, count3, hgr]
    unfold k0_pay232
    refine (shapeCast_self _ _).trans ?_
    rw [count_run i g 3 (by decide)]
    unfold k0_pay231
    exact congrArg (fun v => addi (count i g 3) (extui 32 (cmpf .oge v (broadcast S56x384 g)) natLt_1_32)) e3
  have count5 : accM.view.read (Elt F) (accM.view.writes (Elt F) accM.view.junk (maskBody.sl.Ha_6 c i arg1 fg)) = Spec.count i g 5 := by
    delta maskBody.sl.Ha_6 maskBody.sl.v1098
    rw [View.read_writes_full, View.readCov, View.readAt_full, count4, hgr]
    unfold k0_pay275
    refine (shapeCast_self _ _).trans ?_
    rw [count_run i g 4 (by decide)]
    unfold k0_pay274
    exact congrArg (fun v => addi (count i g 4) (extui 32 (cmpf .oge v (broadcast S56x384 g)) natLt_1_32)) e4
  have count6 : accM.view.read (Elt F) (accM.view.writes (Elt F) accM.view.junk (maskBody.sl.Ha_7 c i arg1 fg)) = Spec.count i g 6 := by
    delta maskBody.sl.Ha_7 maskBody.sl.v1316
    rw [View.read_writes_full, View.readCov, View.readAt_full, count5, hgr]
    unfold k0_pay318
    refine (shapeCast_self _ _).trans ?_
    rw [count_run i g 5 (by decide)]
    unfold k0_pay317
    exact congrArg (fun v => addi (count i g 5) (extui 32 (cmpf .oge v (broadcast S56x384 g)) natLt_1_32)) e5
  have low1 : lowM.view.read (Elt F) (lowM.view.writes (Elt F) lowM.view.junk (maskBody.sl.Hl_2 c i arg1 fg)) = Spec.low i g 1 := by
    delta maskBody.sl.Hl_2 maskBody.sl.v233
    rw [View.read_writes_full, View.readCov, View.readAt_full, (a1 lowM _), hgr]
    unfold k0_pay92
    refine (shapeCast_self _ _).trans ?_
    rw [low_run i g 0 (by decide)]
    unfold k0_pay90
    exact congrArg (fun v => ori (Spec.low i g 0) (shli (extui 32 (cmpf .oge v (broadcast S56x384 g)) natLt_1_32) (broadcast S56x384 0#32))) e0
  have low2 : lowM.view.read (Elt F) (lowM.view.writes (Elt F) lowM.view.junk (maskBody.sl.Hl_3 c i arg1 fg)) = Spec.low i g 2 := by
    delta maskBody.sl.Hl_3 maskBody.sl.v451
    rw [View.read_writes_full, View.readCov, View.readAt_full, low1, hgr]
    unfold k0_pay141
    refine (shapeCast_self _ _).trans ?_
    rw [low_run i g 1 (by decide)]
    unfold k0_pay139
    exact congrArg (fun v => ori (Spec.low i g 1) (shli (extui 32 (cmpf .oge v (broadcast S56x384 g)) natLt_1_32) (broadcast S56x384 1#32))) e1
  have low3 : lowM.view.read (Elt F) (lowM.view.writes (Elt F) lowM.view.junk (maskBody.sl.Hl_4 c i arg1 fg)) = Spec.low i g 3 := by
    delta maskBody.sl.Hl_4 maskBody.sl.v669
    rw [View.read_writes_full, View.readCov, View.readAt_full, low2, hgr]
    unfold k0_pay188
    refine (shapeCast_self _ _).trans ?_
    rw [low_run i g 2 (by decide)]
    unfold k0_pay186
    exact congrArg (fun v => ori (Spec.low i g 2) (shli (extui 32 (cmpf .oge v (broadcast S56x384 g)) natLt_1_32) (broadcast S56x384 2#32))) e2
  have low4 : lowM.view.read (Elt F) (lowM.view.writes (Elt F) lowM.view.junk (maskBody.sl.Hl_5 c i arg1 fg)) = Spec.low i g 4 := by
    delta maskBody.sl.Hl_5 maskBody.sl.v887
    rw [View.read_writes_full, View.readCov, View.readAt_full, low3, hgr]
    unfold k0_pay233
    refine (shapeCast_self _ _).trans ?_
    rw [low_run i g 3 (by decide)]
    unfold k0_pay231
    exact congrArg (fun v => ori (Spec.low i g 3) (shli (extui 32 (cmpf .oge v (broadcast S56x384 g)) natLt_1_32) (broadcast S56x384 3#32))) e3
  have low5 : lowM.view.read (Elt F) (lowM.view.writes (Elt F) lowM.view.junk (maskBody.sl.Hl_6 c i arg1 fg)) = Spec.low i g 5 := by
    delta maskBody.sl.Hl_6 maskBody.sl.v1105
    rw [View.read_writes_full, View.readCov, View.readAt_full, low4, hgr]
    unfold k0_pay276
    refine (shapeCast_self _ _).trans ?_
    rw [low_run i g 4 (by decide)]
    unfold k0_pay274
    exact congrArg (fun v => ori (Spec.low i g 4) (shli (extui 32 (cmpf .oge v (broadcast S56x384 g)) natLt_1_32) (broadcast S56x384 4#32))) e4
  have low6 : lowM.view.read (Elt F) (lowM.view.writes (Elt F) lowM.view.junk (maskBody.sl.Hl_7 c i arg1 fg)) = Spec.low i g 6 := by
    delta maskBody.sl.Hl_7 maskBody.sl.v1323
    rw [View.read_writes_full, View.readCov, View.readAt_full, low5, hgr]
    unfold k0_pay319
    refine (shapeCast_self _ _).trans ?_
    rw [low_run i g 5 (by decide)]
    unfold k0_pay317
    exact congrArg (fun v => ori (Spec.low i g 5) (shli (extui 32 (cmpf .oge v (broadcast S56x384 g)) natLt_1_32) (broadcast S56x384 5#32))) e5
  have step : ∀ (k : Fin k0_t1_loop.trips) (u : Unit), inv c i g k u ⊢ wp frame (wpE defs₀ 𝒱₀ (c : Thread nD τ) none) Set.univ
      (k0_t1_body (F := F) i arg1 harg1 arg2 harg2 arg3 harg3 rbufM (Memref.isWhole_whole _) sbufM (Memref.isWhole_whole _) lowM (Memref.isWhole_whole _)
        highM (Memref.isWhole_whole _) accM (Memref.isWhole_whole _) (maskBody.sl.r c arg1 fg) (maskBody.sl.v8 i) (cmpi .slt maskBody.sl.v2 maskBody.sl.v9)
        (cmpi .slt maskBody.sl.v2 maskBody.sl.v11) (cmpi .slt maskBody.sl.v2 maskBody.sl.v13) (maskBody.sl.r_22 i) (maskBody.sl.r_25 i) maskBody.sl.cst_455 k u)
      (inv c i g (k.val + 1)) := fun k u => by
    rw [hgr]
    exact trip_inv c i arg1 harg1 arg2 harg2 arg3 harg3 g _ _ k u
  iapply (Scf.wp_for_bind Idealize.ShloMosaic.frame (wpE defs₀ 𝒱₀ (c : Thread nD τ) none) Set.univ k0_t1_loop.lb k0_t1_loop.ub k0_t1_loop.st k0_t1_ok
    PUnit.unit _ (inv c i g) step) $$ [Hr Hs Hl Hh Ha]
  · unfold inv
    iexists _, _, _, _, _
    isplitr
    swap
    · isplitl [Hr]; · iexact Hr
      isplitl [Hs]; · iexact Hs
      isplitl [Hl]; · iexact Hl
      isplitl [Hh]; · iexact Hh
      iexact Ha
    ipureintro
    rw [hr6, count6, low6, a1, read_slot _ _ 5 rfl, read_slot _ _ 4 rfl, read_slot _ _ 3 rfl, read_slot _ _ 2 rfl, read_slot _ _ 1 rfl, View.writes_nil, t1, t2, t3, t4, t5]
    exact state_puts i g _ _ 6
  iintro %u HI
  unfold inv
  icases HI with ⟨%fr', %fs', %fl', %fh', %fa', %h, Hr, Hs, Hl, Hh, Ha⟩
  sl_exec
  sl_step
  rw [show Scf.trips k0_t1_loop.lb k0_t1_loop.ub k0_t1_loop.st = 50 from by decide] at h
  iexists _, _, _, _, _, _, _
  isplitr
  swap
  · isplitl [Hg]; · iexact Hg
    isplitl [Hp]; · iexact Hp
    isplitl [Hn]; · iexact Hn
    isplitl [Hr]; · iexact Hr
    isplitl [Hs]; · iexact Hs
    isplitl [Hl]; · iexact Hl
    isplitl [Hh]; · iexact Hh
    iexact Ha
  ipureintro
  refine ⟨?_, ?_⟩
  · delta maskBody.sl.Hp_4 maskBody.sl.r_26
    rw [View.read_writes_cons_put _ _ _ _ _ rfl, View.read_writes_cons_put _ _ _ _ _ rfl, View.read_writes_cons_put _ _ _ _ _ rfl,
      View.read_writes_cons_put _ _ _ _ _ rfl, View.writes_nil, View.readAt_unit highM.view _ inb_S56x384_S56x192_0_192 rfl inb_S56x384_S56x192_0_192, View.readAt_unit lowM.view _ inb_S56x384_S56x192_0_192 rfl inb_S56x384_S56x192_0_192,
      View.readAt_unit highM.view _ inb_S56x384_S56x192_0_0 rfl inb_S56x384_S56x192_0_0, View.readAt_unit lowM.view _ inb_S56x384_S56x192_0_0 rfl inb_S56x384_S56x192_0_0, h.low, h.high]
    rfl
  · have hc : maskBody.sl.v1347 i = 1#1 ↔ (i 0).val = 0 := by
      delta maskBody.sl.v1347 maskBody.sl.v1346 maskBody.sl.v1345
      exact firstPoint i
    rw [View.read_writes_full]
    delta maskBody.sl.v1354 maskBody.sl.v1353 maskBody.sl.r_28 maskBody.sl.f
    rw [View.readAt_full, View.readAt_full, h.acc]
    funext j
    refine congrArg (fun v => Scalar.addi v (tally i g)) ?_
    by_cases h0 : (i 0).val = 0
    · rw [if_pos h0, dif_pos (hc.mpr h0), View.read_writes_full]
    · rw [if_neg h0, dif_neg (fun e => h0 (hc.mp e))]
      exact congrArg _ (oneWord _ _)

end Cert.KernelIdeal.Spec
end
-- ==== Proof.Scale.lean ====
module

public import proofs.«01_k».proof.Proof.Trip
import Idealize.ShloMosaic.Lib.Pipeline.Value

@[expose] public section

noncomputable section

namespace Cert.KernelIdeal.Spec
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ
variable (c : Dev nD) (i : grid1.Coords)
  (arg1 : Memref sig .tc .smem S1x1 .i32) (harg1 : arg1.IsWhole) (arg2 : Memref sig .tc .vmem S1x56x56x192 .f32) (harg2 : arg2.IsWhole)
  (arg3 : Memref sig .tc .vmem S1x2x56x192 .i32) (harg3 : arg3.IsWhole) (arg4 : Memref sig .tc .vmem S1x56x56x192 .f32) (harg4 : arg4.IsWhole)

/-- What one point of the scaling kernel stores: from the count `n`, the packed words `w` and the block `x`. -/
def scaled (n : BitVec 32) (w : S1x2x56x192.Idx → BitVec 32) (x : S1x56x56x192.Idx → F .f32) : S1x56x56x192.Idx → F .f32 :=
  k1_pay1 (F := F) n (VecWindow.window w ![0, 0, 0, 0] S1x1x56x192.size inb_S1x2x56x192_S1x1x56x192_0_0_0_0)
    (VecWindow.window w ![0, 1, 0, 0] S1x1x56x192.size inb_S1x2x56x192_S1x1x56x192_0_1_0_0) x

set_option backward.isDefEq.respectTransparency.types false in
/-- One point of the scaling kernel: the output block ends at `scaled`, the rest as found. -/
theorem scaleBody (n : BitVec 32) (fn : Bf (F := F) c arg1) (fx : Bf (F := F) c arg2) (fw : Bf (F := F) c arg3) (fo : Bf (F := F) c arg4)
    (hn : arg1.view.read (Elt F) fn = fun _ => n) :
    iprop(pt c arg1 fn ∗ pt c arg2 fx ∗ pt c arg3 fw ∗ pt c arg4 fo)
    ⊢ wp frame (wpE defs₀ 𝒱₀ (c : Thread nD τ) none) Set.univ
      (cc1__scale_kernel (F := F) i arg1 harg1 arg2 harg2 arg3 harg3 arg4 harg4)
      (fun _ => iprop(∃ fo', ⌜arg4.view.read (Elt F) fo' = scaled (F := F) n (arg3.view.read (Elt F) fw) (arg2.view.read (Elt F) fx)⌝
        ∗ pt c arg1 fn ∗ pt c arg2 fx ∗ pt c arg3 fw ∗ pt c arg4 fo')) := by
  iintro ⟨Hn, Hx, Hw, Ho⟩
  sl_unfold [cc1__scale_kernel]
  sl_exec
  sl_step
  iexists _
  isplitr
  swap
  · isplitl [Hn]; · iexact Hn
    isplitl [Hx]; · iexact Hx
    isplitl [Hw]; · iexact Hw
    iexact Ho
  ipureintro
  have hr : scaleBody.sl.r c arg1 fn = n := by
    delta scaleBody.sl.r
    rw [View.readAt_full, hn]
  rw [View.read_writes_full, hr, View.readAt_full, View.readAt_unit arg3.view _ inb_S1x2x56x192_S1x1x56x192_0_0_0_0 rfl inb_S1x2x56x192_S1x1x56x192_0_0_0_0,
    View.readAt_unit arg3.view _ inb_S1x2x56x192_S1x1x56x192_0_1_0_0 rfl inb_S1x2x56x192_S1x1x56x192_0_1_0_0]
  rfl

end Cert.KernelIdeal.Spec
end
-- ==== Proof.Run.lean ====
module

public import proofs.«01_k».proof.Proof.Body
public import proofs.«01_k».proof.Proof.Scale
public import proofs.«01_k».proof.Proof.Gen.KernelIdeal.Points
public import proofs.«01_k».proof.Proof.Gen.KernelIdeal.Regions
public import Idealize.ShloMosaic.Lib.Pipeline.RegionArraysS
import Idealize.ShloMosaic.Lib.Pipeline.Value

@[expose] public section

noncomputable section

namespace Cert.KernelIdeal.Spec
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
local notation "𝕄" => MT nD τ sig Unit (Elt F) ℕ (UR sig nD τ) ℕ

/-! ## What the two kernels leave -/

/-- The four stores of a point fill its block: what it held before is gone. -/
theorem packed_indep (i : grid0.Coords) (g : Elt F .f32) (x y : S1x2x2x56x192.Idx → BitVec 32) : packed i g x = packed i g y := by
  funext j
  have h0 : (j 0).val = 0 := Nat.lt_one_iff.mp (j 0).isLt
  have h1 : (j 1).val < 2 := (j 1).isLt
  have h2 : (j 2).val < 2 := (j 2).isLt
  have h3 : (j 3).val < 56 := (j 3).isLt
  have h4 : (j 4).val < 192 := (j 4).isLt
  unfold packed VecWindow.put
  split
  · rfl
  · rename_i n1
    split
    · rfl
    · rename_i n2
      split
      · rfl
      · rename_i n3
        split
        · rfl
        · rename_i n4
          exfalso
          have key : ∀ a b : ℕ, a = (j 1).val → b = (j 2).val →
              ∀ k : Fin 5, (![0, a, b, 0, 0] : Fin 5 → ℕ) k ≤ (j k).val ∧ (j k).val < (![0, a, b, 0, 0] : Fin 5 → ℕ) k + S1x1x1x56x192.size k := by
            intro a b ha hb k
            fin_cases k
            · exact ⟨Nat.zero_le _, by show (j 0).val < 0 + 1; omega⟩
            · exact ⟨by show a ≤ (j 1).val; omega, by show (j 1).val < a + 1; omega⟩
            · exact ⟨by show b ≤ (j 2).val; omega, by show (j 2).val < b + 1; omega⟩
            · exact ⟨Nat.zero_le _, by show (j 3).val < 0 + 56; omega⟩
            · exact ⟨Nat.zero_le _, by show (j 4).val < 0 + 192; omega⟩
          have c1 : (j 1).val = 0 ∨ (j 1).val = 1 := by omega
          have c2 : (j 2).val = 0 ∨ (j 2).val = 1 := by omega
          rcases c1 with c1 | c1 <;> rcases c2 with c2 | c2
          · exact n4 (key 0 0 c1.symm c2.symm)
          · exact n3 (key 0 1 c1.symm c2.symm)
          · exact n2 (key 1 0 c1.symm c2.symm)
          · exact n1 (key 1 1 c1.symm c2.symm)

/-- The packed block of a point. -/
def block (i : grid0.Coords) (g : Elt F .f32) : S1x2x2x56x192.Idx → BitVec 32 := packed i g fun _ => 0#32

/-- The kept positions of the first `n` points. -/
def total (g : Elt F .f32) : ℕ → BitVec 32
  | 0 => 0#32
  | n + 1 => Scalar.addi (total g n) (if h : n < grid0.N then tally (grid0.coords ⟨n, h⟩) g else 0#32)

theorem coords0 : ∀ t : Fin grid0.N, (grid0.coords t 0).val = t.val := by decide +kernel

theorem total_succ (g : Elt F .f32) (t : Fin grid0.N) : total g (t.val + 1) = Scalar.addi (total g t.val) (tally (grid0.coords t) g) := by
  rw [total, dif_pos t.isLt]

/-! ## The proof data -/

variable (W0 W1 : Dev nD → Valuation τ sig (Elt F))

/-- The one position of a one-word buffer. -/
def word0 : S1x1.Idx := fun a => ⟨0, by fin_cases a <;> decide⟩

/-- The threshold the first kernel is given. -/
def gate (W : Valuation τ sig (Elt F)) : Elt F .f32 := (W (Proc.devRef .tc main_v3) : S1x1.Idx → F .f32) word0
/-- The count the second kernel is given. -/
def kept (W : Valuation τ sig (Elt F)) : BitVec 32 := (W (Proc.devRef .tc main_v4_1) : S1x1.Idx → BitVec 32) word0

/-- Region 0's data: the threshold as fetched, the packed block, the running count. -/
def dat0 (c : Dev nD) : Dat τ (Elt F) Unit ℕ (UR sig nD τ) ℕ cfg0 c where
  A w := W0 c (Proc.devRef .tc (Pipeline.arrRef spec0 w))
  after w t := match w with
    | ⟨0, _⟩ => fun _ => gate (W0 c)
    | ⟨1, _⟩ => block (grid0.coords t) (gate (W0 c))
    | ⟨2, _⟩ => fun _ => total (gate (W0 c)) (t.val + 1)
  Φ _ := Pipeline.scopedRest (Ix := Unit) (Name := ℕ) (U := UR sig nD τ) (Lvl := ℕ) (Val := Elt F) spec0 c
  q _ := fullShare
  owed _ := 0

/-- An input block of region 1 as its fetch stages it. -/
abbrev inWords (c : Dev nD) (t : Fin cfg1.N) : S1x2x56x192.Idx → BitVec 32 :=
  ((cfg1.win 2).blk t).view.read (Elt F) (W1 c (Proc.devRef .tc (Pipeline.arrRef spec1 2)))
abbrev inX (c : Dev nD) (t : Fin cfg1.N) : S1x56x56x192.Idx → F .f32 :=
  ((cfg1.win 1).blk t).view.read (Elt F) (W1 c (Proc.devRef .tc (Pipeline.arrRef spec1 1)))

/-- Region 1's data: its inputs as fetched, the scaled block. -/
def dat1 (c : Dev nD) : Dat τ (Elt F) Unit ℕ (UR sig nD τ) ℕ cfg1 c where
  A w := W1 c (Proc.devRef .tc (Pipeline.arrRef spec1 w))
  after w t := match w with
    | ⟨0, _⟩ => fun _ => kept (W1 c)
    | ⟨1, _⟩ => inX W1 c t
    | ⟨2, _⟩ => inWords W1 c t
    | ⟨3, _⟩ => scaled (F := F) (kept (W1 c)) (inWords W1 c t) (inX W1 c t)
  Φ _ := Pipeline.scopedRest (Ix := Unit) (Name := ℕ) (U := UR sig nD τ) (Lvl := ℕ) (Val := Elt F) spec1 c
  q _ := fullShare
  owed _ := 0

/-- The two together. -/
def dats : (p : Fin 2) → (c : Dev nD) → Dat τ (Elt F) Unit ℕ (UR sig nD τ) ℕ (cfgs p) c
  | ⟨0, _⟩ => dat0 W0
  | ⟨1, _⟩ => dat1 W1

/-! ## The bodies at a grid point -/

omit [FloatOps F] in
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  obtain ⟨b, rfl, rfl, rfl, h⟩ := hM
  cases h
  unfold owns
  simp only [Memref.view_whole, View.set_whole]

theorem before0_0 (c : Dev nD) (t : Fin cfg0.N) (d) : (dat0 W0 c).before 0 t d = fun _ => gate (W0 c) := by
  refine ((dat0 W0 c).before_in_eq_fetched 0 rfl (fun _ => rfl) (fun _ _ _ => rfl) (fun t => ?_) t d).trans ?_
  · unfold Dat.blockOf
    dsimp only [dat0]
    funext j
    exact congrArg (W0 c (Proc.devRef .tc main_v3) : S1x1.Idx → _) (oneWord word0 _)
  · unfold Dat.fetched Dat.blockOf
    dsimp only [dat0]
    funext j
    exact congrArg (W0 c (Proc.devRef .tc main_v3) : S1x1.Idx → _) (oneWord _ word0)

theorem before0_2 (c : Dev nD) (t : Fin cfg0.N) (d) (j) :
    (if (grid0.coords t 0).val = 0 then 0#32 else (show S1x1.Idx → BitVec 32 from (dat0 W0 c).before 2 t d) j) = total (gate (W0 c)) t.val := by
  rw [coords0]
  by_cases h : t.val = 0
  · rw [if_pos h, h, total]
  · rw [if_neg h, (dat0 W0 c).before_out_acc 2 rfl t h
      (by rw [← Bool.not_eq_true, flush0_2]; have : t.val < 16 := Nat.lt_of_lt_of_eq t.isLt N_0; show ¬ (t.val - 1) % 16 = 15; omega) (fun _ => rfl) d]
    unfold Dat.kept
    dsimp only [dat0]
    show total _ (t.val - 1 + 1) = _
    rw [Nat.sub_add_cancel (by omega)]

theorem before1_0 (c : Dev nD) (t : Fin cfg1.N) (d) : (dat1 W1 c).before 0 t d = fun _ => kept (W1 c) := by
  refine ((dat1 W1 c).before_in_eq_fetched 0 rfl (fun _ => rfl) (fun _ _ _ => rfl) (fun t => ?_) t d).trans ?_
  · unfold Dat.blockOf
    dsimp only [dat1]
    funext j
    exact congrArg (W1 c (Proc.devRef .tc main_v4_1) : S1x1.Idx → _) (oneWord word0 _)
  · unfold Dat.fetched Dat.blockOf
    dsimp only [dat1]
    funext j
    exact congrArg (W1 c (Proc.devRef .tc main_v4_1) : S1x1.Idx → _) (oneWord _ word0)

theorem before1_1 (c : Dev nD) (t : Fin cfg1.N) (d) : (dat1 W1 c).before 1 t d = inX W1 c t := by
  rw [(dat1 W1 c).before_fetched 1 t (fetch1_1 t)]
  unfold Dat.fetched Dat.blockOf
  dsimp only [dat1]
  rfl

theorem before1_2 (c : Dev nD) (t : Fin cfg1.N) (d) : (dat1 W1 c).before 2 t d = inWords W1 c t := by
  rw [(dat1 W1 c).before_fetched 2 t (fetch1_2 t)]
  unfold Dat.fetched Dat.blockOf
  dsimp only [dat1]
  rfl

theorem phi0 (c : Dev nD) (t) : (dat0 W0 c).Φ t = Pipeline.scopedRest spec0 c := by dsimp only [dat0]
theorem owed0 (c : Dev nD) (t) : (dat0 W0 c).owed t = 0 := by dsimp only [dat0]
theorem phi1 (c : Dev nD) (t) : (dat1 W1 c).Φ t = Pipeline.scopedRest spec1 c := by dsimp only [dat1]
theorem owed1 (c : Dev nD) (t) : (dat1 W1 c).owed t = 0 := by dsimp only [dat1]
theorem after0_0 (c : Dev nD) (t) : (dat0 W0 c).after 0 t = fun _ => gate (W0 c) := by dsimp only [dat0]
theorem after0_1 (c : Dev nD) (t) : (dat0 W0 c).after 1 t = block (grid0.coords t) (gate (W0 c)) := by dsimp only [dat0]
theorem after0_2 (c : Dev nD) (t) : (dat0 W0 c).after 2 t = fun _ => total (gate (W0 c)) (t.val + 1) := by dsimp only [dat0]
theorem after1_0 (c : Dev nD) (t) : (dat1 W1 c).after 0 t = fun _ => kept (W1 c) := by dsimp only [dat1]
theorem after1_1 (c : Dev nD) (t) : (dat1 W1 c).after 1 t = inX W1 c t := by dsimp only [dat1]
theorem after1_2 (c : Dev nD) (t) : (dat1 W1 c).after 2 t = inWords W1 c t := by dsimp only [dat1]
theorem after1_3 (c : Dev nD) (t) : (dat1 W1 c).after 3 t = scaled (F := F) (kept (W1 c)) (inWords W1 c t) (inX W1 c t) := by dsimp only [dat1]

set_option maxHeartbeats 1000000 in
set_option backward.isDefEq.respectTransparency.types false in
theorem bodyObligation0 (c : Dev nD) : BodyObligation (dat0 W0 c) (defs₀ (F := F)) 𝒱₀ () Set.univ := fun t => by
  rw [bigSep_W0, bigSep_W0, phi0, phi0, scopedRest0_eq]
  unfold Dat.owesAt Pipeline.owesWithin
  rw [owed0, owed0]
  iintro ⟨⟨⟨%f0, S0⟩, ⟨%f1, S1⟩, ⟨%f2, S2⟩, ⟨%f3, S3⟩, ⟨%f4, S4⟩, HR⟩, ⟨%W, %hW, HO⟩, ⟨%d0, H0⟩, ⟨%d1, H1⟩, ⟨%d2, H2⟩⟩
  ihave H0 := (Entails.of_eq (owns_pt c (win0_0.stage (cfg0.slots t 0)) (hstage0_0 ((cfg0.slots t 0).cast nbuf0_0)) _)) $$ H0
  ihave H1 := (Entails.of_eq (owns_pt c (win0_1.stage (cfg0.slots t 1)) (hstage0_1 ((cfg0.slots t 1).cast nbuf0_1)) _)) $$ H1
  ihave H2 := (Entails.of_eq (owns_pt c (win0_2.stage (cfg0.slots t 2)) (hstage0_2 ((cfg0.slots t 2).cast nbuf0_2)) _)) $$ H2
  icases H0 with ⟨%g0, %e0, H0⟩
  icases H1 with ⟨%g1, %e1, H1⟩
  icases H2 with ⟨%g2, %e2, H2⟩
  rw [before0_0] at e0
  have hb := maskBody c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (gate (W0 c)) g0 g1 g2 e0 f0 f1 f2 f3 f4
  ihave HW := hb $$ [H0 H1 H2 S0 S1 S2 S3 S4]
  · isplitl [H0]; · iexact H0
    isplitl [H1]; · iexact H1
    isplitl [H2]; · iexact H2
    isplitl [S0]; · iexact S0
    isplitl [S1]; · iexact S1
    isplitl [S2]; · iexact S2
    isplitl [S3]; · iexact S3
    iexact S4
  iapply (wp_wand Idealize.ShloMosaic.frame (wpE defs₀ 𝒱₀ (c : Thread nD τ) none) Set.univ) $$ HW
  iintro %u ⟨%p1, %p2, %q0, %q1, %q2, %q3, %q4, %h, H0, H1, H2, S0, S1, S2, S3, S4⟩
  obtain ⟨h1, h2⟩ := h
  isplitl [HR S0 S1 S2 S3 S4]
  · isplitl [S0]; · iexists _; iexact S0
    isplitl [S1]; · iexists _; iexact S1
    isplitl [S2]; · iexists _; iexact S2
    isplitl [S3]; · iexists _; iexact S3
    isplitl [S4]; · iexists _; iexact S4
    iexact HR
  isplitl [HO]
  · iexists W; isplitr; · ipureintro; exact fun _ _ => Or.inl trivial
    iexact HO
  isplitl [H0]
  · iapply (Entails.of_eq (owns_pt c (win0_0.stage (cfg0.slots t 0)) (hstage0_0 ((cfg0.slots t 0).cast nbuf0_0)) ((dat0 W0 c).after 0 t)).symm)
    iexists g0
    isplitr; · ipureintro; rw [after0_0]; exact e0
    iexact H0
  isplitl [H1]
  · iapply (Entails.of_eq (owns_pt c (win0_1.stage (cfg0.slots t 1)) (hstage0_1 ((cfg0.slots t 1).cast nbuf0_1)) ((dat0 W0 c).after 1 t)).symm)
    iexists p1
    isplitr; · ipureintro; rw [after0_1]; exact h1.trans (packed_indep _ _ _ _)
    iexact H1
  iapply (Entails.of_eq (owns_pt c (win0_2.stage (cfg0.slots t 2)) (hstage0_2 ((cfg0.slots t 2).cast nbuf0_2)) ((dat0 W0 c).after 2 t)).symm)
  iexists p2
  isplitr
  · ipureintro
    rw [after0_2, total_succ]
    refine h2.trans (funext fun j => ?_)
    rw [e2, ← before0_2 W0 c t d2 j]
  iexact H2

set_option maxHeartbeats 1000000 in
set_option backward.isDefEq.respectTransparency.types false in
theorem bodyObligation1 (c : Dev nD) : BodyObligation (dat1 W1 c) (defs₀ (F := F)) 𝒱₀ () Set.univ := fun t => by
  rw [bigSep_W1, bigSep_W1, phi1, phi1]
  unfold Dat.owesAt Pipeline.owesWithin
  rw [owed1, owed1]
  iintro ⟨HR, ⟨%W, %hW, HO⟩, ⟨%d0, H0⟩, ⟨%d1, H1⟩, ⟨%d2, H2⟩, ⟨%d3, H3⟩⟩
  ihave H0 := (Entails.of_eq (owns_pt c (win1_0.stage (cfg1.slots t 0)) (hstage1_0 ((cfg1.slots t 0).cast nbuf1_0)) _)) $$ H0
  ihave H1 := (Entails.of_eq (owns_pt c (win1_1.stage (cfg1.slots t 1)) (hstage1_1 ((cfg1.slots t 1).cast nbuf1_1)) _)) $$ H1
  ihave H2 := (Entails.of_eq (owns_pt c (win1_2.stage (cfg1.slots t 2)) (hstage1_2 ((cfg1.slots t 2).cast nbuf1_2)) _)) $$ H2
  ihave H3 := (Entails.of_eq (owns_pt c (win1_3.stage (cfg1.slots t 3)) (hstage1_3 ((cfg1.slots t 3).cast nbuf1_3)) _)) $$ H3
  icases H0 with ⟨%g0, %e0, H0⟩
  icases H1 with ⟨%g1, %e1, H1⟩
  icases H2 with ⟨%g2, %e2, H2⟩
  icases H3 with ⟨%g3, %e3, H3⟩
  rw [before1_0] at e0
  rw [before1_1] at e1
  rw [before1_2] at e2
  have hb := scaleBody c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
    (kept (W1 c)) g0 g1 g2 g3 e0
  ihave HW := hb $$ [H0 H1 H2 H3]
  · isplitl [H0]; · iexact H0
    isplitl [H1]; · iexact H1
    isplitl [H2]; · iexact H2
    iexact H3
  iapply (wp_wand Idealize.ShloMosaic.frame (wpE defs₀ 𝒱₀ (c : Thread nD τ) none) Set.univ) $$ HW
  iintro %u ⟨%p3, %h, H0, H1, H2, H3⟩
  isplitl [HR]; · iexact HR
  isplitl [HO]
  · iexists W; isplitr; · ipureintro; exact fun _ _ => Or.inl trivial
    iexact HO
  isplitl [H0]
  · iapply (Entails.of_eq (owns_pt c (win1_0.stage (cfg1.slots t 0)) (hstage1_0 ((cfg1.slots t 0).cast nbuf1_0)) ((dat1 W1 c).after 0 t)).symm)
    iexists g0
    isplitr; · ipureintro; rw [after1_0]; exact e0
    iexact H0
  isplitl [H1]
  · iapply (Entails.of_eq (owns_pt c (win1_1.stage (cfg1.slots t 1)) (hstage1_1 ((cfg1.slots t 1).cast nbuf1_1)) ((dat1 W1 c).after 1 t)).symm)
    iexists g1
    isplitr; · ipureintro; rw [after1_1]; exact e1
    iexact H1
  isplitl [H2]
  · iapply (Entails.of_eq (owns_pt c (win1_2.stage (cfg1.slots t 2)) (hstage1_2 ((cfg1.slots t 2).cast nbuf1_2)) ((dat1 W1 c).after 2 t)).symm)
    iexists g2
    isplitr; · ipureintro; rw [after1_2]; exact e2
    iexact H2
  iapply (Entails.of_eq (owns_pt c (win1_3.stage (cfg1.slots t 3)) (hstage1_3 ((cfg1.slots t 3).cast nbuf1_3)) ((dat1 W1 c).after 3 t)).symm)
  iexists p3
  isplitr
  · ipureintro
    rw [after1_3]
    refine h.trans ?_
    rw [e1, e2]
  iexact H3

end Cert.KernelIdeal.Spec
end
-- ==== Proof.Launched.lean ====
module

public import proofs.«01_k».proof.Proof.Run

@[expose] public section

noncomputable section

namespace Cert.KernelIdeal.Spec
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The buffers' contents between the items -/

/-- What the first region leaves. -/
def outsA : Outs (F := F) := fun _ r c => Pipeline.afterRegion (dat0 (V1 m) c) (V1 m c) (Proc.devRef .tc r)

/-- What the two regions leave. -/
def outs : Outs (F := F) := fun J r c =>
  match J with
  | 2 => outsA m 2 r c
  | _ => Pipeline.afterRegion (dat1 (V3 m (outsA m)) c) (V3 m (outsA m) c) (Proc.devRef .tc r)

theorem V2_outs (c : Dev nD) : V2 m (outs m) c = V2 m (outsA m) c := by simp only [V2, outs]
theorem V3_outs (c : Dev nD) : V3 m (outs m) c = V3 m (outsA m) c := congrArg (StableHlo.after hostOps1) (V2_outs m c)

theorem V2_region (c : Dev nD) (r : Ref sig .tc) : V2 m (outs m) c r = Pipeline.afterRegion (dat0 (V1 m) c) (V1 m c) (Proc.devRef .tc r) := by
  by_cases h0 : r = main_v4_0
  · subst h0
    rw [V2, Function.update_of_ne (StableHlo.devRef_ne_of_ne (by decide)), Function.update_self]
    rfl
  by_cases h1 : r = main_v4_1
  · subst h1
    rw [V2, Function.update_self]
    rfl
  rw [V2_of m (outs m) c r (by simp only [List.mem_cons, List.not_mem_nil, or_false, not_or]; exact ⟨h0, h1⟩)]
  refine (Pipeline.afterRegion_keeps (dat0 (V1 m) c) (V1 m c) winFacts0.arr_inj (fun w => by dsimp only [dat0]) r fun w hw => ?_).symm
  match w, hw with
  | ⟨0, _⟩, _ => rfl
  | ⟨1, _⟩, hw => exact absurd hw.symm h0
  | ⟨2, _⟩, hw => exact absurd hw.symm h1

theorem V4_region (c : Dev nD) (r : Ref sig .tc) :
    V4 m (outs m) c r = Pipeline.afterRegion (dat1 (V3 m (outs m)) c) (V3 m (outs m) c) (Proc.devRef .tc r) := by
  have e : (V3 m (outs m) : Dev nD → Valuation τ sig (Elt F)) = V3 m (outsA m) := funext fun c => V3_outs m c
  by_cases h0 : r = main_v6
  · subst h0
    rw [V4, Function.update_self, e]
    rfl
  rw [V4_of m (outs m) c r (by simp only [List.mem_cons, List.not_mem_nil, or_false]; exact h0)]
  refine (Pipeline.afterRegion_keeps (dat1 (V3 m (outs m)) c) (V3 m (outs m) c) winFacts1.arr_inj (fun w => by dsimp only [dat1]) r fun w hw => ?_).symm
  match w, hw with
  | ⟨0, _⟩, _ => rfl
  | ⟨1, _⟩, _ => rfl
  | ⟨2, _⟩, _ => rfl
  | ⟨3, _⟩, hw => exact absurd hw.symm h0

/-! ## The regions as segments -/

/-- Every wait is at the one level. -/
abbrev L : GSem nD τ sig → Finset Unit := fun g => if g.1.2 = .tc then {()} else ∅
abbrev lv : GSem nD τ sig → Unit → ℕ := fun _ _ => 0
/-- Beside the buffers: the core owes nothing. -/
abbrev E : Fin 3 → Dev nD → sProp 𝕄 := fun _ c => iprop(∃ W, owes (c : Thread nD τ) (0 : CellTallies nD τ sig Unit) W)

abbrev pdats : (p : Fin 2) → (c : Dev nD) → Dat τ (Elt F) Unit ℕ (UR sig nD τ) ℕ (cfgs p) c := dats (V1 m) (V3 m (outs m))

theorem cut (p : Fin 2) : Pipeline.LevelCut (pcfgs (F := F)) adm () L lv p (fun _ : Dev nD => (0 : CellTallies nD τ sig Unit)) (fun _ => (0 : ℕ)) where
  hι c w s := by simp [L]
  hιb c w s := le_refl _
  hD c g i h := absurd h (by simp)

theorem share_full0 (c : Dev nD) (w) : (pdats m 0 c).share w = fullShare := (pdats m 0 c).share_full (fun _ => by dsimp only [pdats, dats, dat0]) w
theorem share_full1 (c : Dev nD) (w) : (pdats m 1 c).share w = fullShare := (pdats m 1 c).share_full (fun _ => by dsimp only [pdats, dats, dat1]) w

omit [FloatOps F] in
theorem add_emp (A : sProp 𝕄) : A ⊢ iprop(A ∗ emp) := by
  iintro H
  isplitl [H]; · iexact H
  iempintro

set_option backward.isDefEq.respectTransparency.types false in
/-- The mask kernel's region, between the host operations around it. -/
def reg0 : RegionSeg (pcfgs (F := F)) adm (pdats m) () defs₀ 𝒱₀ L lv 0 :=
  RegionSeg.ofHeldIn (pcfgs (F := F)) adm (pdats m) () defs₀ 𝒱₀ L lv 0 (fun _ => 0) (Pipeline.ucRefs τ sig) (fun _ => iprop(emp)) (fun _ => iprop(emp))
    launch0.toP rfl (fun c => (bodyObligation0 (V1 m) c).loose) (fun c t => owed0 (V1 m) c t) (fun c => by dsimp only [pdats, dats, dat0]) (share_full0 m)
    (fun c => by rw [show (pdats m 0 c).Φ 0 = _ from phi0 (V1 m) c 0]; iintro ⟨H, -⟩; iexact H)
    (fun c => (Entails.of_eq (phi0 (V1 m) c _)).trans (add_emp _))
    (fun _ => 0) (cut 0) (fun _ => iprop(emp)) (V1 m) (fun c w => by dsimp only [pdats, dats, dat0, Dat.arrAt]; rfl)

set_option backward.isDefEq.respectTransparency.types false in
/-- The scaling kernel's region. -/
def reg1 : RegionSeg (pcfgs (F := F)) adm (pdats m) () defs₀ 𝒱₀ L lv 1 :=
  RegionSeg.ofHeldIn (pcfgs (F := F)) adm (pdats m) () defs₀ 𝒱₀ L lv 1 (fun _ => 0) (Pipeline.ucRefs τ sig) (fun _ => iprop(emp)) (fun _ => iprop(emp))
    launch1.toP rfl (fun c => (bodyObligation1 (V3 m (outs m)) c).loose) (fun c t => owed1 (V3 m (outs m)) c t) (fun c => by dsimp only [pdats, dats, dat1]) (share_full1 m)
    (fun c => by rw [show (pdats m 1 c).Φ 0 = _ from phi1 (V3 m (outs m)) c 0]; iintro ⟨H, -⟩; iexact H)
    (fun c => (Entails.of_eq (phi1 (V3 m (outs m)) c _)).trans (add_emp _))
    (fun _ => 0) (cut 1) (fun _ => iprop(emp)) (V3 m (outs m)) (fun c w => by dsimp only [pdats, dats, dat1, Dat.arrAt]; rfl)

omit [FloatOps F] in
/-- Two valuations that agree on the TensorCore's references hold the same buffers. -/
theorem held_agree (c : Dev nD) (V V' : Valuation τ sig (Elt F)) (h : ∀ r : Ref sig .tc, V r = V' r) :
    (StableHlo.held (c : Thread nD τ) (Pipeline.ucRefs τ sig) V : sProp 𝕄) = StableHlo.held (c : Thread nD τ) (Pipeline.ucRefs τ sig) V' := by
  refine StableHlo.held_congr (c : Thread nD τ) fun b hb => ?_
  obtain ⟨r, -, rfl⟩ := Finset.mem_map.mp (Finset.mem_filter.mp hb).1
  exact h r

theorem pre0 (c : Dev nD) : iprop(StableHlo.held (c : Thread nD τ) (Pipeline.ucRefs τ sig) (V1 m c) ∗ E 0 c) ⊢ (reg0 m).pre c := by
  have hS : Pipeline.arrRefs (τ := τ) (pcfgs (F := F) 0).spec ⊆ Pipeline.ucRefs τ sig := Pipeline.arrRefs_sub_ucRefs spec0 (by decide)
  unfold reg0
  refine BIBase.Entails.trans ?_ (RegionSeg.ofHeldIn_pre hS c)
  iintro ⟨H, HO⟩
  isplitl [H]; · iexact H
  isplitl [HO]; · iexact HO
  isplitl <;> iempintro

theorem post0 (c : Dev nD) : (reg0 m).post c ⊢ iprop(StableHlo.held (c : Thread nD τ) (Pipeline.ucRefs τ sig) (V2 m (outs m) c) ∗ E 1 c) := by
  have hS : Pipeline.arrRefs (τ := τ) (pcfgs (F := F) 0).spec ⊆ Pipeline.ucRefs τ sig := Pipeline.arrRefs_sub_ucRefs spec0 (by decide)
  unfold reg0
  refine (RegionSeg.ofHeldIn_post hS c).trans ?_
  rw [held_agree c (V2 m (outs m) c) _ (V2_region m c)]
  iintro ⟨H, HO, -⟩
  isplitl [H]; · iexact H
  iexact HO

theorem pre1 (c : Dev nD) : iprop(StableHlo.held (c : Thread nD τ) (Pipeline.ucRefs τ sig) (V3 m (outs m) c) ∗ E 1 c) ⊢ (reg1 m).pre c := by
  have hS : Pipeline.arrRefs (τ := τ) (pcfgs (F := F) 1).spec ⊆ Pipeline.ucRefs τ sig := Pipeline.arrRefs_sub_ucRefs spec1 (by decide)
  unfold reg1
  refine BIBase.Entails.trans ?_ (RegionSeg.ofHeldIn_pre hS c)
  iintro ⟨H, HO⟩
  isplitl [H]; · iexact H
  isplitl [HO]; · iexact HO
  isplitl <;> iempintro

theorem post1 (c : Dev nD) : (reg1 m).post c ⊢ iprop(StableHlo.held (c : Thread nD τ) (Pipeline.ucRefs τ sig) (V4 m (outs m) c) ∗ E 2 c) := by
  have hS : Pipeline.arrRefs (τ := τ) (pcfgs (F := F) 1).spec ⊆ Pipeline.ucRefs τ sig := Pipeline.arrRefs_sub_ucRefs spec1 (by decide)
  unfold reg1
  refine (RegionSeg.ofHeldIn_post hS c).trans ?_
  rw [held_agree c (V4 m (outs m) c) _ (V4_region m c)]
  iintro ⟨H, HO, -⟩
  isplitl [H]; · iexact H
  iexact HO

/-! ## The run -/

/-- What an execution ends with: the arguments as launched, the result at the last valuation. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_v7) = V5 m (outs m) c main_v7

set_option backward.isDefEq.respectTransparency.types false in
/-- Every execution of the program ends so, with every semaphore counter at zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, pre0 m c, post0 m c, pre1 m c, post1 m c, .rfl⟩)
    (hinit := ?_) (QY := fun c s => Ends m c s)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells (Pipeline.pin (pcfgs (F := F)) adm) cellOf_inj)
        (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have u : ∀ r : Ref sig .tc, (Proc.devRef (τ := τ) .tc r).isScoped = false → Proc.devRef (τ := τ) .tc r ∈ Pipeline.ucRefs τ sig := fun r hr =>
        Finset.mem_filter.mpr ⟨StableHlo.devRef_mem_tcRefs r, by rw [hr]; decide⟩
      exact ⟨(h _ (u main_arg0 rfl)).trans (V5_main_arg0 m (outs m) c), (h _ (u main_arg1 rfl)).trans (V5_main_arg1 m (outs m) c), h _ (u main_v7 rfl)⟩
    · iexact HSI

end Cert.KernelIdeal.Spec
end
-- ==== Proof.RefRun.lean ====
/-
  The plain reference's run. It is one straight line of host operations, each writing a buffer of its own, read only
  later; so at the end every buffer holds its operation applied to what the operands hold at the end.
-/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.Quiescent

@[expose] public section

set_option maxRecDepth 65536

noncomputable section

namespace Cert.ReferenceIdeal.Run

open Idealize.ShloMosaic Idealize.ShloMosaic.TcCoe Idealize.ShloMosaic.StableHlo
open Idealize.SL.Sem
open Cert.ReferenceIdeal Cert.ReferenceIdeal.Gen

variable {F : FTy → Type} [FloatOps F]

/-! ## A line that writes each buffer once -/

/-- A buffer's place in the memory it lives in: the reference's values are laid out in the order they are computed. -/
abbrev place (r : Ref sig .tc) : ℕ := r.idx.val

/-- A line whose operations write buffers of rising place, from `n` on, and read only buffers placed before. -/
inductive Rising : ℕ → List (HloOp τ sig (Elt F)) → Prop
  | nil {n} : Rising n []
  | nullary {n ops} (y : Ref sig .tc) (v) (hy) (hn : n ≤ place y) (h : Rising (place y + 1) ops) :
      Rising n (nullary y v hy :: ops)
  | unary {n ops} (x y : Ref sig .tc) (f) (hx hy) (hn : n ≤ place y) (ha : place x < place y)
      (h : Rising (place y + 1) ops) : Rising n (unary x y f hx hy :: ops)
  | binary {n ops} (a b y : Ref sig .tc) (f) (ha hb hy) (hn : n ≤ place y) (h1 : place a < place y)
      (h2 : place b < place y) (h : Rising (place y + 1) ops) : Rising n (binary a b y f ha hb hy :: ops)
  | reshape {n ops} (x y : Ref sig .tc) (he hs hx hy) (hn : n ≤ place y) (ha : place x < place y)
      (h : Rising (place y + 1) ops) : Rising n (reshape x y he hs hx hy :: ops)

theorem ne_of_place {r y : Ref sig .tc} (h : place r < place y) : r ≠ y := fun e => absurd h (by rw [e]; exact lt_irrefl _)

/-- Such a line leaves the buffers placed before it alone. -/
theorem Rising.keeps {n : ℕ} {ops : List (HloOp τ sig (Elt F))} (h : Rising n ops) :
    ∀ (V : Valuation τ sig (Elt F)) (r : Ref sig .tc), place r < n →
      after ops V (Proc.devRef .tc r) = V (Proc.devRef .tc r) := by
  induction h with
  | nil => exact fun V r _ => rfl
  | nullary y v hy hn h ih =>
    exact fun V r hr => (ih _ r (by omega)).trans (nullary_result_ne _ _ _ _ (ne_of_place (by omega)))
  | unary x y f hx hy hn ha h ih =>
    exact fun V r hr => (ih _ r (by omega)).trans (unary_result_ne _ _ _ _ _ _ (ne_of_place (by omega)))
  | binary a b y f ha hb hy hn h1 h2 h ih =>
    exact fun V r hr => (ih _ r (by omega)).trans (binary_result_ne _ _ _ _ _ _ _ _ (ne_of_place (by omega)))
  | reshape x y he hs hx hy hn ha h ih =>
    exact fun V r hr => (ih _ r (by omega)).trans (reshape_result_ne _ _ _ _ _ _ _ (ne_of_place (by omega)))

/-- At the end, every buffer the line writes holds its operation applied to what the operands hold at the end. -/
theorem Rising.holds {n : ℕ} {ops : List (HloOp τ sig (Elt F))} (h : Rising n ops) :
    ∀ (V : Valuation τ sig (Elt F)) (k : ℕ) (op : HloOp τ sig (Elt F)) (y : Ref sig .tc), ops[k]? = some op →
      op.writes = {Proc.devRef .tc y} →
        after ops V (Proc.devRef .tc y) = op.result (after ops V) (Proc.devRef .tc y) := by
  have key : ∀ (y z : Ref sig .tc), ({Proc.devRef .tc y} : Finset (DevRef τ sig)) = {Proc.devRef .tc z} → y = z :=
    fun y z e => Proc.devRef_injective _ (Finset.singleton_injective e)
  induction h with
  | nil => exact fun V k op y hk => nomatch hk
  | nullary y v hy hn h ih =>
    rintro V (_ | k) op z hk hw
    · cases hk; obtain rfl := key _ _ hw
      rw [after_cons, h.keeps _ _ (Nat.lt_succ_self _), nullary_result', nullary_result']
    · exact ih _ k op z hk hw
  | unary x y f hx hy hn ha h ih =>
    rintro V (_ | k) op z hk hw
    · cases hk; obtain rfl := key _ _ hw
      rw [after_cons, h.keeps _ _ (Nat.lt_succ_self _), unary_result', unary_result', h.keeps _ x (by omega),
        unary_result_ne _ _ _ _ _ _ (ne_of_place ha)]
    · exact ih _ k op z hk hw
  | binary a b y f ha hb hy hn h1 h2 h ih =>
    rintro V (_ | k) op z hk hw
    · cases hk; obtain rfl := key _ _ hw
      rw [after_cons, h.keeps _ _ (Nat.lt_succ_self _), binary_result', binary_result', h.keeps _ a (by omega),
        h.keeps _ b (by omega), binary_result_ne _ _ _ _ _ _ _ _ (ne_of_place h1),
        binary_result_ne _ _ _ _ _ _ _ _ (ne_of_place h2)]
    · exact ih _ k op z hk hw
  | reshape x y he hs hx hy hn ha h ih =>
    rintro V (_ | k) op z hk hw
    · cases hk; obtain rfl := key _ _ hw
      rw [after_cons, h.keeps _ _ (Nat.lt_succ_self _), reshape_result', reshape_result', h.keeps _ x (by omega),
        reshape_result_ne _ _ _ _ _ _ _ (ne_of_place ha)]
    · exact ih _ k op z hk hw

/-! ## The reference's line -/

/-- The reference's operations, in order. -/
def ops : List (HloOp τ sig (Elt F)) := [
  nullary main_c (constantI S_ 32 42#32),
  nullary main_c_0 (constantI S_ 32 32#32),
  binary main_c main_c_0 main_v0 (Host.shrui : (⟨S_, .i32⟩ : BufTy).Contents (Elt F) → (⟨S_, .i32⟩ : BufTy).Contents (Elt F) → (⟨S_, .i32⟩ : BufTy).Contents (Elt F)),
  unary main_v0 main_v1 (id : (⟨S_, .i32⟩ : BufTy).Contents (Elt F) → (⟨S_, .i32⟩ : BufTy).Contents (Elt F)),
  unary main_v1 main_v2 (broadcastInDim S1 ![] bcast_S_S1 : (⟨S_, .i32⟩ : BufTy).Contents (Elt F) → (⟨S1, .i32⟩ : BufTy).Contents (Elt F)),
  nullary main_c_1 (constantI S_ 32 4294967295#32),
  binary main_c main_c_1 main_v3 (andi : (⟨S_, .i32⟩ : BufTy).Contents (Elt F) → (⟨S_, .i32⟩ : BufTy).Contents (Elt F) → (⟨S_, .i32⟩ : BufTy).Contents (Elt F)),
  unary main_v3 main_v4 (id : (⟨S_, .i32⟩ : BufTy).Contents (Elt F) → (⟨S_, .i32⟩ : BufTy).Contents (Elt F)),
  unary main_v4 main_v5 (broadcastInDim S1 ![] bcast_S_S1 : (⟨S_, .i32⟩ : BufTy).Contents (Elt F) → (⟨S1, .i32⟩ : BufTy).Contents (Elt F)),
  binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  nullary main_cst (constant S_ .f32 0x00000000#32),
  nullary main_cst_2 (constant S_ .f32 0x3F800000#32),
  unary main_cst main_call0_v0 id,
  unary main_cst_2 main_call0_v1 id,
  unary main_call0_v0 main_call0_v2 (broadcastInDim S1x1x1x1 ![] bcast_S_S1x1x1x1),
  unary main_call0_v1 main_call0_v3 (broadcastInDim S1x1x1x1 ![] bcast_S_S1x1x1x1),
  unary main_v6 main_call0_v4 (extractStridedSlice S1 ![0] · slices_S2_S1_0),
  reshape main_call0_v4 main_call0_v5 (rfl : (.i32 : EltTy) = .i32) shapeCasts_S1_S_,
  unary main_v6 main_call0_v6 (extractStridedSlice S1 ![1] · slices_S2_S1_1),
  reshape main_call0_v6 main_call0_v7 (rfl : (.i32 : EltTy) = .i32) shapeCasts_S1_S_,
  nullary main_call0_v8 (iotaInDim S32x192x56x56 64 0),
  nullary main_call0_v9 (iotaInDim S32x192x56x56 64 1),
  nullary main_call0_v10 (iotaInDim S32x192x56x56 64 2),
  nullary main_call0_v11 (iotaInDim S32x192x56x56 64 3),
  nullary main_call0_c (constantI S_ 64 602112#64),
  unary main_call0_c main_call0_v12 (broadcastInDim S32x192x56x56 ![] bcast_S_S32x192x56x56),
  binary main_call0_v12 main_call0_v8 main_call0_v13 muli,
  nullary main_call0_c_0 (constantI S_ 64 3136#64),
  unary main_call0_c_0 main_call0_v14 (broadcastInDim S32x192x56x56 ![] bcast_S_S32x192x56x56),
  binary main_call0_v14 main_call0_v9 main_call0_v15 muli,
  nullary main_call0_c_1 (constantI S_ 64 56#64),
  unary main_call0_c_1 main_call0_v16 (broadcastInDim S32x192x56x56 ![] bcast_S_S32x192x56x56),
  binary main_call0_v16 main_call0_v10 main_call0_v17 muli,
  nullary main_call0_c_2 (constantI S_ 64 1#64),
  unary main_call0_c_2 main_call0_v18 (broadcastInDim S32x192x56x56 ![] bcast_S_S32x192x56x56),
  binary main_call0_v18 main_call0_v11 main_call0_v19 muli,
  binary main_call0_v13 main_call0_v15 main_call0_v20 addi,
  binary main_call0_v20 main_call0_v17 main_call0_v21 addi,
  binary main_call0_v21 main_call0_v19 main_call0_v22 addi,
  nullary main_call0_c_3 (constantI S_ 64 32#64),
  unary main_call0_c_3 main_call0_v23 (broadcastInDim S32x192x56x56 ![] bcast_S_S32x192x56x56),
  binary main_call0_v22 main_call0_v23 main_call0_v24 Host.shrui,
  unary main_call0_v22 main_call0_v25 (trunci 32 · natLt_32_64),
  unary main_call0_v24 main_call0_v26 (trunci 32 · natLt_32_64),
  binary main_call0_v5 main_call0_v7 main_call0_call0_v0 xori,
  nullary main_call0_call0_c (constantI S_ 32 466688986#32),
  binary main_call0_call0_v0 main_call0_call0_c main_call0_call0_v1 xori,
  unary main_call0_v5 main_call0_call0_v2 (broadcastInDim S32x192x56x56 ![] bcast_S_S32x192x56x56),
  binary main_call0_v26 main_call0_call0_v2 main_call0_call0_v3 addi,
  unary main_call0_v7 main_call0_call0_v4 (broadcastInDim S32x192x56x56 ![] bcast_S_S32x192x56x56),
  binary main_call0_v25 main_call0_call0_v4 main_call0_call0_v5 addi,
  binary main_call0_call0_v3 main_call0_call0_v5 main_call0_call0_v6 addi,
  nullary main_call0_call0_c_0 (constantI S_ 32 13#32),
  unary main_call0_call0_c_0 main_call0_call0_v7 (broadcastInDim S32x192x56x56 ![] bcast_S_S32x192x56x56),
  binary main_call0_call0_v5 main_call0_call0_v7 main_call0_call0_v8 Host.shli,
  nullary main_call0_call0_c_1 (constantI S_ 32 19#32),
  unary main_call0_call0_c_1 main_call0_call0_v9 (broadcastInDim S32x192x56x56 ![] bcast_S_S32x192x56x56),
  binary main_call0_call0_v5 main_call0_call0_v9 main_call0_call0_v10 Host.shrui,
  binary main_call0_call0_v8 main_call0_call0_v10 main_call0_call0_v11 ori,
  binary main_call0_call0_v6 main_call0_call0_v11 main_call0_call0_v12 xori,
  binary main_call0_call0_v6 main_call0_call0_v12 main_call0_call0_v13 addi,
  nullary main_call0_call0_c_2 (constantI S_ 32 15#32),
  unary main_call0_call0_c_2 main_call0_call0_v14 (broadcastInDim S32x192x56x56 ![] bcast_S_S32x192x56x56),
  binary main_call0_call0_v12 main_call0_call0_v14 main_call0_call0_v15 Host.shli,
  nullary main_call0_call0_c_3 (constantI S_ 32 17#32),
  unary main_call0_call0_c_3 main_call0_call0_v16 (broadcastInDim S32x192x56x56 ![] bcast_S_S32x192x56x56),
  binary main_call0_call0_v12 main_call0_call0_v16 main_call0_call0_v17 Host.shrui,
  binary main_call0_call0_v15 main_call0_call0_v17 main_call0_call0_v18 ori,
  binary main_call0_call0_v13 main_call0_call0_v18 main_call0_call0_v19 xori,
  binary main_call0_call0_v13 main_call0_call0_v19 main_call0_call0_v20 addi,
  nullary main_call0_call0_c_4 (constantI S_ 32 26#32),
  unary main_call0_call0_c_4 main_call0_call0_v21 (broadcastInDim S32x192x56x56 ![] bcast_S_S32x192x56x56),
  binary main_call0_call0_v19 main_call0_call0_v21 main_call0_call0_v22 Host.shli,
  nullary main_call0_call0_c_5 (constantI S_ 32 6#32),
  unary main_call0_call0_c_5 main_call0_call0_v23 (broadcastInDim S32x192x56x56 ![] bcast_S_S32x192x56x56),
  binary main_call0_call0_v19 main_call0_call0_v23 main_call0_call0_v24 Host.shrui,
  binary main_call0_call0_v22 main_call0_call0_v24 main_call0_call0_v25 ori,
  binary main_call0_call0_v20 main_call0_call0_v25 main_call0_call0_v26 xori,
  binary main_call0_call0_v20 main_call0_call0_v26 main_call0_call0_v27 addi,
  nullary main_call0_call0_c_6 (constantI S_ 32 6#32),
  unary main_call0_call0_c_6 main_call0_call0_v28 (broadcastInDim S32x192x56x56 ![] bcast_S_S32x192x56x56),
  binary main_call0_call0_v26 main_call0_call0_v28 main_call0_call0_v29 Host.shli,
  nullary main_call0_call0_c_7 (constantI S_ 32 26#32),
  unary main_call0_call0_c_7 main_call0_call0_v30 (broadcastInDim S32x192x56x56 ![] bcast_S_S32x192x56x56),
  binary main_call0_call0_v26 main_call0_call0_v30 main_call0_call0_v31 Host.shrui,
  binary main_call0_call0_v29 main_call0_call0_v31 main_call0_call0_v32 ori,
  binary main_call0_call0_v27 main_call0_call0_v32 main_call0_call0_v33 xori,
  unary main_call0_v7 main_call0_call0_v34 (broadcastInDim S32x192x56x56 ![] bcast_S_S32x192x56x56),
  binary main_call0_call0_v27 main_call0_call0_v34 main_call0_call0_v35 addi,
  unary main_call0_call0_v1 main_call0_call0_v36 (broadcastInDim S32x192x56x56 ![] bcast_S_S32x192x56x56),
  binary main_call0_call0_v33 main_call0_call0_v36 main_call0_call0_v37 addi,
  nullary main_call0_call0_c_8 (constantI S_ 32 1#32),
  unary main_call0_call0_c_8 main_call0_call0_v38 (broadcastInDim S32x192x56x56 ![] bcast_S_S32x192x56x56),
  binary main_call0_call0_v37 main_call0_call0_v38 main_call0_call0_v39 addi,
  binary main_call0_call0_v35 main_call0_call0_v39 main_call0_call0_v40 addi,
  nullary main_call0_call0_c_9 (constantI S_ 32 17#32),
  unary main_call0_call0_c_9 main_call0_call0_v41 (broadcastInDim S32x192x56x56 ![] bcast_S_S32x192x56x56),
  binary main_call0_call0_v39 main_call0_call0_v41 main_call0_call0_v42 Host.shli,
  nullary main_call0_call0_c_10 (constantI S_ 32 15#32),
  unary main_call0_call0_c_10 main_call0_call0_v43 (broadcastInDim S32x192x56x56 ![] bcast_S_S32x192x56x56),
  binary main_call0_call0_v39 main_call0_call0_v43 main_call0_call0_v44 Host.shrui,
  binary main_call0_call0_v42 main_call0_call0_v44 main_call0_call0_v45 ori,
  binary main_call0_call0_v40 main_call0_call0_v45 main_call0_call0_v46 xori,
  binary main_call0_call0_v40 main_call0_call0_v46 main_call0_call0_v47 addi,
  nullary main_call0_call0_c_11 (constantI S_ 32 29#32),
  unary main_call0_call0_c_11 main_call0_call0_v48 (broadcastInDim S32x192x56x56 ![] bcast_S_S32x192x56x56),
  binary main_call0_call0_v46 main_call0_call0_v48 main_call0_call0_v49 Host.shli,
  nullary main_call0_call0_c_12 (constantI S_ 32 3#32),
  unary main_call0_call0_c_12 main_call0_call0_v50 (broadcastInDim S32x192x56x56 ![] bcast_S_S32x192x56x56),
  binary main_call0_call0_v46 main_call0_call0_v50 main_call0_call0_v51 Host.shrui,
  binary main_call0_call0_v49 main_call0_call0_v51 main_call0_call0_v52 ori,
  binary main_call0_call0_v47 main_call0_call0_v52 main_call0_call0_v53 xori,
  binary main_call0_call0_v47 main_call0_call0_v53 main_call0_call0_v54 addi,
  nullary main_call0_call0_c_13 (constantI S_ 32 16#32),
  unary main_call0_call0_c_13 main_call0_call0_v55 (broadcastInDim S32x192x56x56 ![] bcast_S_S32x192x56x56),
  binary main_call0_call0_v53 main_call0_call0_v55 main_call0_call0_v56 Host.shli,
  nullary main_call0_call0_c_14 (constantI S_ 32 16#32),
  unary main_call0_call0_c_14 main_call0_call0_v57 (broadcastInDim S32x192x56x56 ![] bcast_S_S32x192x56x56),
  binary main_call0_call0_v53 main_call0_call0_v57 main_call0_call0_v58 Host.shrui,
  binary main_call0_call0_v56 main_call0_call0_v58 main_call0_call0_v59 ori,
  binary main_call0_call0_v54 main_call0_call0_v59 main_call0_call0_v60 xori,
  binary main_call0_call0_v54 main_call0_call0_v60 main_call0_call0_v61 addi,
  nullary main_call0_call0_c_15 (constantI S_ 32 24#32),
  unary main_call0_call0_c_15 main_call0_call0_v62 (broadcastInDim S32x192x56x56 ![] bcast_S_S32x192x56x56),
  binary main_call0_call0_v60 main_call0_call0_v62 main_call0_call0_v63 Host.shli,
  nullary main_call0_call0_c_16 (constantI S_ 32 8#32),
  unary main_call0_call0_c_16 main_call0_call0_v64 (broadcastInDim S32x192x56x56 ![] bcast_S_S32x192x56x56),
  binary main_call0_call0_v60 main_call0_call0_v64 main_call0_call0_v65 Host.shrui,
  binary main_call0_call0_v63 main_call0_call0_v65 main_call0_call0_v66 ori,
  binary main_call0_call0_v61 main_call0_call0_v66 main_call0_call0_v67 xori,
  unary main_call0_call0_v1 main_call0_call0_v68 (broadcastInDim S32x192x56x56 ![] bcast_S_S32x192x56x56),
  binary main_call0_call0_v61 main_call0_call0_v68 main_call0_call0_v69 addi,
  unary main_call0_v5 main_call0_call0_v70 (broadcastInDim S32x192x56x56 ![] bcast_S_S32x192x56x56),
  binary main_call0_call0_v67 main_call0_call0_v70 main_call0_call0_v71 addi,
  nullary main_call0_call0_c_17 (constantI S_ 32 2#32),
  unary main_call0_call0_c_17 main_call0_call0_v72 (broadcastInDim S32x192x56x56 ![] bcast_S_S32x192x56x56),
  binary main_call0_call0_v71 main_call0_call0_v72 main_call0_call0_v73 addi,
  binary main_call0_call0_v69 main_call0_call0_v73 main_call0_call0_v74 addi,
  nullary main_call0_call0_c_18 (constantI S_ 32 13#32),
  unary main_call0_call0_c_18 main_call0_call0_v75 (broadcastInDim S32x192x56x56 ![] bcast_S_S32x192x56x56),
  binary main_call0_call0_v73 main_call0_call0_v75 main_call0_call0_v76 Host.shli,
  nullary main_call0_call0_c_19 (constantI S_ 32 19#32),
  unary main_call0_call0_c_19 main_call0_call0_v77 (broadcastInDim S32x192x56x56 ![] bcast_S_S32x192x56x56),
  binary main_call0_call0_v73 main_call0_call0_v77 main_call0_call0_v78 Host.shrui,
  binary main_call0_call0_v76 main_call0_call0_v78 main_call0_call0_v79 ori,
  binary main_call0_call0_v74 main_call0_call0_v79 main_call0_call0_v80 xori,
  binary main_call0_call0_v74 main_call0_call0_v80 main_call0_call0_v81 addi,
  nullary main_call0_call0_c_20 (constantI S_ 32 15#32),
  unary main_call0_call0_c_20 main_call0_call0_v82 (broadcastInDim S32x192x56x56 ![] bcast_S_S32x192x56x56),
  binary main_call0_call0_v80 main_call0_call0_v82 main_call0_call0_v83 Host.shli,
  nullary main_call0_call0_c_21 (constantI S_ 32 17#32),
  unary main_call0_call0_c_21 main_call0_call0_v84 (broadcastInDim S32x192x56x56 ![] bcast_S_S32x192x56x56),
  binary main_call0_call0_v80 main_call0_call0_v84 main_call0_call0_v85 Host.shrui,
  binary main_call0_call0_v83 main_call0_call0_v85 main_call0_call0_v86 ori,
  binary main_call0_call0_v81 main_call0_call0_v86 main_call0_call0_v87 xori,
  binary main_call0_call0_v81 main_call0_call0_v87 main_call0_call0_v88 addi,
  nullary main_call0_call0_c_22 (constantI S_ 32 26#32),
  unary main_call0_call0_c_22 main_call0_call0_v89 (broadcastInDim S32x192x56x56 ![] bcast_S_S32x192x56x56),
  binary main_call0_call0_v87 main_call0_call0_v89 main_call0_call0_v90 Host.shli,
  nullary main_call0_call0_c_23 (constantI S_ 32 6#32),
  unary main_call0_call0_c_23 main_call0_call0_v91 (broadcastInDim S32x192x56x56 ![] bcast_S_S32x192x56x56),
  binary main_call0_call0_v87 main_call0_call0_v91 main_call0_call0_v92 Host.shrui,
  binary main_call0_call0_v90 main_call0_call0_v92 main_call0_call0_v93 ori,
  binary main_call0_call0_v88 main_call0_call0_v93 main_call0_call0_v94 xori,
  binary main_call0_call0_v88 main_call0_call0_v94 main_call0_call0_v95 addi,
  nullary main_call0_call0_c_24 (constantI S_ 32 6#32),
  unary main_call0_call0_c_24 main_call0_call0_v96 (broadcastInDim S32x192x56x56 ![] bcast_S_S32x192x56x56),
  binary main_call0_call0_v94 main_call0_call0_v96 main_call0_call0_v97 Host.shli,
  nullary main_call0_call0_c_25 (constantI S_ 32 26#32),
  unary main_call0_call0_c_25 main_call0_call0_v98 (broadcastInDim S32x192x56x56 ![] bcast_S_S32x192x56x56),
  binary main_call0_call0_v94 main_call0_call0_v98 main_call0_call0_v99 Host.shrui,
  binary main_call0_call0_v97 main_call0_call0_v99 main_call0_call0_v100 ori,
  binary main_call0_call0_v95 main_call0_call0_v100 main_call0_call0_v101 xori,
  unary main_call0_v5 main_call0_call0_v102 (broadcastInDim S32x192x56x56 ![] bcast_S_S32x192x56x56),
  binary main_call0_call0_v95 main_call0_call0_v102 main_call0_call0_v103 addi,
  unary main_call0_v7 main_call0_call0_v104 (broadcastInDim S32x192x56x56 ![] bcast_S_S32x192x56x56),
  binary main_call0_call0_v101 main_call0_call0_v104 main_call0_call0_v105 addi,
  nullary main_call0_call0_c_26 (constantI S_ 32 3#32),
  unary main_call0_call0_c_26 main_call0_call0_v106 (broadcastInDim S32x192x56x56 ![] bcast_S_S32x192x56x56),
  binary main_call0_call0_v105 main_call0_call0_v106 main_call0_call0_v107 addi,
  binary main_call0_call0_v103 main_call0_call0_v107 main_call0_call0_v108 addi,
  nullary main_call0_call0_c_27 (constantI S_ 32 17#32),
  unary main_call0_call0_c_27 main_call0_call0_v109 (broadcastInDim S32x192x56x56 ![] bcast_S_S32x192x56x56),
  binary main_call0_call0_v107 main_call0_call0_v109 main_call0_call0_v110 Host.shli,
  nullary main_call0_call0_c_28 (constantI S_ 32 15#32),
  unary main_call0_call0_c_28 main_call0_call0_v111 (broadcastInDim S32x192x56x56 ![] bcast_S_S32x192x56x56),
  binary main_call0_call0_v107 main_call0_call0_v111 main_call0_call0_v112 Host.shrui,
  binary main_call0_call0_v110 main_call0_call0_v112 main_call0_call0_v113 ori,
  binary main_call0_call0_v108 main_call0_call0_v113 main_call0_call0_v114 xori,
  binary main_call0_call0_v108 main_call0_call0_v114 main_call0_call0_v115 addi,
  nullary main_call0_call0_c_29 (constantI S_ 32 29#32),
  unary main_call0_call0_c_29 main_call0_call0_v116 (broadcastInDim S32x192x56x56 ![] bcast_S_S32x192x56x56),
  binary main_call0_call0_v114 main_call0_call0_v116 main_call0_call0_v117 Host.shli,
  nullary main_call0_call0_c_30 (constantI S_ 32 3#32),
  unary main_call0_call0_c_30 main_call0_call0_v118 (broadcastInDim S32x192x56x56 ![] bcast_S_S32x192x56x56),
  binary main_call0_call0_v114 main_call0_call0_v118 main_call0_call0_v119 Host.shrui,
  binary main_call0_call0_v117 main_call0_call0_v119 main_call0_call0_v120 ori,
  binary main_call0_call0_v115 main_call0_call0_v120 main_call0_call0_v121 xori,
  binary main_call0_call0_v115 main_call0_call0_v121 main_call0_call0_v122 addi,
  nullary main_call0_call0_c_31 (constantI S_ 32 16#32),
  unary main_call0_call0_c_31 main_call0_call0_v123 (broadcastInDim S32x192x56x56 ![] bcast_S_S32x192x56x56),
  binary main_call0_call0_v121 main_call0_call0_v123 main_call0_call0_v124 Host.shli,
  nullary main_call0_call0_c_32 (constantI S_ 32 16#32),
  unary main_call0_call0_c_32 main_call0_call0_v125 (broadcastInDim S32x192x56x56 ![] bcast_S_S32x192x56x56),
  binary main_call0_call0_v121 main_call0_call0_v125 main_call0_call0_v126 Host.shrui,
  binary main_call0_call0_v124 main_call0_call0_v126 main_call0_call0_v127 ori,
  binary main_call0_call0_v122 main_call0_call0_v127 main_call0_call0_v128 xori,
  binary main_call0_call0_v122 main_call0_call0_v128 main_call0_call0_v129 addi,
  nullary main_call0_call0_c_33 (constantI S_ 32 24#32),
  unary main_call0_call0_c_33 main_call0_call0_v130 (broadcastInDim S32x192x56x56 ![] bcast_S_S32x192x56x56),
  binary main_call0_call0_v128 main_call0_call0_v130 main_call0_call0_v131 Host.shli,
  nullary main_call0_call0_c_34 (constantI S_ 32 8#32),
  unary main_call0_call0_c_34 main_call0_call0_v132 (broadcastInDim S32x192x56x56 ![] bcast_S_S32x192x56x56),
  binary main_call0_call0_v128 main_call0_call0_v132 main_call0_call0_v133 Host.shrui,
  binary main_call0_call0_v131 main_call0_call0_v133 main_call0_call0_v134 ori,
  binary main_call0_call0_v129 main_call0_call0_v134 main_call0_call0_v135 xori,
  unary main_call0_v7 main_call0_call0_v136 (broadcastInDim S32x192x56x56 ![] bcast_S_S32x192x56x56),
  binary main_call0_call0_v129 main_call0_call0_v136 main_call0_call0_v137 addi,
  unary main_call0_call0_v1 main_call0_call0_v138 (broadcastInDim S32x192x56x56 ![] bcast_S_S32x192x56x56),
  binary main_call0_call0_v135 main_call0_call0_v138 main_call0_call0_v139 addi,
  nullary main_call0_call0_c_35 (constantI S_ 32 4#32),
  unary main_call0_call0_c_35 main_call0_call0_v140 (broadcastInDim S32x192x56x56 ![] bcast_S_S32x192x56x56),
  binary main_call0_call0_v139 main_call0_call0_v140 main_call0_call0_v141 addi,
  binary main_call0_call0_v137 main_call0_call0_v141 main_call0_call0_v142 addi,
  nullary main_call0_call0_c_36 (constantI S_ 32 13#32),
  unary main_call0_call0_c_36 main_call0_call0_v143 (broadcastInDim S32x192x56x56 ![] bcast_S_S32x192x56x56),
  binary main_call0_call0_v141 main_call0_call0_v143 main_call0_call0_v144 Host.shli,
  nullary main_call0_call0_c_37 (constantI S_ 32 19#32),
  unary main_call0_call0_c_37 main_call0_call0_v145 (broadcastInDim S32x192x56x56 ![] bcast_S_S32x192x56x56),
  binary main_call0_call0_v141 main_call0_call0_v145 main_call0_call0_v146 Host.shrui,
  binary main_call0_call0_v144 main_call0_call0_v146 main_call0_call0_v147 ori,
  binary main_call0_call0_v142 main_call0_call0_v147 main_call0_call0_v148 xori,
  binary main_call0_call0_v142 main_call0_call0_v148 main_call0_call0_v149 addi,
  nullary main_call0_call0_c_38 (constantI S_ 32 15#32),
  unary main_call0_call0_c_38 main_call0_call0_v150 (broadcastInDim S32x192x56x56 ![] bcast_S_S32x192x56x56),
  binary main_call0_call0_v148 main_call0_call0_v150 main_call0_call0_v151 Host.shli,
  nullary main_call0_call0_c_39 (constantI S_ 32 17#32),
  unary main_call0_call0_c_39 main_call0_call0_v152 (broadcastInDim S32x192x56x56 ![] bcast_S_S32x192x56x56),
  binary main_call0_call0_v148 main_call0_call0_v152 main_call0_call0_v153 Host.shrui,
  binary main_call0_call0_v151 main_call0_call0_v153 main_call0_call0_v154 ori,
  binary main_call0_call0_v149 main_call0_call0_v154 main_call0_call0_v155 xori,
  binary main_call0_call0_v149 main_call0_call0_v155 main_call0_call0_v156 addi,
  nullary main_call0_call0_c_40 (constantI S_ 32 26#32),
  unary main_call0_call0_c_40 main_call0_call0_v157 (broadcastInDim S32x192x56x56 ![] bcast_S_S32x192x56x56),
  binary main_call0_call0_v155 main_call0_call0_v157 main_call0_call0_v158 Host.shli,
  nullary main_call0_call0_c_41 (constantI S_ 32 6#32),
  unary main_call0_call0_c_41 main_call0_call0_v159 (broadcastInDim S32x192x56x56 ![] bcast_S_S32x192x56x56),
  binary main_call0_call0_v155 main_call0_call0_v159 main_call0_call0_v160 Host.shrui,
  binary main_call0_call0_v158 main_call0_call0_v160 main_call0_call0_v161 ori,
  binary main_call0_call0_v156 main_call0_call0_v161 main_call0_call0_v162 xori,
  binary main_call0_call0_v156 main_call0_call0_v162 main_call0_call0_v163 addi,
  nullary main_call0_call0_c_42 (constantI S_ 32 6#32),
  unary main_call0_call0_c_42 main_call0_call0_v164 (broadcastInDim S32x192x56x56 ![] bcast_S_S32x192x56x56),
  binary main_call0_call0_v162 main_call0_call0_v164 main_call0_call0_v165 Host.shli,
  nullary main_call0_call0_c_43 (constantI S_ 32 26#32),
  unary main_call0_call0_c_43 main_call0_call0_v166 (broadcastInDim S32x192x56x56 ![] bcast_S_S32x192x56x56),
  binary main_call0_call0_v162 main_call0_call0_v166 main_call0_call0_v167 Host.shrui,
  binary main_call0_call0_v165 main_call0_call0_v167 main_call0_call0_v168 ori,
  binary main_call0_call0_v163 main_call0_call0_v168 main_call0_call0_v169 xori,
  unary main_call0_call0_v1 main_call0_call0_v170 (broadcastInDim S32x192x56x56 ![] bcast_S_S32x192x56x56),
  binary main_call0_call0_v163 main_call0_call0_v170 main_call0_v27_0 addi,
  unary main_call0_v5 main_call0_call0_v172 (broadcastInDim S32x192x56x56 ![] bcast_S_S32x192x56x56),
  binary main_call0_call0_v169 main_call0_call0_v172 main_call0_call0_v173 addi,
  nullary main_call0_call0_c_44 (constantI S_ 32 5#32),
  unary main_call0_call0_c_44 main_call0_call0_v174 (broadcastInDim S32x192x56x56 ![] bcast_S_S32x192x56x56),
  binary main_call0_call0_v173 main_call0_call0_v174 main_call0_v27_1 addi,
  binary main_call0_v27_0 main_call0_v27_1 main_call0_v28 xori,
  nullary main_call0_c_4 (constantI S_ 32 9#32),
  unary main_call0_c_4 main_call0_v29 (broadcastInDim S32x192x56x56 ![] bcast_S_S32x192x56x56),
  binary main_call0_v28 main_call0_v29 main_call0_v30 Host.shrui,
  nullary main_call0_c_5 (constantI S_ 32 1065353216#32),
  unary main_call0_c_5 main_call0_v31 (broadcastInDim S32x192x56x56 ![] bcast_S_S32x192x56x56),
  binary main_call0_v30 main_call0_v31 main_call0_v32 ori,
  unary main_call0_v32 main_call0_v33 (bitcastToFloat .f32),
  nullary main_call0_cst (constant S_ .f32 0x3F800000#32),
  unary main_call0_cst main_call0_v34 (broadcastInDim S32x192x56x56 ![] bcast_S_S32x192x56x56),
  binary main_call0_v33 main_call0_v34 main_call0_v35 subf,
  binary main_call0_v3 main_call0_v2 main_call0_v36 subf,
  unary main_call0_v36 main_call0_v37 (broadcastInDim S32x192x56x56 ![0, 1, 2, 3] bcast_S1x1x1x1_S32x192x56x56_0_1_2_3),
  binary main_call0_v35 main_call0_v37 main_call0_v38 mulf,
  unary main_call0_v2 main_call0_v39 (broadcastInDim S32x192x56x56 ![0, 1, 2, 3] bcast_S1x1x1x1_S32x192x56x56_0_1_2_3),
  binary main_call0_v38 main_call0_v39 main_call0_v40 addf,
  unary main_call0_v2 main_call0_v41 (broadcastInDim S32x192x56x56 ![0, 1, 2, 3] bcast_S1x1x1x1_S32x192x56x56_0_1_2_3),
  binary main_call0_v41 main_call0_v40 main_v7 maximumf,
  unary main_arg1 main_v8 (broadcastInDim S32x192x56x56 ![] bcast_S_S32x192x56x56 : (⟨S_, .f32⟩ : BufTy).Contents (Elt F) → (⟨S32x192x56x56, .f32⟩ : BufTy).Contents (Elt F)),
  binary main_v7 main_v8 main_v9 (cmpf .olt : (⟨S32x192x56x56, .f32⟩ : BufTy).Contents (Elt F) → (⟨S32x192x56x56, .f32⟩ : BufTy).Contents (Elt F) → (⟨S32x192x56x56, .i1⟩ : BufTy).Contents (Elt F)),
  unary main_v9 main_v10 (uitofp .f32 : (⟨S32x192x56x56, .i1⟩ : BufTy).Contents (Elt F) → (⟨S32x192x56x56, .f32⟩ : BufTy).Contents (Elt F)),
  nullary main_cst_3 (constant S_ .f32 0xFF800000#32),
  unary main_cst_3 main_v11 (broadcastInDim S_ ![] bcast_S_S_ : (⟨S_, .f32⟩ : BufTy).Contents (Elt F) → (⟨S_, .f32⟩ : BufTy).Contents (Elt F)),
  binary main_v10 main_v11 main_v12 ((fun x v => Host.reduceWindow FloatOps.maximumf ![1, 1, 7, 7] ![1, 1, 1, 1] ![0, 0, 6, 6] ![0, 0, 0, 0] x v reduceWindows_S32x192x56x56_S32x192x56x56_w1s1p0_0_w1s1p0_0_w7s1p6_0_w7s1p6_0 h_S_) : (⟨S32x192x56x56, .f32⟩ : BufTy).Contents (Elt F) → (⟨S_, .f32⟩ : BufTy).Contents (Elt F) → (⟨S32x192x56x56, .f32⟩ : BufTy).Contents (Elt F)),
  nullary main_cst_4 (constant S_ .f32 0x00000000#32),
  nullary main_cst_5 (constant S_ .f32 0x3F800000#32),
  unary main_cst_4 main_call1_v0 id,
  unary main_call1_v0 main_call1_v1 (broadcastInDim S32x192x56x56 ![] bcast_S_S32x192x56x56),
  binary main_call1_v1 main_v12 main_call1_v2 maximumf,
  unary main_cst_5 main_call1_v3 id,
  unary main_call1_v3 main_call1_v4 (broadcastInDim S32x192x56x56 ![] bcast_S_S32x192x56x56),
  binary main_call1_v4 main_call1_v2 main_v13 minimumf,
  nullary main_cst_6 (constant S_ .f32 0x3F800000#32),
  unary main_cst_6 main_v14 (broadcastInDim S32x192x56x56 ![] bcast_S_S32x192x56x56 : (⟨S_, .f32⟩ : BufTy).Contents (Elt F) → (⟨S32x192x56x56, .f32⟩ : BufTy).Contents (Elt F)),
  binary main_v14 main_v13 main_v15 (subf : (⟨S32x192x56x56, .f32⟩ : BufTy).Contents (Elt F) → (⟨S32x192x56x56, .f32⟩ : BufTy).Contents (Elt F) → (⟨S32x192x56x56, .f32⟩ : BufTy).Contents (Elt F)),
  nullary main_cst_7 (constant S_ .f32 0x00000000#32),
  binary main_v15 main_cst_7 main_v16 ((fun x v => Host.reduceAdd x v reducesTo_S32x192x56x56_S_d0_1_2_3 h_S_) : (⟨S32x192x56x56, .f32⟩ : BufTy).Contents (Elt F) → (⟨S_, .f32⟩ : BufTy).Contents (Elt F) → (⟨S_, .f32⟩ : BufTy).Contents (Elt F)),
  binary main_v15 main_arg0 main_v17 (mulf : (⟨S32x192x56x56, .f32⟩ : BufTy).Contents (Elt F) → (⟨S32x192x56x56, .f32⟩ : BufTy).Contents (Elt F) → (⟨S32x192x56x56, .f32⟩ : BufTy).Contents (Elt F)),
  nullary main_cst_8 (constant S_ .f32 0x4B930000#32),
  binary main_cst_8 main_v16 main_v18 (Host.divf : (⟨S_, .f32⟩ : BufTy).Contents (Elt F) → (⟨S_, .f32⟩ : BufTy).Contents (Elt F) → (⟨S_, .f32⟩ : BufTy).Contents (Elt F)),
  unary main_v18 main_v19 (broadcastInDim S32x192x56x56 ![] bcast_S_S32x192x56x56 : (⟨S_, .f32⟩ : BufTy).Contents (Elt F) → (⟨S32x192x56x56, .f32⟩ : BufTy).Contents (Elt F)),
  binary main_v17 main_v19 main_v20 (mulf : (⟨S32x192x56x56, .f32⟩ : BufTy).Contents (Elt F) → (⟨S32x192x56x56, .f32⟩ : BufTy).Contents (Elt F) → (⟨S32x192x56x56, .f32⟩ : BufTy).Contents (Elt F))]

set_option maxHeartbeats 4000000 in
theorem rising : Rising (F := F) 2 ops := by
  unfold ops
  repeat' first
    | exact Rising.nil
    | refine Rising.nullary _ _ _ (by decide) ?_
    | refine Rising.unary _ _ _ _ _ (by decide) (by decide) ?_
    | refine Rising.binary _ _ _ _ _ _ _ (by decide) (by decide) (by decide) ?_
    | refine Rising.reshape _ _ _ _ _ _ (by decide) (by decide) ?_

set_option maxHeartbeats 4000000 in
theorem isSeq (d : Dev nD) : IsSeq (main (F := F) d) ops := by
  unfold ops
  hlo_seq

set_option maxHeartbeats 4000000 in
/-- Every run of the reference ends with each buffer at the line's result. -/
theorem run_line (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc),
        r.2.mem ((d.tc : Thread nD τ).loc b) = after ops (launchContents m d) (Proc.devRef .tc b) :=
  run_hlo defs main isSeq (by decide) (by decide) (by unfold ops; simp)
    (by unfold ops; intro _ h; (repeat (cases h with | head => rfl | tail _ h => ?_)); exact nomatch h) m ρ

/-- What the reference's buffers hold at the end, from the contents `V`. -/
def W (V : Valuation τ sig (Elt F)) (r : Ref sig .tc) : r.ty.Contents (Elt F) := after ops V (Proc.devRef .tc r)

theorem W_arg0 (V : Valuation τ sig (Elt F)) : W V main_arg0 = V (Proc.devRef .tc main_arg0) := rising.keeps V _ (by decide)
theorem W_arg1 (V : Valuation τ sig (Elt F)) : W V main_arg1 = V (Proc.devRef .tc main_arg1) := rising.keeps V _ (by decide)

/-- Every run of the reference ends with its arguments as they were. -/
theorem frame : Cert.quiescent_ReferenceIdeal := fun m ρ _ =>
  θ_run_mono (run_line m ρ) fun r h => ⟨fun c => ⟨(h c _).trans (W_arg0 _), (h c _).trans (W_arg1 _)⟩,
    sem_eq_zero_of_no_sems rfl _⟩

end Cert.ReferenceIdeal.Run

end
-- ==== Proof.Mix.lean ====
/-
  The random words, one position at a time: twenty mixing rounds on a pair of words with a key injection after every
  four, and the kernel's words as those of the position's own word.
-/
module

public import proofs.«01_k».proof.Proof.Spec

@[expose] public section

noncomputable section

namespace Cert.Mix

open Idealize.ShloMosaic Cert.KernelIdeal

/-- One round on a pair of words. -/
def round1 (r s : BitVec 32) (v : BitVec 32 × BitVec 32) : BitVec 32 × BitVec 32 :=
  (v.1 + v.2, (v.1 + v.2) ^^^ (v.2 <<< r ||| v.2 >>> s))

/-- A key injection. -/
def key1 (a b : BitVec 32) (v : BitVec 32 × BitVec 32) : BitVec 32 × BitVec 32 := (v.1 + a, v.2 + b)

/-- The rounds by 13, 15, 26, 6. -/
def four (v : BitVec 32 × BitVec 32) : BitVec 32 × BitVec 32 :=
  round1 6#32 26#32 (round1 26#32 6#32 (round1 15#32 17#32 (round1 13#32 19#32 v)))

/-- The rounds by 17, 29, 16, 24. -/
def four' (v : BitVec 32 × BitVec 32) : BitVec 32 × BitVec 32 :=
  round1 24#32 8#32 (round1 16#32 16#32 (round1 29#32 3#32 (round1 17#32 15#32 v)))

/-- All twenty rounds and five injections. -/
def twenty (v : BitVec 32 × BitVec 32) : BitVec 32 × BitVec 32 :=
  key1 466689008#32 5#32 (four (key1 42#32 466689012#32 (four' (key1 0#32 45#32 (four (key1 466689008#32 2#32
    (four' (key1 42#32 466689009#32 (four v)))))))))

/-- The random word of the counter word `w`. -/
def word (w : BitVec 32) : BitVec 32 := (twenty (0#32, w + 42#32)).1 ^^^ (twenty (0#32, w + 42#32)).2

theorem shl_of {u : ArithUnit} {x y : BitVec 32} (h : y.toNat < 32) : IntOp.shli u x y = x <<< y := if_pos h
theorem shr_of {u : ArithUnit} {x y : BitVec 32} (h : y.toNat < 32) : IntOp.shrui u x y = x >>> y := if_pos h

/-- The pair at a position. -/
def at2 {S : Shape} (v : IVec S 32 × IVec S 32) (j : S.Idx) : BitVec 32 × BitVec 32 := (v.1 j, v.2 j)

theorem at2_rnd {S : Shape} {r s : BitVec 32} (hr : r.toNat < 32) (hs : s.toNat < 32) (v : IVec S 32 × IVec S 32) (j : S.Idx) :
    at2 (Spec.rnd r s v) j = round1 r s (at2 v j) := by
  show (v.1 j + v.2 j, (v.1 j + v.2 j) ^^^ (IntOp.shli .vector (v.2 j) r ||| IntOp.shrui .vector (v.2 j) s)) = _
  rw [shl_of hr, shr_of hs]
  rfl

theorem at2_inj {S : Shape} (a b : BitVec 32) (v : IVec S 32 × IVec S 32) (j : S.Idx) :
    at2 (Spec.inj a b v) j = key1 a b (at2 v j) := rfl

theorem at2_rndsB {S : Shape} (v : IVec S 32 × IVec S 32) (j : S.Idx) : at2 (Spec.rndsB v) j = four' (at2 v j) := by
  rw [Spec.rndsB, at2_rnd (by decide) (by decide), at2_rnd (by decide) (by decide), at2_rnd (by decide) (by decide),
    at2_rnd (by decide) (by decide), four']

theorem at2_rndsA' {S : Shape} (v : IVec S 32 × IVec S 32) (j : S.Idx) :
    at2 (Spec.rndsA' v) j = round1 6#32 26#32 (round1 26#32 6#32 (round1 15#32 17#32 (at2 v j))) := by
  rw [Spec.rndsA', at2_rnd (by decide) (by decide), at2_rnd (by decide) (by decide), at2_rnd (by decide) (by decide)]

theorem at2_rndsA {S : Shape} (v : IVec S 32 × IVec S 32) (j : S.Idx) : at2 (Spec.rndsA v) j = four (at2 v j) := by
  rw [Spec.rndsA, at2_rndsA', at2_rnd (by decide) (by decide), four]

theorem at2_first {S : Shape} (w : IVec S 32) (j : S.Idx) :
    at2 (w, xori w (ori (shli w (broadcast S 13#32)) (shrui w (broadcast S 19#32)))) j = round1 13#32 19#32 (0#32, w j) := by
  show (w j, w j ^^^ (IntOp.shli .vector (w j) 13#32 ||| IntOp.shrui .vector (w j) 19#32)) = _
  rw [shl_of (by decide), shr_of (by decide), round1, BitVec.zero_add]

/-- The kernel's word at a position is the random word of the counter there. -/
theorem hash_apply {S : Shape} (w : IVec S 32) (j : S.Idx) (c : BitVec 32) (h : w j = c + 42#32) :
    Spec.hash w j = word c := by
  have e : at2 (Spec.mixed w) j = twenty (0#32, c + 42#32) := by
    rw [Spec.mixed, at2_inj, at2_rndsA, at2_inj, at2_rndsB, at2_inj, at2_rndsA, at2_inj, at2_rndsB, at2_inj, at2_rndsA',
      at2_first, h, twenty]
    rfl
  show (at2 (Spec.mixed w) j).1 ^^^ (at2 (Spec.mixed w) j).2 = _
  rw [e, word]

end Cert.Mix

end
-- ==== Proof.Window.lean ====
/-
  The mask at the ideal instance, position by position: a draw hits below the threshold, a position is kept when no draw
  of its window hits. The kernel compares draws with the threshold scaled and rounded up, which is the same comparison.
-/
module

public import proofs.«01_k».proof.Proof.Mix
public import Idealize.ShloMosaic.PureOps.Ideal
public import Idealize.ShloMosaic.Lib.IdealHost

@[expose] public section

noncomputable section

namespace Cert.Mix

open Idealize.ShloMosaic

/-- The number drawn at flat index `k`: the upper 23 bits of its random word. -/
def num (k : ℕ) : ℕ := (word (BitVec.ofNat 32 k) >>> 9#32).toNat

theorem num_lt (k : ℕ) : num k < 2 ^ 23 := by
  rw [num, BitVec.ushiftRight_eq', BitVec.toNat_ushiftRight, Nat.shiftRight_eq_div_pow]
  have := (word (BitVec.ofNat 32 k)).isLt
  have e : (9#32).toNat = 9 := rfl
  rw [e]
  omega

theorem toInt_word (k : ℕ) : (word (BitVec.ofNat 32 k) >>> 9#32).toInt = (num k : ℤ) := by
  have h : num k < 2 ^ 23 := num_lt k
  rw [BitVec.toInt_eq_toNat_of_lt (by show 2 * num k < 2 ^ 32; omega)]
  rfl

/-- The draw at flat index `k` is below the threshold. -/
def Hit (γ : EReal) (k : ℕ) : Prop := ((num k : ℝ) : EReal) * (((2 : ℝ) ^ (-23 : ℤ) : ℝ) : EReal) < γ

/-- The threshold the kernel compares with. -/
def gate (γ : EReal) : EReal := Ideal.liftRound Int.ceil (γ * (((2 : ℝ) ^ (23 : ℕ) : ℝ) : EReal))

/-- A draw does not hit exactly when it reaches the scaled threshold rounded up. -/
theorem gate_le_iff (γ : EReal) (k : ℕ) : gate γ ≤ ((num k : ℝ) : EReal) ↔ ¬ Hit γ k := by
  unfold gate Hit
  rw [not_lt]
  induction γ using EReal.rec with
  | bot =>
    rw [EReal.bot_mul_coe_of_pos (by positivity)]
    exact ⟨fun _ => bot_le, fun _ => bot_le⟩
  | top =>
    rw [EReal.top_mul_coe_of_pos (by positivity)]
    show (⊤ : EReal) ≤ _ ↔ _
    rw [← EReal.coe_mul, top_le_iff, top_le_iff]
    exact ⟨fun h => absurd h (EReal.coe_ne_top _), fun h => absurd h (EReal.coe_ne_top _)⟩
  | coe r =>
    rw [← EReal.coe_mul, ← EReal.coe_mul]
    show (((⌈r * 2 ^ 23⌉ : ℤ) : ℝ) : EReal) ≤ _ ↔ _
    rw [EReal.coe_le_coe_iff, EReal.coe_le_coe_iff]
    have e : ((num k : ℕ) : ℝ) = (((num k : ℕ) : ℤ) : ℝ) := by norm_cast
    rw [e, Int.cast_le, Int.ceil_le]
    have c : ((2 : ℝ) ^ (-23 : ℤ)) = (2 ^ 23)⁻¹ := by norm_num
    rw [c, ← div_eq_mul_inv, le_div_iff₀ (by positivity)]

/-- The flat index of a position. -/
def pos (n c p q : ℕ) : ℕ := n * 602112 + c * 3136 + p * 56 + q

/-- No draw of the seven by seven window ending at the position hits. -/
def Kept (γ : EReal) (n c p q : ℕ) : Prop := ∀ a < 7, a ≤ p → ∀ b < 7, b ≤ q → ¬ Hit γ (pos n c (p - a) (q - b))

/-- A maximum folded over a list stays below `c` when its start and its members do. -/
theorem foldl_max_le {ι : Type} (g : ι → EReal) (c : EReal) (l : List ι) (a : EReal) :
    l.foldl (fun r n => max r (g n)) a ≤ c ↔ a ≤ c ∧ ∀ n ∈ l, g n ≤ c := by
  induction l generalizing a with
  | nil => simp
  | cons x l ih => rw [List.foldl_cons, ih, max_le_iff, List.forall_mem_cons, and_assoc]

/-- A window maximum of zeros and ones, clipped to the unit interval: one exactly when a one is there. -/
theorem clip_foldl {ι : Type} (g : ι → EReal) (l : List ι) (P : Prop) [Decidable P] (hg : ∀ n ∈ l, g n ≤ 1) (hP : P → ∃ n ∈ l, g n = 1)
    (hn : ¬ P → ∀ n ∈ l, g n ≤ 0) :
    min 1 (max 0 (l.foldl (fun r n => max r (g n)) ⊥)) = if P then 1 else 0 := by
  by_cases h : P
  · rw [if_pos h]
    obtain ⟨n, hl, e⟩ := hP h
    refine min_eq_left (le_max_of_le_right ?_)
    have := ((foldl_max_le g _ l ⊥).mp le_rfl).2 n hl
    rwa [e] at this
  · rw [if_neg h, max_eq_left ((foldl_max_le g 0 l ⊥).mpr ⟨bot_le, hn h⟩)]
    exact min_eq_right zero_le_one

/-- A sum of ones and zeros is the count of the ones. -/
theorem sum_ite {ι : Type} (s : Finset ι) (P : ι → Prop) [DecidablePred P] :
    ∑ i ∈ s, (if P i then (1 : EReal) else 0) = (((∑ i ∈ s, if P i then 1 else 0 : ℕ) : ℝ) : EReal) := by
  classical
  induction s using Finset.induction_on with
  | empty => simp
  | insert a s h ih =>
    rw [Finset.sum_insert h, Finset.sum_insert h, ih, Nat.cast_add, EReal.coe_add]
    split <;> simp

theorem ofBits_scale : Ideal.ofBits .f32 0x34000000#32 = (((2 : ℝ) ^ (-23 : ℤ) : ℝ) : EReal) := by
  simp [Ideal.ofBits, Ideal.ieee, -EReal.coe_mul, -EReal.coe_pow]; norm_num

theorem ofBits_two23 : Ideal.ofBits .f32 0x4B000000#32 = (((2 : ℝ) ^ (23 : ℕ) : ℝ) : EReal) := by
  simp [Ideal.ofBits, Ideal.ieee, -EReal.coe_mul, -EReal.coe_pow]; norm_num

theorem ofBits_two24 : Ideal.ofBits .f32 0x4B800000#32 = (((2 : ℝ) ^ (24 : ℕ) : ℝ) : EReal) := by
  simp [Ideal.ofBits, Ideal.ieee, -EReal.coe_mul, -EReal.coe_pow]; norm_num

theorem ofBits_bot : Ideal.ofBits .f32 0xFF800000#32 = ⊥ := by
  simp [Ideal.ofBits, Ideal.ieee]

end Cert.Mix

end
-- ==== Proof.Planes.lean ====
/-
  The kernel's mask at the ideal instance, position by position: a plane's keep word is one exactly where no draw of the
  window hits.
-/
module

public import proofs.«01_k».proof.Proof.Window
public import Idealize.ShloMosaic.Lib.Pointwise

@[expose] public section

set_option maxRecDepth 16384

noncomputable section

namespace Cert.KernelIdeal.Planes

open Idealize.ShloMosaic Cert.KernelIdeal Cert.KernelIdeal.Gen Cert.Mix
open Cert.KernelIdeal.Spec

theorem select_slt {α : Type} (k n : ℕ) (hk : k < 100) (hn : n < 100) (a b : α) :
    Scalar.select (IntOp.cmpi .slt (BitVec.ofNat 32 n) (BitVec.ofNat 32 k)) a b = if n < k then a else b := by
  have e : IntOp.cmpi .slt (BitVec.ofNat 32 n) (BitVec.ofNat 32 k) = BitVec.ofBool (decide (n < k)) := by
    show BitVec.ofBool (decide ((BitVec.ofNat 32 n).toInt < (BitVec.ofNat 32 k).toInt)) = _
    rw [BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    congr 1
    exact decide_eq_decide.mpr (by omega)
  rw [e, Scalar.select]
  by_cases h : n < k
  · rw [decide_eq_true h, if_pos h, if_pos (by decide)]
  · rw [decide_eq_false h, if_neg h, if_neg (by decide)]

theorem start_apply (i : grid0.Coords) (p : ℕ) (q : Fin 56) (w : Fin 384) :
    start i (BitVec.ofNat 32 p) (ix2 q w) = BitVec.ofNat 32 ((i 0).val * 1204224 + w.val * 3136 + p * 56 + q.val) + 42#32 := by
  pointwise [start, k0_pay44]
  simp only [IntOp.addi, IntOp.muli, Scalar.muli]
  congr 1
  apply BitVec.eq_of_toNat_eq
  simp only [BitVec.toNat_add, BitVec.toNat_mul, BitVec.toNat_ofNat]
  omega

theorem draw_apply (i : grid0.Coords) (p : ℕ) (q : Fin 56) (w : Fin 384) :
    draw (F := Ideal) i (BitVec.ofNat 32 p) (ix2 q w)
      = ((num ((i 0).val * 1204224 + w.val * 3136 + p * 56 + q.val) : ℝ) : EReal) := by
  show (((IntOp.shrui .vector (Spec.hash (start i (BitVec.ofNat 32 p)) (ix2 q w)) 9#32).toInt : ℝ) : EReal) = _
  rw [hash_apply _ _ _ (start_apply i p q w), shr_of (by decide), toInt_word]
  rfl

/-- The bound above the draws. -/
abbrev top : EReal := (((2 : ℝ) ^ (24 : ℕ) : ℝ) : EReal)

theorem min1_apply (m : FVec Ideal S56x384 .f32) (q : Fin 56) (w : Fin 384) :
    min1 m (ix2 q w) = min (m (ix2 q w)) (if q.val < 1 then top else m (ix2 ⟨q.val - 1, by omega⟩ w)) := by
  pointwise [min1, k0_pay45, big]
  rw [select_slt 1 q.val (by omega) (by omega), ofBits_two24]
  by_cases h : q.val < 1
  · rw [if_pos h, if_pos h]
  · rw [if_neg h, if_neg h, dif_neg h]

theorem min2_apply (m : FVec Ideal S56x384 .f32) (q : Fin 56) (w : Fin 384) :
    min2 m (ix2 q w) = min (m (ix2 q w)) (if q.val < 2 then top else m (ix2 ⟨q.val - 2, by omega⟩ w)) := by
  pointwise [min2, k0_pay46, big]
  rw [select_slt 2 q.val (by omega) (by omega), ofBits_two24]
  by_cases h : q.val < 2
  · rw [if_pos h, if_pos h]
  · rw [if_neg h, if_neg h, dif_neg h]

theorem min3_apply (m : FVec Ideal S56x384 .f32) (q : Fin 56) (w : Fin 384) :
    min3 m (ix2 q w) = min (m (ix2 q w)) (if q.val < 3 then top else m (ix2 ⟨q.val - 3, by omega⟩ w)) := by
  pointwise [min3, k0_pay47, big]
  rw [select_slt 3 q.val (by omega) (by omega), ofBits_two24]
  by_cases h : q.val < 3
  · rw [if_pos h, if_pos h]
  · rw [if_neg h, if_neg h, dif_neg h]

end Cert.KernelIdeal.Planes

end
-- ==== Proof.Keep.lean ====
/-
  The windows of the mask: the kernel's running minima reach the threshold exactly where no draw of the seven by seven
  window hits.
-/
module

public import proofs.«01_k».proof.Proof.Planes

@[expose] public section

set_option maxRecDepth 16384

noncomputable section

namespace Cert.KernelIdeal.Planes

open Idealize.ShloMosaic Cert.KernelIdeal Cert.KernelIdeal.Gen Cert.Mix
open Cert.KernelIdeal.Spec
open Classical

/-- What is asked of the draw of a row and a plane, told by their numbers. -/
abbrev Low (γ : EReal) (i : grid0.Coords) (w : Fin 384) (p q : ℕ) : Prop :=
  ¬ Hit γ ((i 0).val * 1204224 + w.val * 3136 + p * 56 + q)

/-- A minimum with the row `k` before, the edge filled by the bound. -/
theorem le_min_row {g : EReal} {x : Fin 56 → EReal} (hx : ∀ q, g ≤ x q → g ≤ top) (k : ℕ) (q : Fin 56) :
    g ≤ min (x q) (if q.val < k then top else x ⟨q.val - k, by omega⟩) ↔ g ≤ x q ∧ (k ≤ q.val → g ≤ x ⟨q.val - k, by omega⟩) := by
  rw [le_min_iff]
  by_cases h : q.val < k
  · rw [if_pos h]
    exact ⟨fun e => ⟨e.1, fun e' => absurd e' (by omega)⟩, fun e => ⟨e.1, hx q e.1⟩⟩
  · rw [if_neg h]
    exact ⟨fun e => ⟨e.1, fun _ => e.2⟩, fun e => ⟨e.1, e.2 (by omega)⟩⟩

theorem le_draw (γ : EReal) (i : grid0.Coords) (p : ℕ) (q : Fin 56) (w : Fin 384) :
    gate γ ≤ draw (F := Ideal) i (BitVec.ofNat 32 p) (ix2 q w) ↔ Low γ i w p q.val := by
  rw [draw_apply, gate_le_iff]

theorem le_top (γ : EReal) (i : grid0.Coords) (p : ℕ) (q : Fin 56) (w : Fin 384)
    (h : gate γ ≤ draw (F := Ideal) i (BitVec.ofNat 32 p) (ix2 q w)) : gate γ ≤ top := by
  refine h.trans ?_
  rw [draw_apply, EReal.coe_le_coe_iff]
  have := num_lt ((i 0).val * 1204224 + w.val * 3136 + p * 56 + q.val)
  have e : num ((i 0).val * 1204224 + w.val * 3136 + p * 56 + q.val) ≤ 2 ^ 24 := by omega
  exact_mod_cast e

/-- A plane of row minima reaches the threshold where none of the last seven draws of the column hits. -/
theorem le_rowMin (γ : EReal) (i : grid0.Coords) (p : ℕ) (q : Fin 56) (w : Fin 384) :
    gate γ ≤ rowMin (F := Ideal) i p (ix2 q w) ↔ ∀ b < 7, b ≤ q.val → Low γ i w p (q.val - b) := by
  have t0 := fun q : Fin 56 => le_top γ i p q w
  have e1 := fun q : Fin 56 => (le_min_row t0 1 q)
  simp only [← min1_apply] at e1
  have t1 := fun (q : Fin 56) (h : gate γ ≤ min1 (draw (F := Ideal) i (BitVec.ofNat 32 p)) (ix2 q w)) => t0 q ((e1 q).mp h).1
  have e2 := fun q : Fin 56 => (le_min_row t1 2 q)
  simp only [← min2_apply] at e2
  have t2 := fun (q : Fin 56) (h : gate γ ≤ min2 (min1 (draw (F := Ideal) i (BitVec.ofNat 32 p))) (ix2 q w)) => t1 q ((e2 q).mp h).1
  have e3 := fun q : Fin 56 => (le_min_row t2 3 q)
  simp only [← min3_apply] at e3
  rw [rowMin, e3 q, e2 q, e2, e1 q, e1, e1, e1]
  simp only [le_draw]
  constructor
  · rintro ⟨⟨⟨a0, a1⟩, a2⟩, a3⟩ b hb hq
    interval_cases b
    · exact a0
    · exact a1 (by omega)
    · exact (a2 (by omega)).1
    · exact (a3 (by omega)).1.1
    · have := (a3 (by omega)).1.2 (by omega); simpa [Nat.sub_sub] using this
    · have := ((a3 (by omega)).2 (by omega)).1; simpa [Nat.sub_sub] using this
    · have := ((a3 (by omega)).2 (by omega)).2 (by omega); simpa [Nat.sub_sub] using this
  · intro h
    refine ⟨⟨⟨h 0 (by omega) (by omega), fun _ => h 1 (by omega) (by omega)⟩, fun _ => ⟨h 2 (by omega) (by omega), fun e => ?_⟩⟩,
      fun _ => ⟨⟨h 3 (by omega) (by omega), fun e => ?_⟩, fun e => ⟨?_, fun e' => ?_⟩⟩⟩
    · have := h 3 (by omega) (by omega); simpa [Nat.sub_sub] using this
    · have := h 4 (by omega) (by omega); simpa [Nat.sub_sub] using this
    · have := h 5 (by omega) (by omega); simpa [Nat.sub_sub] using this
    · have := h 6 (by omega) (by omega); simpa [Nat.sub_sub] using this

/-- Reaching the threshold over the last seven rows of plane `p`. -/
abbrev Rows (γ : EReal) (i : grid0.Coords) (q : Fin 56) (w : Fin 384) (p : ℕ) : Prop := ∀ b < 7, b ≤ q.val → Low γ i w p (q.val - b)

theorem le_runMin (γ : EReal) (i : grid0.Coords) (p : ℕ) (q : Fin 56) (w : Fin 384) :
    gate γ ≤ runMin (F := Ideal) i p (ix2 q w) ↔ ∀ k ≤ p, Rows γ i q w k := by
  induction p with
  | zero =>
    rw [runMin, le_rowMin]
    constructor
    · intro h k hk
      obtain rfl : k = 0 := Nat.le_zero.mp hk
      exact h
    · exact fun h => h 0 le_rfl
  | succ p ih =>
    show gate γ ≤ min (runMin (F := Ideal) i p (ix2 q w)) (rowMin (F := Ideal) i (p + 1) (ix2 q w)) ↔ _
    rw [le_min_iff, ih, le_rowMin]
    refine ⟨fun h k hk => ?_, fun h => ⟨fun k hk => h k (by omega), h (p + 1) le_rfl⟩⟩
    rcases Nat.lt_or_ge p k with e | e
    · obtain rfl : k = p + 1 := by omega
      exact h.2
    · exact h.1 k e

/-- A plane of window minima reaches the threshold where no draw of the window hits. -/
theorem le_winMin (γ : EReal) (i : grid0.Coords) (p : ℕ) (q : Fin 56) (w : Fin 384) :
    gate γ ≤ winMin (F := Ideal) i p (ix2 q w) ↔ ∀ a < 7, a ≤ p → Rows γ i q w (p - a) := by
  by_cases h : p < 6
  · rw [winMin, if_pos h, le_runMin]
    refine ⟨fun e a _ _ => e _ (by omega), fun e k hk => ?_⟩
    have := e (p - k) (by omega) (by omega)
    rwa [Nat.sub_sub_self hk] at this
  · rw [winMin, if_neg h]
    show gate γ ≤ min (min (min (min (rowMin (F := Ideal) i p (ix2 q w)) (rowMin (F := Ideal) i (p - 1) (ix2 q w)))
      (min (rowMin (F := Ideal) i (p - 2) (ix2 q w)) (rowMin (F := Ideal) i (p - 2 - 1) (ix2 q w))))
      (min (rowMin (F := Ideal) i (p - 4) (ix2 q w)) (rowMin (F := Ideal) i (p - 4 - 1) (ix2 q w))))
      (rowMin (F := Ideal) i (p - 6) (ix2 q w)) ↔ _
    simp only [le_min_iff, le_rowMin]
    constructor
    · rintro ⟨⟨⟨⟨a0, a1⟩, a2, a3⟩, a4, a5⟩, a6⟩ a ha _
      interval_cases a
      · exact a0
      · exact a1
      · exact a2
      · exact a3
      · exact a4
      · exact a5
      · exact a6
    · intro e
      exact ⟨⟨⟨⟨e 0 (by omega) (by omega), e 1 (by omega) (by omega)⟩, e 2 (by omega) (by omega), e 3 (by omega) (by omega)⟩,
        e 4 (by omega) (by omega), e 5 (by omega) (by omega)⟩, e 6 (by omega) (by omega)⟩

/-- The image and the channel a grid point's lane stands for. -/
abbrev image (i : grid0.Coords) (w : Fin 384) : ℕ := 2 * (i 0).val + w.val / 192
abbrev channel (w : Fin 384) : ℕ := w.val % 192

theorem le_winMin_kept (γ : EReal) (i : grid0.Coords) (p : ℕ) (q : Fin 56) (w : Fin 384) :
    gate γ ≤ winMin (F := Ideal) i p (ix2 q w) ↔ Kept γ (image i w) (channel w) p q.val := by
  rw [le_winMin]
  have e : ∀ p q, pos (image i w) (channel w) p q = (i 0).val * 1204224 + w.val * 3136 + p * 56 + q := by
    intro p q
    unfold pos image channel
    have := Nat.div_add_mod w.val 192
    omega
  unfold Kept
  simp only [e]

/-- The keep word. -/
theorem keep_apply (γ : EReal) (i : grid0.Coords) (p : ℕ) (q : Fin 56) (w : Fin 384) :
    keep (F := Ideal) i (gate γ) p (ix2 q w) = if Kept γ (image i w) (channel w) p q.val then 1#32 else 0#32 := by
  show (BitVec.ofBool (decide (gate γ ≤ winMin (F := Ideal) i p (ix2 q w)))).setWidth 32 = _
  by_cases h : Kept γ (image i w) (channel w) p q.val
  · rw [if_pos h, decide_eq_true ((le_winMin_kept γ i p q w).mpr h)]; rfl
  · rw [if_neg h, decide_eq_false fun e => h ((le_winMin_kept γ i p q w).mp e)]; rfl

end Cert.KernelIdeal.Planes

end
-- ==== Proof.Words.lean ====
/-
  The kept positions packed: the bit of a plane in the packed words, and what the scaling kernel makes of it.
-/
module

public import proofs.«01_k».proof.Proof.Keep
public import proofs.«01_k».proof.Proof.Run

@[expose] public section

set_option maxRecDepth 16384

noncomputable section

namespace Cert.KernelIdeal.Planes

open Idealize.ShloMosaic Cert.KernelIdeal Cert.KernelIdeal.Gen Cert.Mix
open Cert.KernelIdeal.Spec
open Classical

theorem keep_bit (γ : EReal) (i : grid0.Coords) (p k b : ℕ) (hk : k < 32) (q : Fin 56) (w : Fin 384) :
    (IntOp.shli .vector (keep (F := Ideal) i (Mix.gate γ) p (ix2 q w)) (BitVec.ofNat 32 k)).getLsbD b
      = decide (b = k ∧ Kept γ (image i w) (channel w) p q.val) := by
  rw [shl_of (by rw [BitVec.toNat_ofNat, Nat.mod_eq_of_lt (by omega)]; exact hk), keep_apply, BitVec.shiftLeft_eq',
    BitVec.toNat_ofNat, Nat.mod_eq_of_lt (by omega), BitVec.getLsbD_shiftLeft]
  by_cases h : Kept γ (image i w) (channel w) p q.val
  · rw [if_pos h, BitVec.getLsbD_one]
    by_cases e : b = k
    · subst e; simp [h, hk]
    · have : ¬ (¬ b < k ∧ b - k = 0) := by omega
      simp [h, e]
      intros
      omega
  · rw [if_neg h]; simp [h]

theorem low_bit (γ : EReal) (i : grid0.Coords) (k b : ℕ) (q : Fin 56) (w : Fin 384) :
    (low (F := Ideal) i (Mix.gate γ) k (ix2 q w)).getLsbD b = decide (b < k ∧ b < 32 ∧ Kept γ (image i w) (channel w) b q.val) := by
  induction k with
  | zero => show (0#32).getLsbD b = _; simp
  | succ k ih =>
    rw [low]
    by_cases hk : k < 32
    · rw [if_pos hk]
      show (low (F := Ideal) i (Mix.gate γ) k (ix2 q w) ||| IntOp.shli .vector (keep (F := Ideal) i (Mix.gate γ) k (ix2 q w))
        (BitVec.ofNat 32 (k % 32))).getLsbD b = _
      rw [BitVec.getLsbD_or, ih, keep_bit _ _ _ _ _ (Nat.mod_lt _ (by omega)), Nat.mod_eq_of_lt hk, ← Bool.decide_or]
      refine decide_eq_decide.mpr ⟨?_, ?_⟩
      · rintro (⟨h1, h2, h3⟩ | ⟨rfl, h⟩)
        · exact ⟨by omega, h2, h3⟩
        · exact ⟨by omega, hk, h⟩
      · rintro ⟨h1, h2, h3⟩
        rcases Nat.lt_or_ge b k with h | h
        · exact .inl ⟨h, h2, h3⟩
        · obtain rfl : b = k := by omega
          exact .inr ⟨rfl, h3⟩
    · rw [if_neg hk, ih]
      exact decide_eq_decide.mpr ⟨fun ⟨h1, h2, h3⟩ => ⟨by omega, h2, h3⟩, fun ⟨h1, h2, h3⟩ => ⟨by omega, h2, h3⟩⟩

theorem high_bit (γ : EReal) (i : grid0.Coords) (k b : ℕ) (hk56 : k ≤ 64) (q : Fin 56) (w : Fin 384) :
    (high (F := Ideal) i (Mix.gate γ) k (ix2 q w)).getLsbD b = decide (32 + b < k ∧ Kept γ (image i w) (channel w) (32 + b) q.val) := by
  induction k with
  | zero => show (0#32).getLsbD b = _; simp
  | succ k ih =>
    rw [high]
    by_cases hk : k < 32
    · rw [if_pos hk, ih (by omega)]
      exact decide_eq_decide.mpr ⟨fun ⟨h1, h2⟩ => ⟨by omega, h2⟩, fun ⟨h1, h2⟩ => absurd h1 (by omega)⟩
    · rw [if_neg hk]
      show (high (F := Ideal) i (Mix.gate γ) k (ix2 q w) ||| IntOp.shli .vector (keep (F := Ideal) i (Mix.gate γ) k (ix2 q w))
        (BitVec.ofNat 32 (k % 32))).getLsbD b = _
      have hm : k % 32 = k - 32 := by omega
      rw [BitVec.getLsbD_or, ih (by omega), keep_bit _ _ _ _ _ (Nat.mod_lt _ (by omega)), hm, ← Bool.decide_or]
      refine decide_eq_decide.mpr ⟨?_, ?_⟩
      · rintro (⟨h1, h2⟩ | ⟨rfl, h⟩)
        · exact ⟨by omega, h2⟩
        · exact ⟨by omega, by rwa [Nat.add_sub_cancel' (by omega)]⟩
      · rintro ⟨h1, h2⟩
        rcases Nat.lt_or_ge (32 + b) k with h | h
        · exact .inl ⟨h, h2⟩
        · have e : 32 + b = k := by omega
          exact .inr ⟨by omega, e ▸ h2⟩

/-- A bit shifted down and masked, as a float. -/
theorem bit_float (a : BitVec 32) (s : ℕ) (h : s < 32) :
    (FloatOps.sitofp (F := Ideal) FTy.f32 (IntOp.andi (IntOp.shrsi ArithUnit.vector a (BitVec.ofNat 32 s)) 1#32) : EReal)
      = if a.getLsbD s then 1 else 0 := by
  have hs : (BitVec.ofNat 32 s).toNat = s := by rw [BitVec.toNat_ofNat]; omega
  have e : IntOp.andi (IntOp.shrsi ArithUnit.vector a (BitVec.ofNat 32 s)) 1#32 = if a.getLsbD s then 1#32 else 0#32 := by
    rw [IntOp.shrsi, if_pos (by rw [hs]; exact h), IntOp.andi, BitVec.sshiftRight', hs]
    apply BitVec.eq_of_getLsbD_eq
    intro k hk
    rw [BitVec.getLsbD_and, BitVec.getLsbD_sshiftRight, BitVec.getLsbD_one]
    by_cases h0 : k = 0
    · subst h0
      cases a.getLsbD s <;> simp [h]
    · cases a.getLsbD s <;> simp [h0, BitVec.getLsbD_one]
  rw [e]
  show (((if a.getLsbD s then 1#32 else 0#32 : BitVec 32).toInt : ℝ) : EReal) = _
  cases a.getLsbD s <;> simp

/-- The scaled block at a position: the plane's bit taken from the word of its half. -/
theorem scaled_apply (n : BitVec 32) (x : S1x2x56x192.Idx → BitVec 32) (y : S1x56x56x192.Idx → EReal)
    (p q : Fin 56) (c : Fin 192) (u : Fin 2) (sh : ℕ) (hu : u.val = p.val / 32) (hs : sh = p.val % 32) :
    scaled (F := Ideal) n x y (ix4 (0 : Fin 1) p q c)
      = y (ix4 (0 : Fin 1) p q c) * ((if (x (ix4 (0 : Fin 1) u q c)).getLsbD sh then 1 else 0)
          * Ideal.div (Ideal.ofBits .f32 0x4B930000#32) ((n.toInt : ℝ) : EReal)) := by
  have hp : p.val < 56 := p.isLt
  pointwise [scaled, k1_pay1]
  have e0 : VecWindow.window x ![0, 0, 0, 0] ![1, 1, 56, 192] inb_S1x2x56x192_S1x1x56x192_0_0_0_0 (ix4 0 0 q c) = x (ix4 0 0 q c) :=
    congrArg x (funext fun a => by
      fin_cases a
      · rfl
      · rfl
      · exact Fin.ext (by show 0 + 1 * q.val = q.val; omega)
      · exact Fin.ext (by show 0 + 1 * c.val = c.val; omega))
  have e1 : VecWindow.window x ![0, 1, 0, 0] ![1, 1, 56, 192] inb_S1x2x56x192_S1x1x56x192_0_1_0_0 (ix4 0 0 q c) = x (ix4 0 1 q c) :=
    congrArg x (funext fun a => by
      fin_cases a
      · rfl
      · rfl
      · exact Fin.ext (by show 0 + 1 * q.val = q.val; omega)
      · exact Fin.ext (by show 0 + 1 * c.val = c.val; omega))
  rw [e0, e1, select_slt 32 p.val (by omega) (by omega), select_slt 32 p.val (by omega) (by omega)]
  congr 2
  have ew : (if p.val < 32 then x (ix4 0 0 q c) else x (ix4 0 1 q c)) = x (ix4 0 u q c) := by
    by_cases h : p.val < 32
    · rw [if_pos h]; obtain rfl : u = 0 := Fin.ext (by rw [hu]; show p.val / 32 = 0; omega); rfl
    · rw [if_neg h]; obtain rfl : u = 1 := Fin.ext (by rw [hu]; show p.val / 32 = 1; omega); rfl
  have es : (if p.val < 32 then BitVec.ofNat 32 p.val else IntOp.subi (BitVec.ofNat 32 p.val) 32#32) = BitVec.ofNat 32 sh := by
    by_cases h : p.val < 32
    · rw [if_pos h, hs, Nat.mod_eq_of_lt h]
    · rw [if_neg h]
      apply BitVec.eq_of_toNat_eq
      simp only [IntOp.subi, BitVec.toNat_sub, BitVec.toNat_ofNat]
      omega
  rw [ew, es]
  exact bit_float _ sh (by omega)

end Cert.KernelIdeal.Planes

end
-- ==== Proof.Blocks.lean ====
/-
  The packed block of a grid point, read at an index: which position each bit speaks of.
-/
module

public import proofs.«01_k».proof.Proof.Words

@[expose] public section

set_option maxRecDepth 16384

noncomputable section

namespace Cert.KernelIdeal.Planes

open Idealize.ShloMosaic Cert.KernelIdeal Cert.KernelIdeal.Gen Cert.Mix
open Cert.KernelIdeal.Spec
open Classical

/-- One of the four stores of a point, read at an index. -/
theorem put_apply (x : S1x2x2x56x192.Idx → BitVec 32) (a b : ℕ) (v : S1x1x1x56x192.Idx → BitVec 32) (h u : Fin 2) (q : Fin 56) (c : Fin 192) :
    VecWindow.put x ![0, a, b, 0, 0] S1x1x1x56x192.size v (ix5 0 h u q c)
      = if h.val = a ∧ u.val = b then v (ix5 0 0 0 q c) else x (ix5 0 h u q c) := by
  have hq := q.isLt
  have hc := c.isLt
  by_cases e : h.val = a ∧ u.val = b
  · obtain ⟨rfl, rfl⟩ := e
    rw [if_pos ⟨rfl, rfl⟩]
    have H : ∀ k : Fin 5, (![0, h.val, u.val, 0, 0] : Fin 5 → ℕ) k ≤ ((ix5 0 h u q c : S1x2x2x56x192.Idx) k).val
        ∧ ((ix5 0 h u q c : S1x2x2x56x192.Idx) k).val < (![0, h.val, u.val, 0, 0] : Fin 5 → ℕ) k + S1x1x1x56x192.size k := by
      intro k
      fin_cases k
      · exact ⟨Nat.zero_le _, Nat.zero_lt_one⟩
      · exact ⟨le_refl h.val, Nat.lt_succ_self h.val⟩
      · exact ⟨le_refl u.val, Nat.lt_succ_self u.val⟩
      · exact ⟨Nat.zero_le _, by show q.val < 0 + 56; omega⟩
      · exact ⟨Nat.zero_le _, by show c.val < 0 + 192; omega⟩
    refine (dif_pos H).trans (congrArg v (funext fun k => Fin.ext ?_))
    show ((ix5 0 h u q c : S1x2x2x56x192.Idx) k).val - (![0, h.val, u.val, 0, 0] : Fin 5 → ℕ) k = ((ix5 0 0 0 q c : S1x1x1x56x192.Idx) k).val
    fin_cases k
    · rfl
    · exact Nat.sub_self h.val
    · exact Nat.sub_self u.val
    · rfl
    · rfl
  · rw [if_neg e]
    refine dif_neg fun H => e ?_
    have h1 : a ≤ h.val ∧ h.val < a + 1 := H 1
    have h2 : b ≤ u.val ∧ u.val < b + 1 := H 2
    omega

theorem win_left (x : S56x384.Idx → BitVec 32) (q : Fin 56) (c : Fin 192) :
    VecWindow.window x ![0, 0] S56x192.size inb_S56x384_S56x192_0_0 (ix2 q c) = x (ix2 q ⟨c.val, by omega⟩) := by
  refine congrArg x (funext fun a => ?_)
  fin_cases a
  · exact Fin.ext (by show 0 + 1 * q.val = q.val; omega)
  · exact Fin.ext (by show 0 + 1 * c.val = c.val; omega)

theorem win_right (x : S56x384.Idx → BitVec 32) (q : Fin 56) (c : Fin 192) :
    VecWindow.window x ![0, 192] S56x192.size inb_S56x384_S56x192_0_192 (ix2 q c) = x (ix2 q ⟨192 + c.val, by omega⟩) := by
  refine congrArg x (funext fun a => ?_)
  fin_cases a
  · exact Fin.ext (by show 0 + 1 * q.val = q.val; omega)
  · exact Fin.ext (by show 192 + 1 * c.val = 192 + c.val; omega)

theorem pay326 (x : Vec Ideal S56x192 .i32) (q : Fin 56) (c : Fin 192) : k0_pay326 (F := Ideal) x (ix5 0 0 0 q c) = x (ix2 q c) := by
  pointwise [k0_pay326]
theorem pay327 (x : Vec Ideal S56x192 .i32) (q : Fin 56) (c : Fin 192) : k0_pay327 (F := Ideal) x (ix5 0 0 0 q c) = x (ix2 q c) := by
  pointwise [k0_pay327]
theorem pay328 (x : Vec Ideal S56x192 .i32) (q : Fin 56) (c : Fin 192) : k0_pay328 (F := Ideal) x (ix5 0 0 0 q c) = x (ix2 q c) := by
  pointwise [k0_pay328]
theorem pay1 (x : Vec Ideal S56x192 .i32) (q : Fin 56) (c : Fin 192) : k0_pay1 (F := Ideal) x (ix5 0 0 0 q c) = x (ix2 q c) := by
  pointwise [k0_pay1]

/-- The lane of an image's half and a channel. -/
def lane (h : Fin 2) (c : Fin 192) : Fin 384 := ⟨h.val * 192 + c.val, by omega⟩

theorem block_apply (i : grid0.Coords) (g : Ideal .f32) (h u : Fin 2) (q : Fin 56) (c : Fin 192) :
    block (F := Ideal) i g (ix5 0 h u q c) = if u.val = 0 then low (F := Ideal) i g 56 (ix2 q (lane h c)) else high (F := Ideal) i g 56 (ix2 q (lane h c)) := by
  unfold block packed
  rw [put_apply, put_apply, put_apply, put_apply, pay1, pay328, pay327, pay326, win_left, win_left, win_right, win_right]
  have e0 : h.val = 0 → lane h c = ⟨c.val, by omega⟩ := fun e => Fin.ext (by show h.val * 192 + c.val = c.val; omega)
  have e1 : h.val = 1 → lane h c = ⟨192 + c.val, by omega⟩ := fun e => Fin.ext (by show h.val * 192 + c.val = 192 + c.val; omega)
  have c1 : h.val = 0 ∨ h.val = 1 := by omega
  have c2 : u.val = 0 ∨ u.val = 1 := by omega
  rcases c1 with c1 | c1 <;> rcases c2 with c2 | c2
  · rw [if_neg (by omega), if_neg (by omega), if_neg (by omega), if_pos (by omega), if_pos (by omega), e0 c1]
  · rw [if_neg (by omega), if_neg (by omega), if_pos (by omega), if_neg (by omega), e0 c1]
  · rw [if_neg (by omega), if_pos (by omega), if_pos (by omega), e1 c1]
  · rw [if_pos (by omega), if_neg (by omega), e1 c1]

/-- The bit of a plane in the packed block: whether the position is kept. -/
theorem block_bit (γ : EReal) (i : grid0.Coords) (h u : Fin 2) (p : Fin 56) (hu : u.val = p.val / 32) (q : Fin 56) (c : Fin 192) :
    (block (F := Ideal) i (Mix.gate γ) (ix5 0 h u q c)).getLsbD (p.val % 32)
      = decide (Kept γ (2 * (i 0).val + h.val) c.val p.val q.val) := by
  have i1 : image i (lane h c) = 2 * (i 0).val + h.val := by
    show 2 * (i 0).val + (h.val * 192 + c.val) / 192 = _
    omega
  have i2 : channel (lane h c) = c.val := by
    show (h.val * 192 + c.val) % 192 = _
    omega
  rw [block_apply]
  by_cases hz : u.val = 0
  · rw [if_pos hz, low_bit, i1, i2]
    have e : p.val % 32 = p.val := by omega
    rw [e]
    refine decide_eq_decide.mpr ⟨fun H => H.2.2, fun H => ⟨by omega, by omega, H⟩⟩
  · rw [if_neg hz, high_bit _ _ _ _ (by omega), i1, i2]
    have e : 32 + p.val % 32 = p.val := by omega
    rw [e]
    refine decide_eq_decide.mpr ⟨fun H => H.2, fun H => ⟨by omega, H⟩⟩

end Cert.KernelIdeal.Planes

end
-- ==== Proof.Counts.lean ====
/-
  The kept positions counted: a point's tally, and the sum of the tallies over the grid.
-/
module

public import proofs.«01_k».proof.Proof.Keep
public import proofs.«01_k».proof.Proof.Run

@[expose] public section

set_option maxRecDepth 16384

noncomputable section

namespace Cert.KernelIdeal.Planes

open Idealize.ShloMosaic Cert.KernelIdeal Cert.KernelIdeal.Gen Cert.Mix
open Cert.KernelIdeal.Spec
open Classical

/-- One where the position is kept, else zero. -/
def one (γ : EReal) (n c p q : ℕ) : ℕ := if Kept γ n c p q then 1 else 0

theorem count_apply (γ : EReal) (i : grid0.Coords) (k : ℕ) (q : Fin 56) (w : Fin 384) :
    count (F := Ideal) i (Mix.gate γ) k (ix2 q w) = BitVec.ofNat 32 (∑ p ∈ Finset.range k, one γ (image i w) (channel w) p q.val) := by
  induction k with
  | zero => rfl
  | succ k ih =>
    show count (F := Ideal) i (Mix.gate γ) k (ix2 q w) + keep (F := Ideal) i (Mix.gate γ) k (ix2 q w) = _
    rw [ih, keep_apply, Finset.sum_range_succ, BitVec.ofNat_add]
    congr 1
    unfold one
    split <;> rfl

theorem fold_ofNat {ι : Type} (s : Finset ι) (f : ι → BitVec 32) (g : ι → ℕ) (h : ∀ j, f j = BitVec.ofNat 32 (g j)) :
    Finset.fold IntOp.addi 0#32 f s = BitVec.ofNat 32 (∑ j ∈ s, g j) := by
  induction s using Finset.induction_on with
  | empty => rfl
  | insert a s ha ih => rw [Finset.fold_insert ha, ih, Finset.sum_insert ha, h, BitVec.ofNat_add]; rfl

theorem tally_eq (γ : EReal) (i : grid0.Coords) :
    tally (F := Ideal) i (Mix.gate γ)
      = BitVec.ofNat 32 (∑ q : Fin 56, ∑ w : Fin 384, ∑ p ∈ Finset.range 56, one γ (image i w) (channel w) p q.val) := by
  pointwise [tally, k0_pay2]
  simp only [count_apply]
  rw [fold_ofNat _ _ (fun j : Fin 56 × Fin 384 => ∑ p ∈ Finset.range 56, one γ (image i j.2) (channel j.2) p j.1.val) fun j => rfl,
    Fintype.sum_prod_type]

/-- The kept positions of the grid point `i`. -/
def pointSum (γ : EReal) (i : ℕ) : ℕ := ∑ q : Fin 56, ∑ w : Fin 384, ∑ p : Fin 56, one γ (2 * i + w.val / 192) (w.val % 192) p.val q.val

theorem total_eq (γ : EReal) (n : ℕ) (hn : n ≤ 16) :
    total (F := Ideal) (Mix.gate γ) n = BitVec.ofNat 32 (∑ i ∈ Finset.range n, pointSum γ i) := by
  induction n with
  | zero => rfl
  | succ n ih =>
    have h : n < grid0.N := by show n < 16; omega
    rw [total_succ _ ⟨n, h⟩, Finset.sum_range_succ, BitVec.ofNat_add]
    have e : tally (F := Ideal) (grid0.coords ⟨n, h⟩) (Mix.gate γ) = BitVec.ofNat 32 (pointSum γ n) := by
      rw [tally_eq]
      unfold pointSum image channel
      rw [coords0]
      simp only [Finset.sum_range]
    rw [e]
    show total (F := Ideal) (Mix.gate γ) n + _ = _
    rw [ih (by omega)]

/-- The kept positions over all images, channels, planes and rows. -/
def allSum (γ : EReal) : ℕ := ∑ n : Fin 32, ∑ c : Fin 192, ∑ p : Fin 56, ∑ q : Fin 56, one γ n.val c.val p.val q.val

/-- A sum over a product's numbers is the sum over the pairs. -/
theorem sum_pairs (a b : ℕ) (f : ℕ → ℕ) : ∑ k : Fin (a * b), f k.val = ∑ x : Fin a, ∑ y : Fin b, f (x.val * b + y.val) := by
  rw [← Equiv.sum_comp finProdFinEquiv, Fintype.sum_prod_type]
  refine Finset.sum_congr rfl fun x _ => Finset.sum_congr rfl fun y _ => ?_
  congr 1
  show y.val + b * x.val = _
  rw [Nat.mul_comm, Nat.add_comm]

theorem lanes (g : ℕ → ℕ → ℕ) (i : ℕ) : ∑ w : Fin 384, g (2 * i + w.val / 192) (w.val % 192)
    = ∑ h : Fin 2, ∑ c : Fin 192, g (i * 2 + h.val) c.val := by
  rw [sum_pairs 2 192 fun w => g (2 * i + w / 192) (w % 192)]
  refine Finset.sum_congr rfl fun h _ => Finset.sum_congr rfl fun c _ => ?_
  have e1 : (h.val * 192 + c.val) / 192 = h.val := by omega
  have e2 : (h.val * 192 + c.val) % 192 = c.val := by omega
  rw [e1, e2, Nat.mul_comm]

theorem sum_points (γ : EReal) : ∑ i ∈ Finset.range 16, pointSum γ i = allSum γ := by
  have e : ∀ i, pointSum γ i = ∑ h : Fin 2, ∑ c : Fin 192, ∑ p : Fin 56, ∑ q : Fin 56, one γ (i * 2 + h.val) c.val p.val q.val := by
    intro i
    unfold pointSum
    rw [Finset.sum_comm, lanes (fun n c => ∑ q : Fin 56, ∑ p : Fin 56, one γ n c p.val q.val) i]
    exact Finset.sum_congr rfl fun h _ => Finset.sum_congr rfl fun c _ => Finset.sum_comm
  rw [Finset.sum_congr rfl fun i _ => e i, Finset.sum_range]
  exact (sum_pairs 16 2 fun n => ∑ c : Fin 192, ∑ p : Fin 56, ∑ q : Fin 56, one γ n c.val p.val q.val).symm

theorem allSum_le (γ : EReal) : allSum γ ≤ 19267584 := by
  have h : allSum γ ≤ ∑ _n : Fin 32, ∑ _c : Fin 192, ∑ _p : Fin 56, ∑ _q : Fin 56, 1 :=
    Finset.sum_le_sum fun n _ => Finset.sum_le_sum fun c _ => Finset.sum_le_sum fun p _ => Finset.sum_le_sum fun q _ => by
      unfold one; split <;> omega
  refine h.trans ?_
  simp only [Finset.sum_const, Finset.card_univ, Fintype.card_fin, smul_eq_mul]
  norm_num

/-- The count the grid leaves, as a number. -/
theorem total_toInt (γ : EReal) : (total (F := Ideal) (Mix.gate γ) 16).toInt = (allSum γ : ℤ) := by
  rw [total_eq γ 16 le_rfl, sum_points]
  have := allSum_le γ
  rw [BitVec.toInt_eq_toNat_of_lt (by rw [BitVec.toNat_ofNat]; omega), BitVec.toNat_ofNat, Nat.mod_eq_of_lt (by omega)]

end Cert.KernelIdeal.Planes

end
-- ==== Proof.Arrays.lean ====
/-
  The arrays of the run at the ideal instance: what each buffer holds after each stretch of the program.
-/
module

public import proofs.«01_k».proof.Proof.Blocks
public import proofs.«01_k».proof.Proof.Counts
public import proofs.«01_k».proof.Proof.Launched
public import Idealize.ShloMosaic.Lib.Pipeline.ValueKit.Point

@[expose] public section

set_option maxRecDepth 16384

noncomputable section

namespace Cert.KernelIdeal.Planes

open Idealize.ShloMosaic Idealize.ShloMosaic.TcCoe Cert.KernelIdeal Cert.KernelIdeal.Gen Cert.Mix
open Idealize.ShloMosaic.StableHlo
open Cert.KernelIdeal.Spec
open Classical

variable (m : (ℓ : Loc nD τ sig) → Buf (Elt Ideal) ℓ) (c : Dev nD)

/-- The two arguments. -/
def xs : FVec Ideal S32x192x56x56 FTy.f32 := m ((c.tc : Thread nD τ).loc main_arg0)
def gamma : EReal := (show FVec Ideal S_ FTy.f32 from m ((c.tc : Thread nD τ).loc main_arg1)) (fun a => a.elim0)

/-! ## Before the first region -/

theorem v0_eq : V1 m c main_v0 = transpose S32x56x56x192 [0, 2, 3, 1] (xs m c) transposes_S32x192x56x56_S32x56x56x192_0_2_3_1 := by
  after_results
  rfl

theorem v0_apply (n : Fin 32) (p q : Fin 56) (k : Fin 192) :
    (show FVec Ideal S32x56x56x192 FTy.f32 from V1 m c main_v0) (ix4 n p q k) = xs m c (ix4 n k p q) := by
  rw [v0_eq]
  pointwise

theorem gate_eq : Spec.gate (V1 m c) = Mix.gate (gamma m c) := by
  have e : (V1 m c main_v3) = shapeCast S1x1 (Host.ceil (F := Ideal) (mulf (show FVec Ideal S_ FTy.f32 from m ((c.tc : Thread nD τ).loc main_arg1)) (constant S_ .f32 0x4B000000#32))) shapeCasts_S_S1x1 := by
    after_results
    rfl
  unfold Spec.gate
  rw [e]
  unfold Mix.gate
  rw [← ofBits_two23]
  show Ideal.liftRound Int.ceil (_ * Ideal.ofBits .f32 0x4B000000#32) = _
  refine congrArg (fun a => Ideal.liftRound Int.ceil (a * Ideal.ofBits .f32 0x4B000000#32)) ?_
  exact congrArg (show FVec Ideal S_ FTy.f32 from m ((c.tc : Thread nD τ).loc main_arg1)) (funext fun a => a.elim0)

/-! ## After it -/

/-- The packed words of all the grid points. -/
def allWords (g : EReal) : S16x2x2x56x192.Idx → BitVec 32 := fun j =>
  block (F := Ideal) (grid0.coords (show Fin grid0.N from j 0)) g (ix5 0 (j 1) (j 2) (j 3) (j 4))

theorem index0_1 : ∀ t : Fin cfg0.N, win0_1.index t = ![t.val, 0, 0, 0, 0] := (by decide +kernel : ∀ t : Fin grid0.N, _)

theorem words_eq : (show IVec S16x2x2x56x192 32 from V2 m (outs m) c main_v4_0) = allWords (Spec.gate (V1 m c)) := by
  refine (V2_region m c main_v4_0).trans ?_
  refine (Pipeline.afterRegion_arr (dat0 (V1 m) c) (V1 m c) winFacts0.arr_inj 1).trans ?_
  refine (dat0 (V1 m) c).arrAt_eq_of_covers 1 _ (by decide +kernel) fun t hf y => ?_
  blk_simp
  rw [after0_1]
  have e0 : (show Fin grid0.N from ((win0_1.blk t).view.emb y) 0) = t := by
    refine Fin.ext ?_
    show (((win0_1.blk t).view.emb y) 0).val = t.val
    blk_simp [index0_1 t]
  have ey : y = ix5 0 (((win0_1.blk t).view.emb y) 1) (((win0_1.blk t).view.emb y) 2) (((win0_1.blk t).view.emb y) 3) (((win0_1.blk t).view.emb y) 4) := by
    blk_ext [index0_1 t]
  unfold allWords
  rw [e0]
  exact congrArg (block (F := Ideal) (grid0.coords t) (Spec.gate (V1 m c))) ey

theorem count_eq : Spec.kept (V2 m (outs m) c) = total (F := Ideal) (Spec.gate (V1 m c)) 16 := by
  have e : (show IVec S1x1 32 from V2 m (outs m) c main_v4_1) = fun _ => total (F := Ideal) (Spec.gate (V1 m c)) 16 := by
    refine (V2_region m c main_v4_1).trans ?_
    refine (Pipeline.afterRegion_arr (dat0 (V1 m) c) (V1 m c) winFacts0.arr_inj 2).trans ?_
    refine (dat0 (V1 m) c).arrAt_eq_of_covers 2 _ (by decide +kernel) fun t hf y => ?_
    have ht : t.val = 15 := by
      have := (flush0_2 t).mp hf
      have hN : t.val < 16 := t.isLt
      omega
    blk_simp
    rw [after0_2, ht]
  exact congrFun e word0

/-! ## Before the second region -/

theorem kept_eq : Spec.kept (V3 m (outs m) c) = total (F := Ideal) (Spec.gate (V1 m c)) 16 := by
  rw [← count_eq]
  exact congrFun (V3_of m (outs m) c main_v4_1 (by decide)) word0

theorem v5_apply (n : Fin 32) (u : Fin 2) (q : Fin 56) (k : Fin 192) :
    (show IVec S32x2x56x192 32 from V3 m (outs m) c main_v5) (ix4 n u q k)
      = allWords (Spec.gate (V1 m c)) (ix5 ⟨n.val / 2, by omega⟩ ⟨n.val % 2, by omega⟩ u q k) := by
  have e : (show IVec S32x2x56x192 32 from V3 m (outs m) c main_v5)
      = shapeCast S32x2x56x192 (show IVec S16x2x2x56x192 32 from V2 m (outs m) c main_v4_0) shapeCasts_S16x2x2x56x192_S32x2x56x192 := by
    after_results
    rfl
  rw [e, words_eq]
  pointwise

theorem v0_keep : (show FVec Ideal S32x56x56x192 FTy.f32 from V3 m (outs m) c main_v0) = V1 m c main_v0 :=
  (V3_of m (outs m) c main_v0 (by decide)).trans (V2_of m (outs m) c main_v0 (by decide))

/-! ## After the second region -/

/-- The scaled block of every image. -/
def allScaled : S32x56x56x192.Idx → EReal := fun j =>
  scaled (F := Ideal) (Spec.kept (V3 m (outs m) c)) (inWords (V3 m (outs m)) c (show Fin grid1.N from j 0)) (inX (V3 m (outs m)) c (show Fin grid1.N from j 0))
    (ix4 0 (j 1) (j 2) (j 3))

theorem index1_3 : ∀ t : Fin cfg1.N, win1_3.index t = ![t.val, 0, 0, 0] := (by decide +kernel : ∀ t : Fin grid1.N, _)
theorem index1_2 : ∀ t : Fin cfg1.N, win1_2.index t = ![t.val, 0, 0, 0] := (by decide +kernel : ∀ t : Fin grid1.N, _)
theorem index1_1 : ∀ t : Fin cfg1.N, win1_1.index t = ![t.val, 0, 0, 0] := (by decide +kernel : ∀ t : Fin grid1.N, _)

theorem v6_eq : (show FVec Ideal S32x56x56x192 FTy.f32 from V4 m (outs m) c main_v6) = allScaled m c := by
  refine (V4_region m c main_v6).trans ?_
  refine (Pipeline.afterRegion_arr (dat1 (V3 m (outs m)) c) (V3 m (outs m) c) winFacts1.arr_inj 3).trans ?_
  refine (dat1 (V3 m (outs m)) c).arrAt_eq_of_covers 3 _ (by decide +kernel) fun t hf y => ?_
  blk_simp
  rw [after1_3]
  have e0 : (show Fin grid1.N from ((win1_3.blk t).view.emb y) 0) = t := by
    refine Fin.ext ?_
    show (((win1_3.blk t).view.emb y) 0).val = t.val
    blk_simp [index1_3 t]
  have ey : y = ix4 0 (((win1_3.blk t).view.emb y) 1) (((win1_3.blk t).view.emb y) 2) (((win1_3.blk t).view.emb y) 3) := by
    blk_ext [index1_3 t]
  unfold allScaled
  rw [e0]
  exact congrArg (scaled (F := Ideal) (Spec.kept (V3 m (outs m) c)) (inWords (V3 m (outs m)) c t) (inX (V3 m (outs m)) c t)) ey

theorem words_apply (t : Fin cfg1.N) (u : Fin 2) (q : Fin 56) (k : Fin 192) :
    inWords (V3 m (outs m)) c t (ix4 0 u q k) = (show IVec S32x2x56x192 32 from V3 m (outs m) c main_v5) (ix4 (show Fin 32 from t) u q k) := by
  unfold inWords
  blk_simp
  refine congrArg (V3 m (outs m) c (Proc.tc.devRef main_v5)) ?_
  blk_ext [index1_2 t]

theorem x_apply (t : Fin cfg1.N) (p q : Fin 56) (k : Fin 192) :
    inX (V3 m (outs m)) c t (ix4 0 p q k) = (show FVec Ideal S32x56x56x192 FTy.f32 from V3 m (outs m) c main_v0) (ix4 (show Fin 32 from t) p q k) := by
  unfold inX
  blk_simp
  refine congrArg (V3 m (outs m) c (Proc.tc.devRef main_v0)) ?_
  blk_ext [index1_1 t]

theorem v7_apply (n : Fin 32) (k : Fin 192) (p q : Fin 56) :
    (show FVec Ideal S32x192x56x56 FTy.f32 from V5 m (outs m) c main_v7) (ix4 n k p q) = allScaled m c (ix4 n p q k) := by
  have e : (show FVec Ideal S32x192x56x56 FTy.f32 from V5 m (outs m) c main_v7)
      = transpose S32x192x56x56 [0, 3, 1, 2] (show FVec Ideal S32x56x56x192 FTy.f32 from V4 m (outs m) c main_v6) transposes_S32x56x56x192_S32x192x56x56_0_3_1_2 := by
    after_results
  rw [e, v6_eq]
  pointwise

/-- The kernel's result at a position. -/
theorem v7_value (n : Fin 32) (k : Fin 192) (p q : Fin 56) :
    (show FVec Ideal S32x192x56x56 FTy.f32 from V5 m (outs m) c main_v7) (ix4 n k p q)
      = xs m c (ix4 n k p q) * ((if Kept (gamma m c) n.val k.val p.val q.val then 1 else 0)
        * Ideal.div (Ideal.ofBits .f32 0x4B930000#32) ((allSum (gamma m c) : ℝ) : EReal)) := by
  have hb : (inWords (V3 m (outs m)) c (show Fin grid1.N from n) (ix4 0 (⟨p.val / 32, by omega⟩ : Fin 2) q k)).getLsbD (p.val % 32)
      = decide (Kept (gamma m c) n.val k.val p.val q.val) := by
    rw [words_apply]
    refine (congrArg (fun x : BitVec 32 => x.getLsbD (p.val % 32)) (v5_apply m c n ⟨p.val / 32, by omega⟩ q k)).trans ?_
    rw [gate_eq]
    refine (block_bit (gamma m c) (grid0.coords (show Fin grid0.N from ⟨n.val / 2, by show n.val / 2 < 16; omega⟩)) ⟨n.val % 2, by omega⟩
      ⟨p.val / 32, by omega⟩ p rfl q k).trans ?_
    rw [coords0]
    have e : 2 * (n.val / 2) + n.val % 2 = n.val := by omega
    simp only [e]
  have hx : inX (V3 m (outs m)) c (show Fin grid1.N from n) (ix4 0 p q k) = xs m c (ix4 n k p q) := by
    refine (x_apply m c _ p q k).trans ?_
    refine (congrFun (v0_keep m c) _).trans ?_
    exact v0_apply m c n p q k
  refine (v7_apply m c n k p q).trans ?_
  refine (scaled_apply _ _ _ p q k ⟨p.val / 32, by omega⟩ (p.val % 32) rfl rfl).trans ?_
  refine congrArg₂ (fun a b : EReal => a * b) hx (congrArg₂ (fun a b : EReal => a * b) ?_ ?_)
  · refine (congrArg (fun b : Bool => if b = true then (1 : EReal) else 0) hb).trans ?_
    simp only [decide_eq_true_eq]
  · rw [kept_eq, gate_eq, total_toInt]
    rfl

end Cert.KernelIdeal.Planes

end
-- ==== Proof.RefWords.lean ====
/-
  The reference's random words: its threefry call read one position at a time is the same twenty rounds, from the
  position's flat index.
-/
module

public import proofs.«01_k».proof.Proof.RefRun
public import proofs.«01_k».proof.Proof.Mix
public import Idealize.ShloMosaic.Lib.Pointwise

@[expose] public section

set_option maxRecDepth 65536

noncomputable section

namespace Cert.ReferenceIdeal.Run

open Idealize.ShloMosaic Idealize.ShloMosaic.TcCoe Idealize.ShloMosaic.StableHlo
open Cert.ReferenceIdeal Cert.ReferenceIdeal.Gen Cert.Mix

variable {F : FTy → Type} [FloatOps F] (V : Valuation τ sig (Elt F))

/-- A word array, and a word. -/
local notation "Arr" => IVec S32x192x56x56 32
local notation "One" => IVec S_ 32
local notation "Long" => IVec S32x192x56x56 64

/-- One round from its nine operations. -/
theorem round_of {a b a' cl sl cr sr o b' : Arr} {l r : One} (x y : BitVec 32) (h1 : a' = addi a b)
    (hl : l = constantI S_ 32 x) (hcl : cl = broadcastInDim S32x192x56x56 ![] bcast_S_S32x192x56x56 l) (hsl : sl = Host.shli b cl)
    (hr : r = constantI S_ 32 y) (hcr : cr = broadcastInDim S32x192x56x56 ![] bcast_S_S32x192x56x56 r) (hsr : sr = Host.shrui b cr)
    (ho : o = ori sl sr) (hb : b' = xori a' o) (hx : x.toNat < 32) (hy : y.toNat < 32) (j : S32x192x56x56.Idx) :
    at2 (a', b') j = round1 x y (at2 (a, b) j) := by
  subst hb ho hsr hsl hcr hcl hr hl h1
  show (a j + b j, (a j + b j) ^^^ (IntOp.shli .host (b j) x ||| IntOp.shrui .host (b j) y)) = _
  rw [shl_of hx, shr_of hy]
  rfl

/-- One injection from its seven operations. -/
theorem key_of {a b ca a' cb b₁ cc b' : Arr} {p q c : One} (x y z : BitVec 32)
    (hp : ∀ i, p i = x) (hq : ∀ i, q i = y) (hca : ca = broadcastInDim S32x192x56x56 ![] bcast_S_S32x192x56x56 p) (ha : a' = addi a ca)
    (hcb : cb = broadcastInDim S32x192x56x56 ![] bcast_S_S32x192x56x56 q) (hb₁ : b₁ = addi b cb) (hc : c = constantI S_ 32 z)
    (hcc : cc = broadcastInDim S32x192x56x56 ![] bcast_S_S32x192x56x56 c) (hb : b' = addi b₁ cc) (j : S32x192x56x56.Idx) :
    at2 (a', b') j = key1 x (y + z) (at2 (a, b) j) := by
  subst hb hcc hc hb₁ hcb ha hca
  simp only [at2, key1, addi, broadcastInDim, constantI, IntOp.addi, hp, hq, BitVec.add_assoc]

theorem e51 : (W V main_call0_call0_v6 : Arr) = (addi) (W V main_call0_call0_v3) (W V main_call0_call0_v5) := (rising.holds V 51 _ main_call0_call0_v6 rfl rfl).trans (binary_result' ..)
theorem e52 : (W V main_call0_call0_c_0 : One) = (constantI S_ 32 13#32) := (rising.holds V 52 _ main_call0_call0_c_0 rfl rfl).trans (nullary_result' ..)
theorem e53 : (W V main_call0_call0_v7 : Arr) = ((broadcastInDim S32x192x56x56 ![] bcast_S_S32x192x56x56)) (W V main_call0_call0_c_0) := (rising.holds V 53 _ main_call0_call0_v7 rfl rfl).trans (unary_result' ..)
theorem e54 : (W V main_call0_call0_v8 : Arr) = (Host.shli) (W V main_call0_call0_v5) (W V main_call0_call0_v7) := (rising.holds V 54 _ main_call0_call0_v8 rfl rfl).trans (binary_result' ..)
theorem e55 : (W V main_call0_call0_c_1 : One) = (constantI S_ 32 19#32) := (rising.holds V 55 _ main_call0_call0_c_1 rfl rfl).trans (nullary_result' ..)
theorem e56 : (W V main_call0_call0_v9 : Arr) = ((broadcastInDim S32x192x56x56 ![] bcast_S_S32x192x56x56)) (W V main_call0_call0_c_1) := (rising.holds V 56 _ main_call0_call0_v9 rfl rfl).trans (unary_result' ..)
theorem e57 : (W V main_call0_call0_v10 : Arr) = (Host.shrui) (W V main_call0_call0_v5) (W V main_call0_call0_v9) := (rising.holds V 57 _ main_call0_call0_v10 rfl rfl).trans (binary_result' ..)
theorem e58 : (W V main_call0_call0_v11 : Arr) = (ori) (W V main_call0_call0_v8) (W V main_call0_call0_v10) := (rising.holds V 58 _ main_call0_call0_v11 rfl rfl).trans (binary_result' ..)
theorem e59 : (W V main_call0_call0_v12 : Arr) = (xori) (W V main_call0_call0_v6) (W V main_call0_call0_v11) := (rising.holds V 59 _ main_call0_call0_v12 rfl rfl).trans (binary_result' ..)
theorem e60 : (W V main_call0_call0_v13 : Arr) = (addi) (W V main_call0_call0_v6) (W V main_call0_call0_v12) := (rising.holds V 60 _ main_call0_call0_v13 rfl rfl).trans (binary_result' ..)
theorem e61 : (W V main_call0_call0_c_2 : One) = (constantI S_ 32 15#32) := (rising.holds V 61 _ main_call0_call0_c_2 rfl rfl).trans (nullary_result' ..)
theorem e62 : (W V main_call0_call0_v14 : Arr) = ((broadcastInDim S32x192x56x56 ![] bcast_S_S32x192x56x56)) (W V main_call0_call0_c_2) := (rising.holds V 62 _ main_call0_call0_v14 rfl rfl).trans (unary_result' ..)
theorem e63 : (W V main_call0_call0_v15 : Arr) = (Host.shli) (W V main_call0_call0_v12) (W V main_call0_call0_v14) := (rising.holds V 63 _ main_call0_call0_v15 rfl rfl).trans (binary_result' ..)
theorem e64 : (W V main_call0_call0_c_3 : One) = (constantI S_ 32 17#32) := (rising.holds V 64 _ main_call0_call0_c_3 rfl rfl).trans (nullary_result' ..)
theorem e65 : (W V main_call0_call0_v16 : Arr) = ((broadcastInDim S32x192x56x56 ![] bcast_S_S32x192x56x56)) (W V main_call0_call0_c_3) := (rising.holds V 65 _ main_call0_call0_v16 rfl rfl).trans (unary_result' ..)
theorem e66 : (W V main_call0_call0_v17 : Arr) = (Host.shrui) (W V main_call0_call0_v12) (W V main_call0_call0_v16) := (rising.holds V 66 _ main_call0_call0_v17 rfl rfl).trans (binary_result' ..)
theorem e67 : (W V main_call0_call0_v18 : Arr) = (ori) (W V main_call0_call0_v15) (W V main_call0_call0_v17) := (rising.holds V 67 _ main_call0_call0_v18 rfl rfl).trans (binary_result' ..)
theorem e68 : (W V main_call0_call0_v19 : Arr) = (xori) (W V main_call0_call0_v13) (W V main_call0_call0_v18) := (rising.holds V 68 _ main_call0_call0_v19 rfl rfl).trans (binary_result' ..)
theorem e69 : (W V main_call0_call0_v20 : Arr) = (addi) (W V main_call0_call0_v13) (W V main_call0_call0_v19) := (rising.holds V 69 _ main_call0_call0_v20 rfl rfl).trans (binary_result' ..)
theorem e70 : (W V main_call0_call0_c_4 : One) = (constantI S_ 32 26#32) := (rising.holds V 70 _ main_call0_call0_c_4 rfl rfl).trans (nullary_result' ..)
theorem e71 : (W V main_call0_call0_v21 : Arr) = ((broadcastInDim S32x192x56x56 ![] bcast_S_S32x192x56x56)) (W V main_call0_call0_c_4) := (rising.holds V 71 _ main_call0_call0_v21 rfl rfl).trans (unary_result' ..)
theorem e72 : (W V main_call0_call0_v22 : Arr) = (Host.shli) (W V main_call0_call0_v19) (W V main_call0_call0_v21) := (rising.holds V 72 _ main_call0_call0_v22 rfl rfl).trans (binary_result' ..)
theorem e73 : (W V main_call0_call0_c_5 : One) = (constantI S_ 32 6#32) := (rising.holds V 73 _ main_call0_call0_c_5 rfl rfl).trans (nullary_result' ..)
theorem e74 : (W V main_call0_call0_v23 : Arr) = ((broadcastInDim S32x192x56x56 ![] bcast_S_S32x192x56x56)) (W V main_call0_call0_c_5) := (rising.holds V 74 _ main_call0_call0_v23 rfl rfl).trans (unary_result' ..)
theorem e75 : (W V main_call0_call0_v24 : Arr) = (Host.shrui) (W V main_call0_call0_v19) (W V main_call0_call0_v23) := (rising.holds V 75 _ main_call0_call0_v24 rfl rfl).trans (binary_result' ..)
theorem e76 : (W V main_call0_call0_v25 : Arr) = (ori) (W V main_call0_call0_v22) (W V main_call0_call0_v24) := (rising.holds V 76 _ main_call0_call0_v25 rfl rfl).trans (binary_result' ..)
theorem e77 : (W V main_call0_call0_v26 : Arr) = (xori) (W V main_call0_call0_v20) (W V main_call0_call0_v25) := (rising.holds V 77 _ main_call0_call0_v26 rfl rfl).trans (binary_result' ..)
theorem e78 : (W V main_call0_call0_v27 : Arr) = (addi) (W V main_call0_call0_v20) (W V main_call0_call0_v26) := (rising.holds V 78 _ main_call0_call0_v27 rfl rfl).trans (binary_result' ..)
theorem e79 : (W V main_call0_call0_c_6 : One) = (constantI S_ 32 6#32) := (rising.holds V 79 _ main_call0_call0_c_6 rfl rfl).trans (nullary_result' ..)
theorem e80 : (W V main_call0_call0_v28 : Arr) = ((broadcastInDim S32x192x56x56 ![] bcast_S_S32x192x56x56)) (W V main_call0_call0_c_6) := (rising.holds V 80 _ main_call0_call0_v28 rfl rfl).trans (unary_result' ..)
theorem e81 : (W V main_call0_call0_v29 : Arr) = (Host.shli) (W V main_call0_call0_v26) (W V main_call0_call0_v28) := (rising.holds V 81 _ main_call0_call0_v29 rfl rfl).trans (binary_result' ..)
theorem e82 : (W V main_call0_call0_c_7 : One) = (constantI S_ 32 26#32) := (rising.holds V 82 _ main_call0_call0_c_7 rfl rfl).trans (nullary_result' ..)
theorem e83 : (W V main_call0_call0_v30 : Arr) = ((broadcastInDim S32x192x56x56 ![] bcast_S_S32x192x56x56)) (W V main_call0_call0_c_7) := (rising.holds V 83 _ main_call0_call0_v30 rfl rfl).trans (unary_result' ..)
theorem e84 : (W V main_call0_call0_v31 : Arr) = (Host.shrui) (W V main_call0_call0_v26) (W V main_call0_call0_v30) := (rising.holds V 84 _ main_call0_call0_v31 rfl rfl).trans (binary_result' ..)
theorem e85 : (W V main_call0_call0_v32 : Arr) = (ori) (W V main_call0_call0_v29) (W V main_call0_call0_v31) := (rising.holds V 85 _ main_call0_call0_v32 rfl rfl).trans (binary_result' ..)
theorem e86 : (W V main_call0_call0_v33 : Arr) = (xori) (W V main_call0_call0_v27) (W V main_call0_call0_v32) := (rising.holds V 86 _ main_call0_call0_v33 rfl rfl).trans (binary_result' ..)
theorem e87 : (W V main_call0_call0_v34 : Arr) = ((broadcastInDim S32x192x56x56 ![] bcast_S_S32x192x56x56)) (W V main_call0_v7) := (rising.holds V 87 _ main_call0_call0_v34 rfl rfl).trans (unary_result' ..)
theorem e88 : (W V main_call0_call0_v35 : Arr) = (addi) (W V main_call0_call0_v27) (W V main_call0_call0_v34) := (rising.holds V 88 _ main_call0_call0_v35 rfl rfl).trans (binary_result' ..)
theorem e89 : (W V main_call0_call0_v36 : Arr) = ((broadcastInDim S32x192x56x56 ![] bcast_S_S32x192x56x56)) (W V main_call0_call0_v1) := (rising.holds V 89 _ main_call0_call0_v36 rfl rfl).trans (unary_result' ..)
theorem e90 : (W V main_call0_call0_v37 : Arr) = (addi) (W V main_call0_call0_v33) (W V main_call0_call0_v36) := (rising.holds V 90 _ main_call0_call0_v37 rfl rfl).trans (binary_result' ..)
theorem e91 : (W V main_call0_call0_c_8 : One) = (constantI S_ 32 1#32) := (rising.holds V 91 _ main_call0_call0_c_8 rfl rfl).trans (nullary_result' ..)
theorem e92 : (W V main_call0_call0_v38 : Arr) = ((broadcastInDim S32x192x56x56 ![] bcast_S_S32x192x56x56)) (W V main_call0_call0_c_8) := (rising.holds V 92 _ main_call0_call0_v38 rfl rfl).trans (unary_result' ..)
theorem e93 : (W V main_call0_call0_v39 : Arr) = (addi) (W V main_call0_call0_v37) (W V main_call0_call0_v38) := (rising.holds V 93 _ main_call0_call0_v39 rfl rfl).trans (binary_result' ..)
theorem e94 : (W V main_call0_call0_v40 : Arr) = (addi) (W V main_call0_call0_v35) (W V main_call0_call0_v39) := (rising.holds V 94 _ main_call0_call0_v40 rfl rfl).trans (binary_result' ..)
theorem e95 : (W V main_call0_call0_c_9 : One) = (constantI S_ 32 17#32) := (rising.holds V 95 _ main_call0_call0_c_9 rfl rfl).trans (nullary_result' ..)
theorem e96 : (W V main_call0_call0_v41 : Arr) = ((broadcastInDim S32x192x56x56 ![] bcast_S_S32x192x56x56)) (W V main_call0_call0_c_9) := (rising.holds V 96 _ main_call0_call0_v41 rfl rfl).trans (unary_result' ..)
theorem e97 : (W V main_call0_call0_v42 : Arr) = (Host.shli) (W V main_call0_call0_v39) (W V main_call0_call0_v41) := (rising.holds V 97 _ main_call0_call0_v42 rfl rfl).trans (binary_result' ..)
theorem e98 : (W V main_call0_call0_c_10 : One) = (constantI S_ 32 15#32) := (rising.holds V 98 _ main_call0_call0_c_10 rfl rfl).trans (nullary_result' ..)
theorem e99 : (W V main_call0_call0_v43 : Arr) = ((broadcastInDim S32x192x56x56 ![] bcast_S_S32x192x56x56)) (W V main_call0_call0_c_10) := (rising.holds V 99 _ main_call0_call0_v43 rfl rfl).trans (unary_result' ..)
theorem e100 : (W V main_call0_call0_v44 : Arr) = (Host.shrui) (W V main_call0_call0_v39) (W V main_call0_call0_v43) := (rising.holds V 100 _ main_call0_call0_v44 rfl rfl).trans (binary_result' ..)
theorem e101 : (W V main_call0_call0_v45 : Arr) = (ori) (W V main_call0_call0_v42) (W V main_call0_call0_v44) := (rising.holds V 101 _ main_call0_call0_v45 rfl rfl).trans (binary_result' ..)
theorem e102 : (W V main_call0_call0_v46 : Arr) = (xori) (W V main_call0_call0_v40) (W V main_call0_call0_v45) := (rising.holds V 102 _ main_call0_call0_v46 rfl rfl).trans (binary_result' ..)
theorem e103 : (W V main_call0_call0_v47 : Arr) = (addi) (W V main_call0_call0_v40) (W V main_call0_call0_v46) := (rising.holds V 103 _ main_call0_call0_v47 rfl rfl).trans (binary_result' ..)
theorem e104 : (W V main_call0_call0_c_11 : One) = (constantI S_ 32 29#32) := (rising.holds V 104 _ main_call0_call0_c_11 rfl rfl).trans (nullary_result' ..)
theorem e105 : (W V main_call0_call0_v48 : Arr) = ((broadcastInDim S32x192x56x56 ![] bcast_S_S32x192x56x56)) (W V main_call0_call0_c_11) := (rising.holds V 105 _ main_call0_call0_v48 rfl rfl).trans (unary_result' ..)
theorem e106 : (W V main_call0_call0_v49 : Arr) = (Host.shli) (W V main_call0_call0_v46) (W V main_call0_call0_v48) := (rising.holds V 106 _ main_call0_call0_v49 rfl rfl).trans (binary_result' ..)
theorem e107 : (W V main_call0_call0_c_12 : One) = (constantI S_ 32 3#32) := (rising.holds V 107 _ main_call0_call0_c_12 rfl rfl).trans (nullary_result' ..)
theorem e108 : (W V main_call0_call0_v50 : Arr) = ((broadcastInDim S32x192x56x56 ![] bcast_S_S32x192x56x56)) (W V main_call0_call0_c_12) := (rising.holds V 108 _ main_call0_call0_v50 rfl rfl).trans (unary_result' ..)
theorem e109 : (W V main_call0_call0_v51 : Arr) = (Host.shrui) (W V main_call0_call0_v46) (W V main_call0_call0_v50) := (rising.holds V 109 _ main_call0_call0_v51 rfl rfl).trans (binary_result' ..)
theorem e110 : (W V main_call0_call0_v52 : Arr) = (ori) (W V main_call0_call0_v49) (W V main_call0_call0_v51) := (rising.holds V 110 _ main_call0_call0_v52 rfl rfl).trans (binary_result' ..)
theorem e111 : (W V main_call0_call0_v53 : Arr) = (xori) (W V main_call0_call0_v47) (W V main_call0_call0_v52) := (rising.holds V 111 _ main_call0_call0_v53 rfl rfl).trans (binary_result' ..)
theorem e112 : (W V main_call0_call0_v54 : Arr) = (addi) (W V main_call0_call0_v47) (W V main_call0_call0_v53) := (rising.holds V 112 _ main_call0_call0_v54 rfl rfl).trans (binary_result' ..)
theorem e113 : (W V main_call0_call0_c_13 : One) = (constantI S_ 32 16#32) := (rising.holds V 113 _ main_call0_call0_c_13 rfl rfl).trans (nullary_result' ..)
theorem e114 : (W V main_call0_call0_v55 : Arr) = ((broadcastInDim S32x192x56x56 ![] bcast_S_S32x192x56x56)) (W V main_call0_call0_c_13) := (rising.holds V 114 _ main_call0_call0_v55 rfl rfl).trans (unary_result' ..)
theorem e115 : (W V main_call0_call0_v56 : Arr) = (Host.shli) (W V main_call0_call0_v53) (W V main_call0_call0_v55) := (rising.holds V 115 _ main_call0_call0_v56 rfl rfl).trans (binary_result' ..)
theorem e116 : (W V main_call0_call0_c_14 : One) = (constantI S_ 32 16#32) := (rising.holds V 116 _ main_call0_call0_c_14 rfl rfl).trans (nullary_result' ..)
theorem e117 : (W V main_call0_call0_v57 : Arr) = ((broadcastInDim S32x192x56x56 ![] bcast_S_S32x192x56x56)) (W V main_call0_call0_c_14) := (rising.holds V 117 _ main_call0_call0_v57 rfl rfl).trans (unary_result' ..)
theorem e118 : (W V main_call0_call0_v58 : Arr) = (Host.shrui) (W V main_call0_call0_v53) (W V main_call0_call0_v57) := (rising.holds V 118 _ main_call0_call0_v58 rfl rfl).trans (binary_result' ..)
theorem e119 : (W V main_call0_call0_v59 : Arr) = (ori) (W V main_call0_call0_v56) (W V main_call0_call0_v58) := (rising.holds V 119 _ main_call0_call0_v59 rfl rfl).trans (binary_result' ..)
theorem e120 : (W V main_call0_call0_v60 : Arr) = (xori) (W V main_call0_call0_v54) (W V main_call0_call0_v59) := (rising.holds V 120 _ main_call0_call0_v60 rfl rfl).trans (binary_result' ..)
theorem e121 : (W V main_call0_call0_v61 : Arr) = (addi) (W V main_call0_call0_v54) (W V main_call0_call0_v60) := (rising.holds V 121 _ main_call0_call0_v61 rfl rfl).trans (binary_result' ..)
theorem e122 : (W V main_call0_call0_c_15 : One) = (constantI S_ 32 24#32) := (rising.holds V 122 _ main_call0_call0_c_15 rfl rfl).trans (nullary_result' ..)
theorem e123 : (W V main_call0_call0_v62 : Arr) = ((broadcastInDim S32x192x56x56 ![] bcast_S_S32x192x56x56)) (W V main_call0_call0_c_15) := (rising.holds V 123 _ main_call0_call0_v62 rfl rfl).trans (unary_result' ..)
theorem e124 : (W V main_call0_call0_v63 : Arr) = (Host.shli) (W V main_call0_call0_v60) (W V main_call0_call0_v62) := (rising.holds V 124 _ main_call0_call0_v63 rfl rfl).trans (binary_result' ..)
theorem e125 : (W V main_call0_call0_c_16 : One) = (constantI S_ 32 8#32) := (rising.holds V 125 _ main_call0_call0_c_16 rfl rfl).trans (nullary_result' ..)
theorem e126 : (W V main_call0_call0_v64 : Arr) = ((broadcastInDim S32x192x56x56 ![] bcast_S_S32x192x56x56)) (W V main_call0_call0_c_16) := (rising.holds V 126 _ main_call0_call0_v64 rfl rfl).trans (unary_result' ..)
theorem e127 : (W V main_call0_call0_v65 : Arr) = (Host.shrui) (W V main_call0_call0_v60) (W V main_call0_call0_v64) := (rising.holds V 127 _ main_call0_call0_v65 rfl rfl).trans (binary_result' ..)
theorem e128 : (W V main_call0_call0_v66 : Arr) = (ori) (W V main_call0_call0_v63) (W V main_call0_call0_v65) := (rising.holds V 128 _ main_call0_call0_v66 rfl rfl).trans (binary_result' ..)
theorem e129 : (W V main_call0_call0_v67 : Arr) = (xori) (W V main_call0_call0_v61) (W V main_call0_call0_v66) := (rising.holds V 129 _ main_call0_call0_v67 rfl rfl).trans (binary_result' ..)
theorem e130 : (W V main_call0_call0_v68 : Arr) = ((broadcastInDim S32x192x56x56 ![] bcast_S_S32x192x56x56)) (W V main_call0_call0_v1) := (rising.holds V 130 _ main_call0_call0_v68 rfl rfl).trans (unary_result' ..)
theorem e131 : (W V main_call0_call0_v69 : Arr) = (addi) (W V main_call0_call0_v61) (W V main_call0_call0_v68) := (rising.holds V 131 _ main_call0_call0_v69 rfl rfl).trans (binary_result' ..)
theorem e132 : (W V main_call0_call0_v70 : Arr) = ((broadcastInDim S32x192x56x56 ![] bcast_S_S32x192x56x56)) (W V main_call0_v5) := (rising.holds V 132 _ main_call0_call0_v70 rfl rfl).trans (unary_result' ..)
theorem e133 : (W V main_call0_call0_v71 : Arr) = (addi) (W V main_call0_call0_v67) (W V main_call0_call0_v70) := (rising.holds V 133 _ main_call0_call0_v71 rfl rfl).trans (binary_result' ..)
theorem e134 : (W V main_call0_call0_c_17 : One) = (constantI S_ 32 2#32) := (rising.holds V 134 _ main_call0_call0_c_17 rfl rfl).trans (nullary_result' ..)
theorem e135 : (W V main_call0_call0_v72 : Arr) = ((broadcastInDim S32x192x56x56 ![] bcast_S_S32x192x56x56)) (W V main_call0_call0_c_17) := (rising.holds V 135 _ main_call0_call0_v72 rfl rfl).trans (unary_result' ..)
theorem e136 : (W V main_call0_call0_v73 : Arr) = (addi) (W V main_call0_call0_v71) (W V main_call0_call0_v72) := (rising.holds V 136 _ main_call0_call0_v73 rfl rfl).trans (binary_result' ..)
theorem e137 : (W V main_call0_call0_v74 : Arr) = (addi) (W V main_call0_call0_v69) (W V main_call0_call0_v73) := (rising.holds V 137 _ main_call0_call0_v74 rfl rfl).trans (binary_result' ..)
theorem e138 : (W V main_call0_call0_c_18 : One) = (constantI S_ 32 13#32) := (rising.holds V 138 _ main_call0_call0_c_18 rfl rfl).trans (nullary_result' ..)
theorem e139 : (W V main_call0_call0_v75 : Arr) = ((broadcastInDim S32x192x56x56 ![] bcast_S_S32x192x56x56)) (W V main_call0_call0_c_18) := (rising.holds V 139 _ main_call0_call0_v75 rfl rfl).trans (unary_result' ..)
theorem e140 : (W V main_call0_call0_v76 : Arr) = (Host.shli) (W V main_call0_call0_v73) (W V main_call0_call0_v75) := (rising.holds V 140 _ main_call0_call0_v76 rfl rfl).trans (binary_result' ..)
theorem e141 : (W V main_call0_call0_c_19 : One) = (constantI S_ 32 19#32) := (rising.holds V 141 _ main_call0_call0_c_19 rfl rfl).trans (nullary_result' ..)
theorem e142 : (W V main_call0_call0_v77 : Arr) = ((broadcastInDim S32x192x56x56 ![] bcast_S_S32x192x56x56)) (W V main_call0_call0_c_19) := (rising.holds V 142 _ main_call0_call0_v77 rfl rfl).trans (unary_result' ..)
theorem e143 : (W V main_call0_call0_v78 : Arr) = (Host.shrui) (W V main_call0_call0_v73) (W V main_call0_call0_v77) := (rising.holds V 143 _ main_call0_call0_v78 rfl rfl).trans (binary_result' ..)
theorem e144 : (W V main_call0_call0_v79 : Arr) = (ori) (W V main_call0_call0_v76) (W V main_call0_call0_v78) := (rising.holds V 144 _ main_call0_call0_v79 rfl rfl).trans (binary_result' ..)
theorem e145 : (W V main_call0_call0_v80 : Arr) = (xori) (W V main_call0_call0_v74) (W V main_call0_call0_v79) := (rising.holds V 145 _ main_call0_call0_v80 rfl rfl).trans (binary_result' ..)
theorem e146 : (W V main_call0_call0_v81 : Arr) = (addi) (W V main_call0_call0_v74) (W V main_call0_call0_v80) := (rising.holds V 146 _ main_call0_call0_v81 rfl rfl).trans (binary_result' ..)
theorem e147 : (W V main_call0_call0_c_20 : One) = (constantI S_ 32 15#32) := (rising.holds V 147 _ main_call0_call0_c_20 rfl rfl).trans (nullary_result' ..)
theorem e148 : (W V main_call0_call0_v82 : Arr) = ((broadcastInDim S32x192x56x56 ![] bcast_S_S32x192x56x56)) (W V main_call0_call0_c_20) := (rising.holds V 148 _ main_call0_call0_v82 rfl rfl).trans (unary_result' ..)
theorem e149 : (W V main_call0_call0_v83 : Arr) = (Host.shli) (W V main_call0_call0_v80) (W V main_call0_call0_v82) := (rising.holds V 149 _ main_call0_call0_v83 rfl rfl).trans (binary_result' ..)
theorem e150 : (W V main_call0_call0_c_21 : One) = (constantI S_ 32 17#32) := (rising.holds V 150 _ main_call0_call0_c_21 rfl rfl).trans (nullary_result' ..)
theorem e151 : (W V main_call0_call0_v84 : Arr) = ((broadcastInDim S32x192x56x56 ![] bcast_S_S32x192x56x56)) (W V main_call0_call0_c_21) := (rising.holds V 151 _ main_call0_call0_v84 rfl rfl).trans (unary_result' ..)
theorem e152 : (W V main_call0_call0_v85 : Arr) = (Host.shrui) (W V main_call0_call0_v80) (W V main_call0_call0_v84) := (rising.holds V 152 _ main_call0_call0_v85 rfl rfl).trans (binary_result' ..)
theorem e153 : (W V main_call0_call0_v86 : Arr) = (ori) (W V main_call0_call0_v83) (W V main_call0_call0_v85) := (rising.holds V 153 _ main_call0_call0_v86 rfl rfl).trans (binary_result' ..)
theorem e154 : (W V main_call0_call0_v87 : Arr) = (xori) (W V main_call0_call0_v81) (W V main_call0_call0_v86) := (rising.holds V 154 _ main_call0_call0_v87 rfl rfl).trans (binary_result' ..)
theorem e155 : (W V main_call0_call0_v88 : Arr) = (addi) (W V main_call0_call0_v81) (W V main_call0_call0_v87) := (rising.holds V 155 _ main_call0_call0_v88 rfl rfl).trans (binary_result' ..)
theorem e156 : (W V main_call0_call0_c_22 : One) = (constantI S_ 32 26#32) := (rising.holds V 156 _ main_call0_call0_c_22 rfl rfl).trans (nullary_result' ..)
theorem e157 : (W V main_call0_call0_v89 : Arr) = ((broadcastInDim S32x192x56x56 ![] bcast_S_S32x192x56x56)) (W V main_call0_call0_c_22) := (rising.holds V 157 _ main_call0_call0_v89 rfl rfl).trans (unary_result' ..)
theorem e158 : (W V main_call0_call0_v90 : Arr) = (Host.shli) (W V main_call0_call0_v87) (W V main_call0_call0_v89) := (rising.holds V 158 _ main_call0_call0_v90 rfl rfl).trans (binary_result' ..)
theorem e159 : (W V main_call0_call0_c_23 : One) = (constantI S_ 32 6#32) := (rising.holds V 159 _ main_call0_call0_c_23 rfl rfl).trans (nullary_result' ..)
theorem e160 : (W V main_call0_call0_v91 : Arr) = ((broadcastInDim S32x192x56x56 ![] bcast_S_S32x192x56x56)) (W V main_call0_call0_c_23) := (rising.holds V 160 _ main_call0_call0_v91 rfl rfl).trans (unary_result' ..)
theorem e161 : (W V main_call0_call0_v92 : Arr) = (Host.shrui) (W V main_call0_call0_v87) (W V main_call0_call0_v91) := (rising.holds V 161 _ main_call0_call0_v92 rfl rfl).trans (binary_result' ..)
theorem e162 : (W V main_call0_call0_v93 : Arr) = (ori) (W V main_call0_call0_v90) (W V main_call0_call0_v92) := (rising.holds V 162 _ main_call0_call0_v93 rfl rfl).trans (binary_result' ..)
theorem e163 : (W V main_call0_call0_v94 : Arr) = (xori) (W V main_call0_call0_v88) (W V main_call0_call0_v93) := (rising.holds V 163 _ main_call0_call0_v94 rfl rfl).trans (binary_result' ..)
theorem e164 : (W V main_call0_call0_v95 : Arr) = (addi) (W V main_call0_call0_v88) (W V main_call0_call0_v94) := (rising.holds V 164 _ main_call0_call0_v95 rfl rfl).trans (binary_result' ..)
theorem e165 : (W V main_call0_call0_c_24 : One) = (constantI S_ 32 6#32) := (rising.holds V 165 _ main_call0_call0_c_24 rfl rfl).trans (nullary_result' ..)
theorem e166 : (W V main_call0_call0_v96 : Arr) = ((broadcastInDim S32x192x56x56 ![] bcast_S_S32x192x56x56)) (W V main_call0_call0_c_24) := (rising.holds V 166 _ main_call0_call0_v96 rfl rfl).trans (unary_result' ..)
theorem e167 : (W V main_call0_call0_v97 : Arr) = (Host.shli) (W V main_call0_call0_v94) (W V main_call0_call0_v96) := (rising.holds V 167 _ main_call0_call0_v97 rfl rfl).trans (binary_result' ..)
theorem e168 : (W V main_call0_call0_c_25 : One) = (constantI S_ 32 26#32) := (rising.holds V 168 _ main_call0_call0_c_25 rfl rfl).trans (nullary_result' ..)
theorem e169 : (W V main_call0_call0_v98 : Arr) = ((broadcastInDim S32x192x56x56 ![] bcast_S_S32x192x56x56)) (W V main_call0_call0_c_25) := (rising.holds V 169 _ main_call0_call0_v98 rfl rfl).trans (unary_result' ..)
theorem e170 : (W V main_call0_call0_v99 : Arr) = (Host.shrui) (W V main_call0_call0_v94) (W V main_call0_call0_v98) := (rising.holds V 170 _ main_call0_call0_v99 rfl rfl).trans (binary_result' ..)
theorem e171 : (W V main_call0_call0_v100 : Arr) = (ori) (W V main_call0_call0_v97) (W V main_call0_call0_v99) := (rising.holds V 171 _ main_call0_call0_v100 rfl rfl).trans (binary_result' ..)
theorem e172 : (W V main_call0_call0_v101 : Arr) = (xori) (W V main_call0_call0_v95) (W V main_call0_call0_v100) := (rising.holds V 172 _ main_call0_call0_v101 rfl rfl).trans (binary_result' ..)
theorem e173 : (W V main_call0_call0_v102 : Arr) = ((broadcastInDim S32x192x56x56 ![] bcast_S_S32x192x56x56)) (W V main_call0_v5) := (rising.holds V 173 _ main_call0_call0_v102 rfl rfl).trans (unary_result' ..)
theorem e174 : (W V main_call0_call0_v103 : Arr) = (addi) (W V main_call0_call0_v95) (W V main_call0_call0_v102) := (rising.holds V 174 _ main_call0_call0_v103 rfl rfl).trans (binary_result' ..)
theorem e175 : (W V main_call0_call0_v104 : Arr) = ((broadcastInDim S32x192x56x56 ![] bcast_S_S32x192x56x56)) (W V main_call0_v7) := (rising.holds V 175 _ main_call0_call0_v104 rfl rfl).trans (unary_result' ..)
theorem e176 : (W V main_call0_call0_v105 : Arr) = (addi) (W V main_call0_call0_v101) (W V main_call0_call0_v104) := (rising.holds V 176 _ main_call0_call0_v105 rfl rfl).trans (binary_result' ..)
theorem e177 : (W V main_call0_call0_c_26 : One) = (constantI S_ 32 3#32) := (rising.holds V 177 _ main_call0_call0_c_26 rfl rfl).trans (nullary_result' ..)
theorem e178 : (W V main_call0_call0_v106 : Arr) = ((broadcastInDim S32x192x56x56 ![] bcast_S_S32x192x56x56)) (W V main_call0_call0_c_26) := (rising.holds V 178 _ main_call0_call0_v106 rfl rfl).trans (unary_result' ..)
theorem e179 : (W V main_call0_call0_v107 : Arr) = (addi) (W V main_call0_call0_v105) (W V main_call0_call0_v106) := (rising.holds V 179 _ main_call0_call0_v107 rfl rfl).trans (binary_result' ..)
theorem e180 : (W V main_call0_call0_v108 : Arr) = (addi) (W V main_call0_call0_v103) (W V main_call0_call0_v107) := (rising.holds V 180 _ main_call0_call0_v108 rfl rfl).trans (binary_result' ..)
theorem e181 : (W V main_call0_call0_c_27 : One) = (constantI S_ 32 17#32) := (rising.holds V 181 _ main_call0_call0_c_27 rfl rfl).trans (nullary_result' ..)
theorem e182 : (W V main_call0_call0_v109 : Arr) = ((broadcastInDim S32x192x56x56 ![] bcast_S_S32x192x56x56)) (W V main_call0_call0_c_27) := (rising.holds V 182 _ main_call0_call0_v109 rfl rfl).trans (unary_result' ..)
theorem e183 : (W V main_call0_call0_v110 : Arr) = (Host.shli) (W V main_call0_call0_v107) (W V main_call0_call0_v109) := (rising.holds V 183 _ main_call0_call0_v110 rfl rfl).trans (binary_result' ..)
theorem e184 : (W V main_call0_call0_c_28 : One) = (constantI S_ 32 15#32) := (rising.holds V 184 _ main_call0_call0_c_28 rfl rfl).trans (nullary_result' ..)
theorem e185 : (W V main_call0_call0_v111 : Arr) = ((broadcastInDim S32x192x56x56 ![] bcast_S_S32x192x56x56)) (W V main_call0_call0_c_28) := (rising.holds V 185 _ main_call0_call0_v111 rfl rfl).trans (unary_result' ..)
theorem e186 : (W V main_call0_call0_v112 : Arr) = (Host.shrui) (W V main_call0_call0_v107) (W V main_call0_call0_v111) := (rising.holds V 186 _ main_call0_call0_v112 rfl rfl).trans (binary_result' ..)
theorem e187 : (W V main_call0_call0_v113 : Arr) = (ori) (W V main_call0_call0_v110) (W V main_call0_call0_v112) := (rising.holds V 187 _ main_call0_call0_v113 rfl rfl).trans (binary_result' ..)
theorem e188 : (W V main_call0_call0_v114 : Arr) = (xori) (W V main_call0_call0_v108) (W V main_call0_call0_v113) := (rising.holds V 188 _ main_call0_call0_v114 rfl rfl).trans (binary_result' ..)
theorem e189 : (W V main_call0_call0_v115 : Arr) = (addi) (W V main_call0_call0_v108) (W V main_call0_call0_v114) := (rising.holds V 189 _ main_call0_call0_v115 rfl rfl).trans (binary_result' ..)
theorem e190 : (W V main_call0_call0_c_29 : One) = (constantI S_ 32 29#32) := (rising.holds V 190 _ main_call0_call0_c_29 rfl rfl).trans (nullary_result' ..)
theorem e191 : (W V main_call0_call0_v116 : Arr) = ((broadcastInDim S32x192x56x56 ![] bcast_S_S32x192x56x56)) (W V main_call0_call0_c_29) := (rising.holds V 191 _ main_call0_call0_v116 rfl rfl).trans (unary_result' ..)
theorem e192 : (W V main_call0_call0_v117 : Arr) = (Host.shli) (W V main_call0_call0_v114) (W V main_call0_call0_v116) := (rising.holds V 192 _ main_call0_call0_v117 rfl rfl).trans (binary_result' ..)
theorem e193 : (W V main_call0_call0_c_30 : One) = (constantI S_ 32 3#32) := (rising.holds V 193 _ main_call0_call0_c_30 rfl rfl).trans (nullary_result' ..)
theorem e194 : (W V main_call0_call0_v118 : Arr) = ((broadcastInDim S32x192x56x56 ![] bcast_S_S32x192x56x56)) (W V main_call0_call0_c_30) := (rising.holds V 194 _ main_call0_call0_v118 rfl rfl).trans (unary_result' ..)
theorem e195 : (W V main_call0_call0_v119 : Arr) = (Host.shrui) (W V main_call0_call0_v114) (W V main_call0_call0_v118) := (rising.holds V 195 _ main_call0_call0_v119 rfl rfl).trans (binary_result' ..)
theorem e196 : (W V main_call0_call0_v120 : Arr) = (ori) (W V main_call0_call0_v117) (W V main_call0_call0_v119) := (rising.holds V 196 _ main_call0_call0_v120 rfl rfl).trans (binary_result' ..)
theorem e197 : (W V main_call0_call0_v121 : Arr) = (xori) (W V main_call0_call0_v115) (W V main_call0_call0_v120) := (rising.holds V 197 _ main_call0_call0_v121 rfl rfl).trans (binary_result' ..)
theorem e198 : (W V main_call0_call0_v122 : Arr) = (addi) (W V main_call0_call0_v115) (W V main_call0_call0_v121) := (rising.holds V 198 _ main_call0_call0_v122 rfl rfl).trans (binary_result' ..)
theorem e199 : (W V main_call0_call0_c_31 : One) = (constantI S_ 32 16#32) := (rising.holds V 199 _ main_call0_call0_c_31 rfl rfl).trans (nullary_result' ..)
theorem e200 : (W V main_call0_call0_v123 : Arr) = ((broadcastInDim S32x192x56x56 ![] bcast_S_S32x192x56x56)) (W V main_call0_call0_c_31) := (rising.holds V 200 _ main_call0_call0_v123 rfl rfl).trans (unary_result' ..)
theorem e201 : (W V main_call0_call0_v124 : Arr) = (Host.shli) (W V main_call0_call0_v121) (W V main_call0_call0_v123) := (rising.holds V 201 _ main_call0_call0_v124 rfl rfl).trans (binary_result' ..)
theorem e202 : (W V main_call0_call0_c_32 : One) = (constantI S_ 32 16#32) := (rising.holds V 202 _ main_call0_call0_c_32 rfl rfl).trans (nullary_result' ..)
theorem e203 : (W V main_call0_call0_v125 : Arr) = ((broadcastInDim S32x192x56x56 ![] bcast_S_S32x192x56x56)) (W V main_call0_call0_c_32) := (rising.holds V 203 _ main_call0_call0_v125 rfl rfl).trans (unary_result' ..)
theorem e204 : (W V main_call0_call0_v126 : Arr) = (Host.shrui) (W V main_call0_call0_v121) (W V main_call0_call0_v125) := (rising.holds V 204 _ main_call0_call0_v126 rfl rfl).trans (binary_result' ..)
theorem e205 : (W V main_call0_call0_v127 : Arr) = (ori) (W V main_call0_call0_v124) (W V main_call0_call0_v126) := (rising.holds V 205 _ main_call0_call0_v127 rfl rfl).trans (binary_result' ..)
theorem e206 : (W V main_call0_call0_v128 : Arr) = (xori) (W V main_call0_call0_v122) (W V main_call0_call0_v127) := (rising.holds V 206 _ main_call0_call0_v128 rfl rfl).trans (binary_result' ..)
theorem e207 : (W V main_call0_call0_v129 : Arr) = (addi) (W V main_call0_call0_v122) (W V main_call0_call0_v128) := (rising.holds V 207 _ main_call0_call0_v129 rfl rfl).trans (binary_result' ..)
theorem e208 : (W V main_call0_call0_c_33 : One) = (constantI S_ 32 24#32) := (rising.holds V 208 _ main_call0_call0_c_33 rfl rfl).trans (nullary_result' ..)
theorem e209 : (W V main_call0_call0_v130 : Arr) = ((broadcastInDim S32x192x56x56 ![] bcast_S_S32x192x56x56)) (W V main_call0_call0_c_33) := (rising.holds V 209 _ main_call0_call0_v130 rfl rfl).trans (unary_result' ..)
theorem e210 : (W V main_call0_call0_v131 : Arr) = (Host.shli) (W V main_call0_call0_v128) (W V main_call0_call0_v130) := (rising.holds V 210 _ main_call0_call0_v131 rfl rfl).trans (binary_result' ..)
theorem e211 : (W V main_call0_call0_c_34 : One) = (constantI S_ 32 8#32) := (rising.holds V 211 _ main_call0_call0_c_34 rfl rfl).trans (nullary_result' ..)
theorem e212 : (W V main_call0_call0_v132 : Arr) = ((broadcastInDim S32x192x56x56 ![] bcast_S_S32x192x56x56)) (W V main_call0_call0_c_34) := (rising.holds V 212 _ main_call0_call0_v132 rfl rfl).trans (unary_result' ..)
theorem e213 : (W V main_call0_call0_v133 : Arr) = (Host.shrui) (W V main_call0_call0_v128) (W V main_call0_call0_v132) := (rising.holds V 213 _ main_call0_call0_v133 rfl rfl).trans (binary_result' ..)
theorem e214 : (W V main_call0_call0_v134 : Arr) = (ori) (W V main_call0_call0_v131) (W V main_call0_call0_v133) := (rising.holds V 214 _ main_call0_call0_v134 rfl rfl).trans (binary_result' ..)
theorem e215 : (W V main_call0_call0_v135 : Arr) = (xori) (W V main_call0_call0_v129) (W V main_call0_call0_v134) := (rising.holds V 215 _ main_call0_call0_v135 rfl rfl).trans (binary_result' ..)
theorem e216 : (W V main_call0_call0_v136 : Arr) = ((broadcastInDim S32x192x56x56 ![] bcast_S_S32x192x56x56)) (W V main_call0_v7) := (rising.holds V 216 _ main_call0_call0_v136 rfl rfl).trans (unary_result' ..)
theorem e217 : (W V main_call0_call0_v137 : Arr) = (addi) (W V main_call0_call0_v129) (W V main_call0_call0_v136) := (rising.holds V 217 _ main_call0_call0_v137 rfl rfl).trans (binary_result' ..)
theorem e218 : (W V main_call0_call0_v138 : Arr) = ((broadcastInDim S32x192x56x56 ![] bcast_S_S32x192x56x56)) (W V main_call0_call0_v1) := (rising.holds V 218 _ main_call0_call0_v138 rfl rfl).trans (unary_result' ..)
theorem e219 : (W V main_call0_call0_v139 : Arr) = (addi) (W V main_call0_call0_v135) (W V main_call0_call0_v138) := (rising.holds V 219 _ main_call0_call0_v139 rfl rfl).trans (binary_result' ..)
theorem e220 : (W V main_call0_call0_c_35 : One) = (constantI S_ 32 4#32) := (rising.holds V 220 _ main_call0_call0_c_35 rfl rfl).trans (nullary_result' ..)
theorem e221 : (W V main_call0_call0_v140 : Arr) = ((broadcastInDim S32x192x56x56 ![] bcast_S_S32x192x56x56)) (W V main_call0_call0_c_35) := (rising.holds V 221 _ main_call0_call0_v140 rfl rfl).trans (unary_result' ..)
theorem e222 : (W V main_call0_call0_v141 : Arr) = (addi) (W V main_call0_call0_v139) (W V main_call0_call0_v140) := (rising.holds V 222 _ main_call0_call0_v141 rfl rfl).trans (binary_result' ..)
theorem e223 : (W V main_call0_call0_v142 : Arr) = (addi) (W V main_call0_call0_v137) (W V main_call0_call0_v141) := (rising.holds V 223 _ main_call0_call0_v142 rfl rfl).trans (binary_result' ..)
theorem e224 : (W V main_call0_call0_c_36 : One) = (constantI S_ 32 13#32) := (rising.holds V 224 _ main_call0_call0_c_36 rfl rfl).trans (nullary_result' ..)
theorem e225 : (W V main_call0_call0_v143 : Arr) = ((broadcastInDim S32x192x56x56 ![] bcast_S_S32x192x56x56)) (W V main_call0_call0_c_36) := (rising.holds V 225 _ main_call0_call0_v143 rfl rfl).trans (unary_result' ..)
theorem e226 : (W V main_call0_call0_v144 : Arr) = (Host.shli) (W V main_call0_call0_v141) (W V main_call0_call0_v143) := (rising.holds V 226 _ main_call0_call0_v144 rfl rfl).trans (binary_result' ..)
theorem e227 : (W V main_call0_call0_c_37 : One) = (constantI S_ 32 19#32) := (rising.holds V 227 _ main_call0_call0_c_37 rfl rfl).trans (nullary_result' ..)
theorem e228 : (W V main_call0_call0_v145 : Arr) = ((broadcastInDim S32x192x56x56 ![] bcast_S_S32x192x56x56)) (W V main_call0_call0_c_37) := (rising.holds V 228 _ main_call0_call0_v145 rfl rfl).trans (unary_result' ..)
theorem e229 : (W V main_call0_call0_v146 : Arr) = (Host.shrui) (W V main_call0_call0_v141) (W V main_call0_call0_v145) := (rising.holds V 229 _ main_call0_call0_v146 rfl rfl).trans (binary_result' ..)
theorem e230 : (W V main_call0_call0_v147 : Arr) = (ori) (W V main_call0_call0_v144) (W V main_call0_call0_v146) := (rising.holds V 230 _ main_call0_call0_v147 rfl rfl).trans (binary_result' ..)
theorem e231 : (W V main_call0_call0_v148 : Arr) = (xori) (W V main_call0_call0_v142) (W V main_call0_call0_v147) := (rising.holds V 231 _ main_call0_call0_v148 rfl rfl).trans (binary_result' ..)
theorem e232 : (W V main_call0_call0_v149 : Arr) = (addi) (W V main_call0_call0_v142) (W V main_call0_call0_v148) := (rising.holds V 232 _ main_call0_call0_v149 rfl rfl).trans (binary_result' ..)
theorem e233 : (W V main_call0_call0_c_38 : One) = (constantI S_ 32 15#32) := (rising.holds V 233 _ main_call0_call0_c_38 rfl rfl).trans (nullary_result' ..)
theorem e234 : (W V main_call0_call0_v150 : Arr) = ((broadcastInDim S32x192x56x56 ![] bcast_S_S32x192x56x56)) (W V main_call0_call0_c_38) := (rising.holds V 234 _ main_call0_call0_v150 rfl rfl).trans (unary_result' ..)
theorem e235 : (W V main_call0_call0_v151 : Arr) = (Host.shli) (W V main_call0_call0_v148) (W V main_call0_call0_v150) := (rising.holds V 235 _ main_call0_call0_v151 rfl rfl).trans (binary_result' ..)
theorem e236 : (W V main_call0_call0_c_39 : One) = (constantI S_ 32 17#32) := (rising.holds V 236 _ main_call0_call0_c_39 rfl rfl).trans (nullary_result' ..)
theorem e237 : (W V main_call0_call0_v152 : Arr) = ((broadcastInDim S32x192x56x56 ![] bcast_S_S32x192x56x56)) (W V main_call0_call0_c_39) := (rising.holds V 237 _ main_call0_call0_v152 rfl rfl).trans (unary_result' ..)
theorem e238 : (W V main_call0_call0_v153 : Arr) = (Host.shrui) (W V main_call0_call0_v148) (W V main_call0_call0_v152) := (rising.holds V 238 _ main_call0_call0_v153 rfl rfl).trans (binary_result' ..)
theorem e239 : (W V main_call0_call0_v154 : Arr) = (ori) (W V main_call0_call0_v151) (W V main_call0_call0_v153) := (rising.holds V 239 _ main_call0_call0_v154 rfl rfl).trans (binary_result' ..)
theorem e240 : (W V main_call0_call0_v155 : Arr) = (xori) (W V main_call0_call0_v149) (W V main_call0_call0_v154) := (rising.holds V 240 _ main_call0_call0_v155 rfl rfl).trans (binary_result' ..)
theorem e241 : (W V main_call0_call0_v156 : Arr) = (addi) (W V main_call0_call0_v149) (W V main_call0_call0_v155) := (rising.holds V 241 _ main_call0_call0_v156 rfl rfl).trans (binary_result' ..)
theorem e242 : (W V main_call0_call0_c_40 : One) = (constantI S_ 32 26#32) := (rising.holds V 242 _ main_call0_call0_c_40 rfl rfl).trans (nullary_result' ..)
theorem e243 : (W V main_call0_call0_v157 : Arr) = ((broadcastInDim S32x192x56x56 ![] bcast_S_S32x192x56x56)) (W V main_call0_call0_c_40) := (rising.holds V 243 _ main_call0_call0_v157 rfl rfl).trans (unary_result' ..)
theorem e244 : (W V main_call0_call0_v158 : Arr) = (Host.shli) (W V main_call0_call0_v155) (W V main_call0_call0_v157) := (rising.holds V 244 _ main_call0_call0_v158 rfl rfl).trans (binary_result' ..)
theorem e245 : (W V main_call0_call0_c_41 : One) = (constantI S_ 32 6#32) := (rising.holds V 245 _ main_call0_call0_c_41 rfl rfl).trans (nullary_result' ..)
theorem e246 : (W V main_call0_call0_v159 : Arr) = ((broadcastInDim S32x192x56x56 ![] bcast_S_S32x192x56x56)) (W V main_call0_call0_c_41) := (rising.holds V 246 _ main_call0_call0_v159 rfl rfl).trans (unary_result' ..)
theorem e247 : (W V main_call0_call0_v160 : Arr) = (Host.shrui) (W V main_call0_call0_v155) (W V main_call0_call0_v159) := (rising.holds V 247 _ main_call0_call0_v160 rfl rfl).trans (binary_result' ..)
theorem e248 : (W V main_call0_call0_v161 : Arr) = (ori) (W V main_call0_call0_v158) (W V main_call0_call0_v160) := (rising.holds V 248 _ main_call0_call0_v161 rfl rfl).trans (binary_result' ..)
theorem e249 : (W V main_call0_call0_v162 : Arr) = (xori) (W V main_call0_call0_v156) (W V main_call0_call0_v161) := (rising.holds V 249 _ main_call0_call0_v162 rfl rfl).trans (binary_result' ..)
theorem e250 : (W V main_call0_call0_v163 : Arr) = (addi) (W V main_call0_call0_v156) (W V main_call0_call0_v162) := (rising.holds V 250 _ main_call0_call0_v163 rfl rfl).trans (binary_result' ..)
theorem e251 : (W V main_call0_call0_c_42 : One) = (constantI S_ 32 6#32) := (rising.holds V 251 _ main_call0_call0_c_42 rfl rfl).trans (nullary_result' ..)
theorem e252 : (W V main_call0_call0_v164 : Arr) = ((broadcastInDim S32x192x56x56 ![] bcast_S_S32x192x56x56)) (W V main_call0_call0_c_42) := (rising.holds V 252 _ main_call0_call0_v164 rfl rfl).trans (unary_result' ..)
theorem e253 : (W V main_call0_call0_v165 : Arr) = (Host.shli) (W V main_call0_call0_v162) (W V main_call0_call0_v164) := (rising.holds V 253 _ main_call0_call0_v165 rfl rfl).trans (binary_result' ..)
theorem e254 : (W V main_call0_call0_c_43 : One) = (constantI S_ 32 26#32) := (rising.holds V 254 _ main_call0_call0_c_43 rfl rfl).trans (nullary_result' ..)
theorem e255 : (W V main_call0_call0_v166 : Arr) = ((broadcastInDim S32x192x56x56 ![] bcast_S_S32x192x56x56)) (W V main_call0_call0_c_43) := (rising.holds V 255 _ main_call0_call0_v166 rfl rfl).trans (unary_result' ..)
theorem e256 : (W V main_call0_call0_v167 : Arr) = (Host.shrui) (W V main_call0_call0_v162) (W V main_call0_call0_v166) := (rising.holds V 256 _ main_call0_call0_v167 rfl rfl).trans (binary_result' ..)
theorem e257 : (W V main_call0_call0_v168 : Arr) = (ori) (W V main_call0_call0_v165) (W V main_call0_call0_v167) := (rising.holds V 257 _ main_call0_call0_v168 rfl rfl).trans (binary_result' ..)
theorem e258 : (W V main_call0_call0_v169 : Arr) = (xori) (W V main_call0_call0_v163) (W V main_call0_call0_v168) := (rising.holds V 258 _ main_call0_call0_v169 rfl rfl).trans (binary_result' ..)
theorem e259 : (W V main_call0_call0_v170 : Arr) = ((broadcastInDim S32x192x56x56 ![] bcast_S_S32x192x56x56)) (W V main_call0_call0_v1) := (rising.holds V 259 _ main_call0_call0_v170 rfl rfl).trans (unary_result' ..)
theorem e260 : (W V main_call0_v27_0 : Arr) = (addi) (W V main_call0_call0_v163) (W V main_call0_call0_v170) := (rising.holds V 260 _ main_call0_v27_0 rfl rfl).trans (binary_result' ..)
theorem e261 : (W V main_call0_call0_v172 : Arr) = ((broadcastInDim S32x192x56x56 ![] bcast_S_S32x192x56x56)) (W V main_call0_v5) := (rising.holds V 261 _ main_call0_call0_v172 rfl rfl).trans (unary_result' ..)
theorem e262 : (W V main_call0_call0_v173 : Arr) = (addi) (W V main_call0_call0_v169) (W V main_call0_call0_v172) := (rising.holds V 262 _ main_call0_call0_v173 rfl rfl).trans (binary_result' ..)
theorem e263 : (W V main_call0_call0_c_44 : One) = (constantI S_ 32 5#32) := (rising.holds V 263 _ main_call0_call0_c_44 rfl rfl).trans (nullary_result' ..)
theorem e264 : (W V main_call0_call0_v174 : Arr) = ((broadcastInDim S32x192x56x56 ![] bcast_S_S32x192x56x56)) (W V main_call0_call0_c_44) := (rising.holds V 264 _ main_call0_call0_v174 rfl rfl).trans (unary_result' ..)
theorem e265 : (W V main_call0_v27_1 : Arr) = (addi) (W V main_call0_call0_v173) (W V main_call0_call0_v174) := (rising.holds V 265 _ main_call0_v27_1 rfl rfl).trans (binary_result' ..)
theorem e0 : (W V main_c : One) = (constantI S_ 32 42#32) := (rising.holds V 0 _ main_c rfl rfl).trans (nullary_result' ..)
theorem e1 : (W V main_c_0 : One) = (constantI S_ 32 32#32) := (rising.holds V 1 _ main_c_0 rfl rfl).trans (nullary_result' ..)
theorem e2 : (W V main_v0 : One) = ((Host.shrui : (⟨S_, .i32⟩ : BufTy).Contents (Elt F) → (⟨S_, .i32⟩ : BufTy).Contents (Elt F) → (⟨S_, .i32⟩ : BufTy).Contents (Elt F))) (W V main_c) (W V main_c_0) := (rising.holds V 2 _ main_v0 rfl rfl).trans (binary_result' ..)
theorem e3 : (W V main_v1 : One) = ((id : (⟨S_, .i32⟩ : BufTy).Contents (Elt F) → (⟨S_, .i32⟩ : BufTy).Contents (Elt F))) (W V main_v0) := (rising.holds V 3 _ main_v1 rfl rfl).trans (unary_result' ..)
theorem e4 : (W V main_v2 : IVec S1 32) = ((broadcastInDim S1 ![] bcast_S_S1 : (⟨S_, .i32⟩ : BufTy).Contents (Elt F) → (⟨S1, .i32⟩ : BufTy).Contents (Elt F))) (W V main_v1) := (rising.holds V 4 _ main_v2 rfl rfl).trans (unary_result' ..)
theorem e5 : (W V main_c_1 : One) = (constantI S_ 32 4294967295#32) := (rising.holds V 5 _ main_c_1 rfl rfl).trans (nullary_result' ..)
theorem e6 : (W V main_v3 : One) = ((andi : (⟨S_, .i32⟩ : BufTy).Contents (Elt F) → (⟨S_, .i32⟩ : BufTy).Contents (Elt F) → (⟨S_, .i32⟩ : BufTy).Contents (Elt F))) (W V main_c) (W V main_c_1) := (rising.holds V 6 _ main_v3 rfl rfl).trans (binary_result' ..)
theorem e7 : (W V main_v4 : One) = ((id : (⟨S_, .i32⟩ : BufTy).Contents (Elt F) → (⟨S_, .i32⟩ : BufTy).Contents (Elt F))) (W V main_v3) := (rising.holds V 7 _ main_v4 rfl rfl).trans (unary_result' ..)
theorem e8 : (W V main_v5 : IVec S1 32) = ((broadcastInDim S1 ![] bcast_S_S1 : (⟨S_, .i32⟩ : BufTy).Contents (Elt F) → (⟨S1, .i32⟩ : BufTy).Contents (Elt F))) (W V main_v4) := (rising.holds V 8 _ main_v5 rfl rfl).trans (unary_result' ..)
theorem e9 : (W V main_v6 : IVec S2 32) = (((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (W V main_v2) (W V main_v5) := (rising.holds V 9 _ main_v6 rfl rfl).trans (binary_result' ..)
theorem e16 : (W V main_call0_v4 : IVec S1 32) = ((extractStridedSlice S1 ![0] · slices_S2_S1_0)) (W V main_v6 : IVec S2 32) := (rising.holds V 16 _ main_call0_v4 rfl rfl).trans (unary_result' ..)
theorem e17 : (W V main_call0_v5 : One) = shapeCast S_ (W V main_call0_v4 : IVec S1 32) shapeCasts_S1_S_ := (rising.holds V 17 _ main_call0_v5 rfl rfl).trans (reshape_result' ..)
theorem e18 : (W V main_call0_v6 : IVec S1 32) = ((extractStridedSlice S1 ![1] · slices_S2_S1_1)) (W V main_v6 : IVec S2 32) := (rising.holds V 18 _ main_call0_v6 rfl rfl).trans (unary_result' ..)
theorem e19 : (W V main_call0_v7 : One) = shapeCast S_ (W V main_call0_v6 : IVec S1 32) shapeCasts_S1_S_ := (rising.holds V 19 _ main_call0_v7 rfl rfl).trans (reshape_result' ..)
theorem e20 : (W V main_call0_v8 : Long) = (iotaInDim S32x192x56x56 64 0) := (rising.holds V 20 _ main_call0_v8 rfl rfl).trans (nullary_result' ..)
theorem e21 : (W V main_call0_v9 : Long) = (iotaInDim S32x192x56x56 64 1) := (rising.holds V 21 _ main_call0_v9 rfl rfl).trans (nullary_result' ..)
theorem e22 : (W V main_call0_v10 : Long) = (iotaInDim S32x192x56x56 64 2) := (rising.holds V 22 _ main_call0_v10 rfl rfl).trans (nullary_result' ..)
theorem e23 : (W V main_call0_v11 : Long) = (iotaInDim S32x192x56x56 64 3) := (rising.holds V 23 _ main_call0_v11 rfl rfl).trans (nullary_result' ..)
theorem e24 : (W V main_call0_c : IVec S_ 64) = (constantI S_ 64 602112#64) := (rising.holds V 24 _ main_call0_c rfl rfl).trans (nullary_result' ..)
theorem e25 : (W V main_call0_v12 : Long) = ((broadcastInDim S32x192x56x56 ![] bcast_S_S32x192x56x56)) (W V main_call0_c) := (rising.holds V 25 _ main_call0_v12 rfl rfl).trans (unary_result' ..)
theorem e26 : (W V main_call0_v13 : Long) = (muli) (W V main_call0_v12) (W V main_call0_v8) := (rising.holds V 26 _ main_call0_v13 rfl rfl).trans (binary_result' ..)
theorem e27 : (W V main_call0_c_0 : IVec S_ 64) = (constantI S_ 64 3136#64) := (rising.holds V 27 _ main_call0_c_0 rfl rfl).trans (nullary_result' ..)
theorem e28 : (W V main_call0_v14 : Long) = ((broadcastInDim S32x192x56x56 ![] bcast_S_S32x192x56x56)) (W V main_call0_c_0) := (rising.holds V 28 _ main_call0_v14 rfl rfl).trans (unary_result' ..)
theorem e29 : (W V main_call0_v15 : Long) = (muli) (W V main_call0_v14) (W V main_call0_v9) := (rising.holds V 29 _ main_call0_v15 rfl rfl).trans (binary_result' ..)
theorem e30 : (W V main_call0_c_1 : IVec S_ 64) = (constantI S_ 64 56#64) := (rising.holds V 30 _ main_call0_c_1 rfl rfl).trans (nullary_result' ..)
theorem e31 : (W V main_call0_v16 : Long) = ((broadcastInDim S32x192x56x56 ![] bcast_S_S32x192x56x56)) (W V main_call0_c_1) := (rising.holds V 31 _ main_call0_v16 rfl rfl).trans (unary_result' ..)
theorem e32 : (W V main_call0_v17 : Long) = (muli) (W V main_call0_v16) (W V main_call0_v10) := (rising.holds V 32 _ main_call0_v17 rfl rfl).trans (binary_result' ..)
theorem e33 : (W V main_call0_c_2 : IVec S_ 64) = (constantI S_ 64 1#64) := (rising.holds V 33 _ main_call0_c_2 rfl rfl).trans (nullary_result' ..)
theorem e34 : (W V main_call0_v18 : Long) = ((broadcastInDim S32x192x56x56 ![] bcast_S_S32x192x56x56)) (W V main_call0_c_2) := (rising.holds V 34 _ main_call0_v18 rfl rfl).trans (unary_result' ..)
theorem e35 : (W V main_call0_v19 : Long) = (muli) (W V main_call0_v18) (W V main_call0_v11) := (rising.holds V 35 _ main_call0_v19 rfl rfl).trans (binary_result' ..)
theorem e36 : (W V main_call0_v20 : Long) = (addi) (W V main_call0_v13) (W V main_call0_v15) := (rising.holds V 36 _ main_call0_v20 rfl rfl).trans (binary_result' ..)
theorem e37 : (W V main_call0_v21 : Long) = (addi) (W V main_call0_v20) (W V main_call0_v17) := (rising.holds V 37 _ main_call0_v21 rfl rfl).trans (binary_result' ..)
theorem e38 : (W V main_call0_v22 : Long) = (addi) (W V main_call0_v21) (W V main_call0_v19) := (rising.holds V 38 _ main_call0_v22 rfl rfl).trans (binary_result' ..)
theorem e39 : (W V main_call0_c_3 : IVec S_ 64) = (constantI S_ 64 32#64) := (rising.holds V 39 _ main_call0_c_3 rfl rfl).trans (nullary_result' ..)
theorem e40 : (W V main_call0_v23 : Long) = ((broadcastInDim S32x192x56x56 ![] bcast_S_S32x192x56x56)) (W V main_call0_c_3) := (rising.holds V 40 _ main_call0_v23 rfl rfl).trans (unary_result' ..)
theorem e41 : (W V main_call0_v24 : Long) = (Host.shrui) (W V main_call0_v22) (W V main_call0_v23) := (rising.holds V 41 _ main_call0_v24 rfl rfl).trans (binary_result' ..)
theorem e42 : (W V main_call0_v25 : Arr) = ((trunci 32 · natLt_32_64)) (W V main_call0_v22 : Long) := (rising.holds V 42 _ main_call0_v25 rfl rfl).trans (unary_result' ..)
theorem e43 : (W V main_call0_v26 : Arr) = ((trunci 32 · natLt_32_64)) (W V main_call0_v24 : Long) := (rising.holds V 43 _ main_call0_v26 rfl rfl).trans (unary_result' ..)
theorem e44 : (W V main_call0_call0_v0 : One) = (xori) (W V main_call0_v5) (W V main_call0_v7) := (rising.holds V 44 _ main_call0_call0_v0 rfl rfl).trans (binary_result' ..)
theorem e45 : (W V main_call0_call0_c : One) = (constantI S_ 32 466688986#32) := (rising.holds V 45 _ main_call0_call0_c rfl rfl).trans (nullary_result' ..)
theorem e46 : (W V main_call0_call0_v1 : One) = (xori) (W V main_call0_call0_v0) (W V main_call0_call0_c) := (rising.holds V 46 _ main_call0_call0_v1 rfl rfl).trans (binary_result' ..)
theorem e47 : (W V main_call0_call0_v2 : Arr) = ((broadcastInDim S32x192x56x56 ![] bcast_S_S32x192x56x56)) (W V main_call0_v5) := (rising.holds V 47 _ main_call0_call0_v2 rfl rfl).trans (unary_result' ..)
theorem e48 : (W V main_call0_call0_v3 : Arr) = (addi) (W V main_call0_v26) (W V main_call0_call0_v2) := (rising.holds V 48 _ main_call0_call0_v3 rfl rfl).trans (binary_result' ..)
theorem e49 : (W V main_call0_call0_v4 : Arr) = ((broadcastInDim S32x192x56x56 ![] bcast_S_S32x192x56x56)) (W V main_call0_v7) := (rising.holds V 49 _ main_call0_call0_v4 rfl rfl).trans (unary_result' ..)
theorem e50 : (W V main_call0_call0_v5 : Arr) = (addi) (W V main_call0_v25) (W V main_call0_call0_v4) := (rising.holds V 50 _ main_call0_call0_v5 rfl rfl).trans (binary_result' ..)

theorem w8 (i : S_.Idx) : (W V main_call0_v5 : One) i = 0#32 := by
  rw [e17, e16, e9, e4, e8, e3, e7, e2, e6, e0, e1, e5]
  pointwise []
  rfl

theorem w10 (i : S_.Idx) : (W V main_call0_v7 : One) i = 42#32 := by
  rw [e19, e18, e9, e4, e8, e3, e7, e2, e6, e0, e1, e5]
  pointwise []
  rfl

theorem v1w (i : S_.Idx) : (W V main_call0_call0_v1 : One) i = 466689008#32 := by
  rw [e46, e45, e44]
  show IntOp.xori (IntOp.xori ((W V main_call0_v5 : One) i) ((W V main_call0_v7 : One) i)) 466688986#32 = _
  rw [w8, w10]
  decide

/-- The position's flat index. -/
def flat (j : S32x192x56x56.Idx) : ℕ := (j 0).val * 602112 + (j 1).val * 3136 + (j 2).val * 56 + (j 3).val

theorem flat_lt (j : S32x192x56x56.Idx) : flat j < 19267584 := by
  have h0 : (j 0).val < 32 := (j 0).isLt
  have h1 : (j 1).val < 192 := (j 1).isLt
  have h2 : (j 2).val < 56 := (j 2).isLt
  have h3 : (j 3).val < 56 := (j 3).isLt
  unfold flat; omega

theorem v25w (j : S32x192x56x56.Idx) : (W V main_call0_v22 : Long) j = BitVec.ofNat 64 (flat j) := by
  rw [e38, e37, e36, e35, e32, e29, e26, e25, e28, e31, e34, e20, e21, e22, e23, e24, e27, e30, e33]
  simp only [addi, muli, iotaInDim, broadcastInDim, constantI, IntOp.addi, IntOp.muli]
  apply BitVec.eq_of_toNat_eq
  have := flat_lt j
  simp only [BitVec.toNat_add, BitVec.toNat_mul, BitVec.toNat_ofNat, flat] at *
  omega

theorem v28w (j : S32x192x56x56.Idx) : (W V main_call0_v25 : Arr) j = BitVec.ofNat 32 (flat j) := by
  rw [e42]
  show ((W V main_call0_v22 : Long) j).setWidth 32 = _
  rw [v25w]
  apply BitVec.eq_of_toNat_eq
  have := flat_lt j
  simp only [BitVec.toNat_setWidth, BitVec.toNat_ofNat]
  omega

theorem v29w (j : S32x192x56x56.Idx) : (W V main_call0_v26 : Arr) j = 0#32 := by
  rw [e43, e41, e40, e39]
  show (IntOp.shrui .vector ((W V main_call0_v22 : Long) j) 32#64).setWidth 32 = _
  rw [v25w, IntOp.shrui, if_pos (by decide)]
  apply BitVec.eq_of_toNat_eq
  have := flat_lt j
  simp only [BitVec.toNat_setWidth, BitVec.ushiftRight_eq', BitVec.toNat_ushiftRight, BitVec.toNat_ofNat, Nat.shiftRight_eq_div_pow, Nat.reducePow, Nat.reduceMod]
  omega

theorem start2 (j : S32x192x56x56.Idx) :
    at2 ((W V main_call0_call0_v3 : Arr), (W V main_call0_call0_v5 : Arr)) j = (0#32, BitVec.ofNat 32 (flat j) + 42#32) := by
  have h3 : (W V main_call0_call0_v3 : Arr) j = 0#32 := by
    rw [e48, e47]
    show IntOp.addi ((W V main_call0_v26 : Arr) j) ((W V main_call0_v5 : One) _) = _
    rw [v29w, w8]; rfl
  have h5 : (W V main_call0_call0_v5 : Arr) j = BitVec.ofNat 32 (flat j) + 42#32 := by
    rw [e50, e49]
    show IntOp.addi ((W V main_call0_v25 : Arr) j) ((W V main_call0_v7 : One) _) = _
    rw [v28w, w10]; rfl
  exact Prod.ext h3 h5

theorem p0 (j : S32x192x56x56.Idx) : at2 (W V main_call0_call0_v6, W V main_call0_call0_v12) j = round1 13#32 19#32 (at2 (W V main_call0_call0_v3, W V main_call0_call0_v5) j) :=
  round_of 13#32 19#32 (e51 V) (e52 V) (e53 V) (e54 V) (e55 V) (e56 V) (e57 V) (e58 V) (e59 V) (by decide) (by decide) j
theorem p1 (j : S32x192x56x56.Idx) : at2 (W V main_call0_call0_v13, W V main_call0_call0_v19) j = round1 15#32 17#32 (at2 (W V main_call0_call0_v6, W V main_call0_call0_v12) j) :=
  round_of 15#32 17#32 (e60 V) (e61 V) (e62 V) (e63 V) (e64 V) (e65 V) (e66 V) (e67 V) (e68 V) (by decide) (by decide) j
theorem p2 (j : S32x192x56x56.Idx) : at2 (W V main_call0_call0_v20, W V main_call0_call0_v26) j = round1 26#32 6#32 (at2 (W V main_call0_call0_v13, W V main_call0_call0_v19) j) :=
  round_of 26#32 6#32 (e69 V) (e70 V) (e71 V) (e72 V) (e73 V) (e74 V) (e75 V) (e76 V) (e77 V) (by decide) (by decide) j
theorem p3 (j : S32x192x56x56.Idx) : at2 (W V main_call0_call0_v27, W V main_call0_call0_v33) j = round1 6#32 26#32 (at2 (W V main_call0_call0_v20, W V main_call0_call0_v26) j) :=
  round_of 6#32 26#32 (e78 V) (e79 V) (e80 V) (e81 V) (e82 V) (e83 V) (e84 V) (e85 V) (e86 V) (by decide) (by decide) j
theorem p4 (j : S32x192x56x56.Idx) : at2 (W V main_call0_call0_v35, W V main_call0_call0_v39) j = key1 42#32 (466689008#32 + 1#32) (at2 (W V main_call0_call0_v27, W V main_call0_call0_v33) j) :=
  key_of 42#32 466689008#32 1#32 (w10 V) (v1w V) (e87 V) (e88 V) (e89 V) (e90 V) (e91 V) (e92 V) (e93 V) j
theorem p5 (j : S32x192x56x56.Idx) : at2 (W V main_call0_call0_v40, W V main_call0_call0_v46) j = round1 17#32 15#32 (at2 (W V main_call0_call0_v35, W V main_call0_call0_v39) j) :=
  round_of 17#32 15#32 (e94 V) (e95 V) (e96 V) (e97 V) (e98 V) (e99 V) (e100 V) (e101 V) (e102 V) (by decide) (by decide) j
theorem p6 (j : S32x192x56x56.Idx) : at2 (W V main_call0_call0_v47, W V main_call0_call0_v53) j = round1 29#32 3#32 (at2 (W V main_call0_call0_v40, W V main_call0_call0_v46) j) :=
  round_of 29#32 3#32 (e103 V) (e104 V) (e105 V) (e106 V) (e107 V) (e108 V) (e109 V) (e110 V) (e111 V) (by decide) (by decide) j
theorem p7 (j : S32x192x56x56.Idx) : at2 (W V main_call0_call0_v54, W V main_call0_call0_v60) j = round1 16#32 16#32 (at2 (W V main_call0_call0_v47, W V main_call0_call0_v53) j) :=
  round_of 16#32 16#32 (e112 V) (e113 V) (e114 V) (e115 V) (e116 V) (e117 V) (e118 V) (e119 V) (e120 V) (by decide) (by decide) j
theorem p8 (j : S32x192x56x56.Idx) : at2 (W V main_call0_call0_v61, W V main_call0_call0_v67) j = round1 24#32 8#32 (at2 (W V main_call0_call0_v54, W V main_call0_call0_v60) j) :=
  round_of 24#32 8#32 (e121 V) (e122 V) (e123 V) (e124 V) (e125 V) (e126 V) (e127 V) (e128 V) (e129 V) (by decide) (by decide) j
theorem p9 (j : S32x192x56x56.Idx) : at2 (W V main_call0_call0_v69, W V main_call0_call0_v73) j = key1 466689008#32 (0#32 + 2#32) (at2 (W V main_call0_call0_v61, W V main_call0_call0_v67) j) :=
  key_of 466689008#32 0#32 2#32 (v1w V) (w8 V) (e130 V) (e131 V) (e132 V) (e133 V) (e134 V) (e135 V) (e136 V) j
theorem p10 (j : S32x192x56x56.Idx) : at2 (W V main_call0_call0_v74, W V main_call0_call0_v80) j = round1 13#32 19#32 (at2 (W V main_call0_call0_v69, W V main_call0_call0_v73) j) :=
  round_of 13#32 19#32 (e137 V) (e138 V) (e139 V) (e140 V) (e141 V) (e142 V) (e143 V) (e144 V) (e145 V) (by decide) (by decide) j
theorem p11 (j : S32x192x56x56.Idx) : at2 (W V main_call0_call0_v81, W V main_call0_call0_v87) j = round1 15#32 17#32 (at2 (W V main_call0_call0_v74, W V main_call0_call0_v80) j) :=
  round_of 15#32 17#32 (e146 V) (e147 V) (e148 V) (e149 V) (e150 V) (e151 V) (e152 V) (e153 V) (e154 V) (by decide) (by decide) j
theorem p12 (j : S32x192x56x56.Idx) : at2 (W V main_call0_call0_v88, W V main_call0_call0_v94) j = round1 26#32 6#32 (at2 (W V main_call0_call0_v81, W V main_call0_call0_v87) j) :=
  round_of 26#32 6#32 (e155 V) (e156 V) (e157 V) (e158 V) (e159 V) (e160 V) (e161 V) (e162 V) (e163 V) (by decide) (by decide) j
theorem p13 (j : S32x192x56x56.Idx) : at2 (W V main_call0_call0_v95, W V main_call0_call0_v101) j = round1 6#32 26#32 (at2 (W V main_call0_call0_v88, W V main_call0_call0_v94) j) :=
  round_of 6#32 26#32 (e164 V) (e165 V) (e166 V) (e167 V) (e168 V) (e169 V) (e170 V) (e171 V) (e172 V) (by decide) (by decide) j
theorem p14 (j : S32x192x56x56.Idx) : at2 (W V main_call0_call0_v103, W V main_call0_call0_v107) j = key1 0#32 (42#32 + 3#32) (at2 (W V main_call0_call0_v95, W V main_call0_call0_v101) j) :=
  key_of 0#32 42#32 3#32 (w8 V) (w10 V) (e173 V) (e174 V) (e175 V) (e176 V) (e177 V) (e178 V) (e179 V) j
theorem p15 (j : S32x192x56x56.Idx) : at2 (W V main_call0_call0_v108, W V main_call0_call0_v114) j = round1 17#32 15#32 (at2 (W V main_call0_call0_v103, W V main_call0_call0_v107) j) :=
  round_of 17#32 15#32 (e180 V) (e181 V) (e182 V) (e183 V) (e184 V) (e185 V) (e186 V) (e187 V) (e188 V) (by decide) (by decide) j
theorem p16 (j : S32x192x56x56.Idx) : at2 (W V main_call0_call0_v115, W V main_call0_call0_v121) j = round1 29#32 3#32 (at2 (W V main_call0_call0_v108, W V main_call0_call0_v114) j) :=
  round_of 29#32 3#32 (e189 V) (e190 V) (e191 V) (e192 V) (e193 V) (e194 V) (e195 V) (e196 V) (e197 V) (by decide) (by decide) j
theorem p17 (j : S32x192x56x56.Idx) : at2 (W V main_call0_call0_v122, W V main_call0_call0_v128) j = round1 16#32 16#32 (at2 (W V main_call0_call0_v115, W V main_call0_call0_v121) j) :=
  round_of 16#32 16#32 (e198 V) (e199 V) (e200 V) (e201 V) (e202 V) (e203 V) (e204 V) (e205 V) (e206 V) (by decide) (by decide) j
theorem p18 (j : S32x192x56x56.Idx) : at2 (W V main_call0_call0_v129, W V main_call0_call0_v135) j = round1 24#32 8#32 (at2 (W V main_call0_call0_v122, W V main_call0_call0_v128) j) :=
  round_of 24#32 8#32 (e207 V) (e208 V) (e209 V) (e210 V) (e211 V) (e212 V) (e213 V) (e214 V) (e215 V) (by decide) (by decide) j
theorem p19 (j : S32x192x56x56.Idx) : at2 (W V main_call0_call0_v137, W V main_call0_call0_v141) j = key1 42#32 (466689008#32 + 4#32) (at2 (W V main_call0_call0_v129, W V main_call0_call0_v135) j) :=
  key_of 42#32 466689008#32 4#32 (w10 V) (v1w V) (e216 V) (e217 V) (e218 V) (e219 V) (e220 V) (e221 V) (e222 V) j
theorem p20 (j : S32x192x56x56.Idx) : at2 (W V main_call0_call0_v142, W V main_call0_call0_v148) j = round1 13#32 19#32 (at2 (W V main_call0_call0_v137, W V main_call0_call0_v141) j) :=
  round_of 13#32 19#32 (e223 V) (e224 V) (e225 V) (e226 V) (e227 V) (e228 V) (e229 V) (e230 V) (e231 V) (by decide) (by decide) j
theorem p21 (j : S32x192x56x56.Idx) : at2 (W V main_call0_call0_v149, W V main_call0_call0_v155) j = round1 15#32 17#32 (at2 (W V main_call0_call0_v142, W V main_call0_call0_v148) j) :=
  round_of 15#32 17#32 (e232 V) (e233 V) (e234 V) (e235 V) (e236 V) (e237 V) (e238 V) (e239 V) (e240 V) (by decide) (by decide) j
theorem p22 (j : S32x192x56x56.Idx) : at2 (W V main_call0_call0_v156, W V main_call0_call0_v162) j = round1 26#32 6#32 (at2 (W V main_call0_call0_v149, W V main_call0_call0_v155) j) :=
  round_of 26#32 6#32 (e241 V) (e242 V) (e243 V) (e244 V) (e245 V) (e246 V) (e247 V) (e248 V) (e249 V) (by decide) (by decide) j
theorem p23 (j : S32x192x56x56.Idx) : at2 (W V main_call0_call0_v163, W V main_call0_call0_v169) j = round1 6#32 26#32 (at2 (W V main_call0_call0_v156, W V main_call0_call0_v162) j) :=
  round_of 6#32 26#32 (e250 V) (e251 V) (e252 V) (e253 V) (e254 V) (e255 V) (e256 V) (e257 V) (e258 V) (by decide) (by decide) j
theorem p24 (j : S32x192x56x56.Idx) : at2 (W V main_call0_v27_0, W V main_call0_v27_1) j = key1 466689008#32 (0#32 + 5#32) (at2 (W V main_call0_call0_v163, W V main_call0_call0_v169) j) :=
  key_of 466689008#32 0#32 5#32 (v1w V) (w8 V) (e259 V) (e260 V) (e261 V) (e262 V) (e263 V) (e264 V) (e265 V) j

/-- The reference's word at a position is the random word of its flat index. -/
theorem bits (j : S32x192x56x56.Idx) : (W V main_call0_v28 : Arr) j = word (BitVec.ofNat 32 (flat j)) := by
  have e : at2 ((W V main_call0_v27_0 : Arr), (W V main_call0_v27_1 : Arr)) j = twenty (0#32, BitVec.ofNat 32 (flat j) + 42#32) := by
    rw [p24, p23, p22, p21, p20, p19, p18, p17, p16, p15, p14, p13, p12, p11, p10, p9, p8, p7, p6, p5, p4, p3, p2, p1, p0, start2]
    rfl
  have h : (W V main_call0_v28 : Arr) = xori (W V main_call0_v27_0) (W V main_call0_v27_1) := (rising.holds V 266 _ main_call0_v28 rfl rfl).trans (binary_result' ..)
  rw [h]
  show (at2 ((W V main_call0_v27_0 : Arr), (W V main_call0_v27_1 : Arr)) j).1 ^^^ (at2 ((W V main_call0_v27_0 : Arr), (W V main_call0_v27_1 : Arr)) j).2 = _
  rw [e, word]

end Cert.ReferenceIdeal.Run

end
-- ==== Proof.RefValue.lean ====
/-
  The reference's result at the ideal instance, position by position.
-/
module

public import proofs.«01_k».proof.Proof.RefWords
public import proofs.«01_k».proof.Proof.Window

@[expose] public section

set_option maxRecDepth 65536

noncomputable section

namespace Cert.ReferenceIdeal.Run

open Idealize.ShloMosaic Idealize.ShloMosaic.TcCoe Idealize.ShloMosaic.StableHlo
open Cert.ReferenceIdeal Cert.ReferenceIdeal.Gen Cert.Mix
open Classical

variable (V : Valuation τ sig (Elt Ideal))

/-- A float array, and a float. -/
local notation "FArr" => FVec Ideal S32x192x56x56 FTy.f32
local notation "FOne" => FVec Ideal S_ FTy.f32

/-- A float array of one element. -/
local notation "FQuad" => FVec Ideal S1x1x1x1 FTy.f32

/-- A value, said to be a float array. -/
def arr (x : FArr) : FArr := x

/-- A value, said to be a float. -/
def one (x : FOne) : FOne := x

/-- A value, said to be a float array of one element. -/
def quad (x : FQuad) : FQuad := x

/-- The threshold. -/
def thr : EReal := (one (W V main_arg1)) (fun a => a.elim0)

theorem thr_eq (i : S_.Idx) : (one (W V main_arg1)) i = thr V := congrArg (one (W V main_arg1)) (funext fun a => a.elim0)

theorem e10 : (one (W V main_cst)) = constant S_ .f32 0x00000000#32 :=
  (rising.holds V 10 _ main_cst rfl rfl).trans (nullary_result' ..)
theorem e11 : (one (W V main_cst_2)) = constant S_ .f32 0x3F800000#32 :=
  (rising.holds V 11 _ main_cst_2 rfl rfl).trans (nullary_result' ..)
theorem e12 : (one (W V main_call0_v0)) = (one (W V main_cst)) :=
  (rising.holds V 12 _ main_call0_v0 rfl rfl).trans (unary_result' ..)
theorem e13 : (one (W V main_call0_v1)) = (one (W V main_cst_2)) :=
  (rising.holds V 13 _ main_call0_v1 rfl rfl).trans (unary_result' ..)
theorem e14 : (quad (W V main_call0_v2)) = broadcastInDim S1x1x1x1 ![] bcast_S_S1x1x1x1 (one (W V main_call0_v0)) :=
  (rising.holds V 14 _ main_call0_v2 rfl rfl).trans (unary_result' ..)
theorem e15 : (quad (W V main_call0_v3)) = broadcastInDim S1x1x1x1 ![] bcast_S_S1x1x1x1 (one (W V main_call0_v1)) :=
  (rising.holds V 15 _ main_call0_v3 rfl rfl).trans (unary_result' ..)
theorem e267 : (W V main_call0_c_4 : IVec S_ 32) = constantI S_ 32 9#32 :=
  (rising.holds V 267 _ main_call0_c_4 rfl rfl).trans (nullary_result' ..)
theorem e268 : (W V main_call0_v29 : IVec S32x192x56x56 32) = broadcastInDim S32x192x56x56 ![] bcast_S_S32x192x56x56 (W V main_call0_c_4 : IVec S_ 32) :=
  (rising.holds V 268 _ main_call0_v29 rfl rfl).trans (unary_result' ..)
theorem e269 : (W V main_call0_v30 : IVec S32x192x56x56 32) = Host.shrui (W V main_call0_v28 : IVec S32x192x56x56 32) (W V main_call0_v29 : IVec S32x192x56x56 32) :=
  (rising.holds V 269 _ main_call0_v30 rfl rfl).trans (binary_result' ..)
theorem e270 : (W V main_call0_c_5 : IVec S_ 32) = constantI S_ 32 1065353216#32 :=
  (rising.holds V 270 _ main_call0_c_5 rfl rfl).trans (nullary_result' ..)
theorem e271 : (W V main_call0_v31 : IVec S32x192x56x56 32) = broadcastInDim S32x192x56x56 ![] bcast_S_S32x192x56x56 (W V main_call0_c_5 : IVec S_ 32) :=
  (rising.holds V 271 _ main_call0_v31 rfl rfl).trans (unary_result' ..)
theorem e272 : (W V main_call0_v32 : IVec S32x192x56x56 32) = ori (W V main_call0_v30 : IVec S32x192x56x56 32) (W V main_call0_v31 : IVec S32x192x56x56 32) :=
  (rising.holds V 272 _ main_call0_v32 rfl rfl).trans (binary_result' ..)
theorem e273 : (arr (W V main_call0_v33)) = bitcastToFloat .f32 (W V main_call0_v32 : IVec S32x192x56x56 32) :=
  (rising.holds V 273 _ main_call0_v33 rfl rfl).trans (unary_result' ..)
theorem e274 : (one (W V main_call0_cst)) = constant S_ .f32 0x3F800000#32 :=
  (rising.holds V 274 _ main_call0_cst rfl rfl).trans (nullary_result' ..)
theorem e275 : (arr (W V main_call0_v34)) = broadcastInDim S32x192x56x56 ![] bcast_S_S32x192x56x56 (one (W V main_call0_cst)) :=
  (rising.holds V 275 _ main_call0_v34 rfl rfl).trans (unary_result' ..)
theorem e276 : (arr (W V main_call0_v35)) = subf (arr (W V main_call0_v33)) (arr (W V main_call0_v34)) :=
  (rising.holds V 276 _ main_call0_v35 rfl rfl).trans (binary_result' ..)
theorem e277 : (quad (W V main_call0_v36)) = subf (quad (W V main_call0_v3)) (quad (W V main_call0_v2)) :=
  (rising.holds V 277 _ main_call0_v36 rfl rfl).trans (binary_result' ..)
theorem e278 : (arr (W V main_call0_v37)) = broadcastInDim S32x192x56x56 ![0, 1, 2, 3] bcast_S1x1x1x1_S32x192x56x56_0_1_2_3 (quad (W V main_call0_v36)) :=
  (rising.holds V 278 _ main_call0_v37 rfl rfl).trans (unary_result' ..)
theorem e279 : (arr (W V main_call0_v38)) = mulf (arr (W V main_call0_v35)) (arr (W V main_call0_v37)) :=
  (rising.holds V 279 _ main_call0_v38 rfl rfl).trans (binary_result' ..)
theorem e280 : (arr (W V main_call0_v39)) = broadcastInDim S32x192x56x56 ![0, 1, 2, 3] bcast_S1x1x1x1_S32x192x56x56_0_1_2_3 (quad (W V main_call0_v2)) :=
  (rising.holds V 280 _ main_call0_v39 rfl rfl).trans (unary_result' ..)
theorem e281 : (arr (W V main_call0_v40)) = addf (arr (W V main_call0_v38)) (arr (W V main_call0_v39)) :=
  (rising.holds V 281 _ main_call0_v40 rfl rfl).trans (binary_result' ..)
theorem e282 : (arr (W V main_call0_v41)) = broadcastInDim S32x192x56x56 ![0, 1, 2, 3] bcast_S1x1x1x1_S32x192x56x56_0_1_2_3 (quad (W V main_call0_v2)) :=
  (rising.holds V 282 _ main_call0_v41 rfl rfl).trans (unary_result' ..)
theorem e283 : (arr (W V main_v7)) = maximumf (arr (W V main_call0_v41)) (arr (W V main_call0_v40)) :=
  (rising.holds V 283 _ main_v7 rfl rfl).trans (binary_result' ..)
theorem e284 : (arr (W V main_v8)) = broadcastInDim S32x192x56x56 ![] bcast_S_S32x192x56x56 (one (W V main_arg1)) :=
  (rising.holds V 284 _ main_v8 rfl rfl).trans (unary_result' ..)
theorem e285 : (W V main_v9 : IVec S32x192x56x56 1) = cmpf .olt (arr (W V main_v7)) (arr (W V main_v8)) :=
  (rising.holds V 285 _ main_v9 rfl rfl).trans (binary_result' ..)
theorem e286 : (arr (W V main_v10)) = uitofp .f32 (W V main_v9 : IVec S32x192x56x56 1) :=
  (rising.holds V 286 _ main_v10 rfl rfl).trans (unary_result' ..)
theorem e287 : (one (W V main_cst_3)) = constant S_ .f32 0xFF800000#32 := (rising.holds V 287 _ main_cst_3 rfl rfl).trans (nullary_result' ..)
theorem e288 : (one (W V main_v11)) = broadcastInDim S_ ![] bcast_S_S_ (one (W V main_cst_3)) :=
  (rising.holds V 288 _ main_v11 rfl rfl).trans (unary_result' ..)
theorem e289 : (arr (W V main_v12)) = Host.reduceWindow FloatOps.maximumf ![1, 1, 7, 7] ![1, 1, 1, 1] ![0, 0, 6, 6] ![0, 0, 0, 0]
    (arr (W V main_v10)) (one (W V main_v11)) reduceWindows_S32x192x56x56_S32x192x56x56_w1s1p0_0_w1s1p0_0_w7s1p6_0_w7s1p6_0 h_S_ :=
  (rising.holds V 289 _ main_v12 rfl rfl).trans (binary_result' ..)
theorem e290 : (one (W V main_cst_4)) = constant S_ .f32 0x00000000#32 := (rising.holds V 290 _ main_cst_4 rfl rfl).trans (nullary_result' ..)
theorem e291 : (one (W V main_cst_5)) = constant S_ .f32 0x3F800000#32 := (rising.holds V 291 _ main_cst_5 rfl rfl).trans (nullary_result' ..)
theorem e292 : (one (W V main_call1_v0)) = (one (W V main_cst_4)) := (rising.holds V 292 _ main_call1_v0 rfl rfl).trans (unary_result' ..)
theorem e293 : (arr (W V main_call1_v1)) = broadcastInDim S32x192x56x56 ![] bcast_S_S32x192x56x56 (one (W V main_call1_v0)) :=
  (rising.holds V 293 _ main_call1_v1 rfl rfl).trans (unary_result' ..)
theorem e294 : (arr (W V main_call1_v2)) = maximumf (arr (W V main_call1_v1)) (arr (W V main_v12)) :=
  (rising.holds V 294 _ main_call1_v2 rfl rfl).trans (binary_result' ..)
theorem e295 : (one (W V main_call1_v3)) = (one (W V main_cst_5)) := (rising.holds V 295 _ main_call1_v3 rfl rfl).trans (unary_result' ..)
theorem e296 : (arr (W V main_call1_v4)) = broadcastInDim S32x192x56x56 ![] bcast_S_S32x192x56x56 (one (W V main_call1_v3)) :=
  (rising.holds V 296 _ main_call1_v4 rfl rfl).trans (unary_result' ..)
theorem e297 : (arr (W V main_v13)) = minimumf (arr (W V main_call1_v4)) (arr (W V main_call1_v2)) :=
  (rising.holds V 297 _ main_v13 rfl rfl).trans (binary_result' ..)
theorem e298 : (one (W V main_cst_6)) = constant S_ .f32 0x3F800000#32 := (rising.holds V 298 _ main_cst_6 rfl rfl).trans (nullary_result' ..)
theorem e299 : (arr (W V main_v14)) = broadcastInDim S32x192x56x56 ![] bcast_S_S32x192x56x56 (one (W V main_cst_6)) :=
  (rising.holds V 299 _ main_v14 rfl rfl).trans (unary_result' ..)
theorem e300 : (arr (W V main_v15)) = subf (arr (W V main_v14)) (arr (W V main_v13)) :=
  (rising.holds V 300 _ main_v15 rfl rfl).trans (binary_result' ..)
theorem e301 : (one (W V main_cst_7)) = constant S_ .f32 0x00000000#32 := (rising.holds V 301 _ main_cst_7 rfl rfl).trans (nullary_result' ..)
theorem e302 : (one (W V main_v16)) = Host.reduceAdd (arr (W V main_v15)) (one (W V main_cst_7)) reducesTo_S32x192x56x56_S_d0_1_2_3 h_S_ :=
  (rising.holds V 302 _ main_v16 rfl rfl).trans (binary_result' ..)
theorem e303 : (arr (W V main_v17)) = mulf (arr (W V main_v15)) (arr (W V main_arg0)) :=
  (rising.holds V 303 _ main_v17 rfl rfl).trans (binary_result' ..)
theorem e304 : (one (W V main_cst_8)) = constant S_ .f32 0x4B930000#32 := (rising.holds V 304 _ main_cst_8 rfl rfl).trans (nullary_result' ..)
theorem e305 : (one (W V main_v18)) = Host.divf (one (W V main_cst_8)) (one (W V main_v16)) :=
  (rising.holds V 305 _ main_v18 rfl rfl).trans (binary_result' ..)
theorem e306 : (arr (W V main_v19)) = broadcastInDim S32x192x56x56 ![] bcast_S_S32x192x56x56 (one (W V main_v18)) :=
  (rising.holds V 306 _ main_v19 rfl rfl).trans (unary_result' ..)
theorem e307 : (arr (W V main_v20)) = mulf (arr (W V main_v17)) (arr (W V main_v19)) :=
  (rising.holds V 307 _ main_v20 rfl rfl).trans (binary_result' ..)

/-- The value of a word below two to the twenty-third under the exponent of one: one and that many steps. -/
theorem ofBits_step (w : BitVec 32) (h : w.toNat < 2 ^ 23) :
    Ideal.ofBits .f32 (w ||| 1065353216#32) = ((((2 : ℝ) ^ 23 + (w.toNat : ℝ)) * (2 : ℝ) ^ (-23 : ℤ) : ℝ) : EReal) := by
  have hn : (w ||| 1065353216#32).toNat = 2 ^ 23 * 127 + w.toNat := by
    rw [Nat.two_pow_add_eq_or_of_lt h, BitVec.toNat_or, Nat.or_comm]
    rfl
  have hs : ((w ||| 1065353216#32).extractLsb' (8 + 23) 1 == 1#1) = false := by
    rw [beq_eq_false_iff_ne]
    intro e
    have := congrArg BitVec.toNat e
    rw [BitVec.extractLsb'_toNat, hn, Nat.shiftRight_eq_div_pow] at this
    have e1 : (1#1).toNat = 1 := rfl
    rw [e1] at this
    omega
  have he : ((w ||| 1065353216#32).extractLsb' 23 8).toNat = 127 := by
    rw [BitVec.extractLsb'_toNat, hn, Nat.shiftRight_eq_div_pow]
    omega
  have hf : ((w ||| 1065353216#32).extractLsb' 0 23).toNat = w.toNat := by
    rw [BitVec.extractLsb'_toNat, hn, Nat.shiftRight_eq_div_pow]
    omega
  show Ideal.ieee 8 23 (w ||| 1065353216#32) = _
  unfold Ideal.ieee
  simp only [hs, he, hf]
  rw [if_neg (by norm_num), if_neg (by norm_num)]
  congr 1
  norm_num

/-- The word the reference reads as a float at flat index `k`. -/
theorem step (k : ℕ) : Ideal.ofBits .f32 (IntOp.ori (word (BitVec.ofNat 32 k) >>> 9#32) 1065353216#32)
    = ((((2 : ℝ) ^ 23 + (num k : ℝ)) * (2 : ℝ) ^ (-23 : ℤ) : ℝ) : EReal) := by
  have h := num_lt k
  unfold num at h ⊢
  exact ofBits_step _ h

theorem zero_bits : Ideal.ofBits .f32 0x00000000#32 = ((0 : ℝ) : EReal) := by simp [Ideal.ofBits, Ideal.ieee]

theorem one_bits : Ideal.ofBits .f32 0x3F800000#32 = ((1 : ℝ) : EReal) := by
  simp [Ideal.ofBits, Ideal.ieee, -EReal.coe_mul, -EReal.coe_pow]; norm_num

/-- The draw's least value, and its width. -/
theorem low (i : S1x1x1x1.Idx) : (quad (W V main_call0_v2)) i = ((0 : ℝ) : EReal) := by
  rw [e14, e12, e10]
  exact zero_bits

theorem width (i : S1x1x1x1.Idx) : (quad (W V main_call0_v36)) i = ((1 : ℝ) : EReal) := by
  have h3 : (quad (W V main_call0_v3)) i = ((1 : ℝ) : EReal) := by
    rw [e15, e13, e11]
    exact one_bits
  rw [e277]
  show (quad (W V main_call0_v3)) i - (quad (W V main_call0_v2)) i = _
  rw [low, h3, ← EReal.coe_sub, sub_zero]

/-- The draw before its unit is taken off. -/
theorem lifted (j : S32x192x56x56.Idx) : (arr (W V main_call0_v33)) j
    = ((((2 : ℝ) ^ 23 + (num (flat j) : ℝ)) * (2 : ℝ) ^ (-23 : ℤ) : ℝ) : EReal) := by
  have h30 : (W V main_call0_v30 : IVec S32x192x56x56 32) j = word (BitVec.ofNat 32 (flat j)) >>> 9#32 := by
    rw [e269, e268, e267]
    show IntOp.shrui .host ((W V main_call0_v28 : IVec S32x192x56x56 32) j) 9#32 = _
    rw [shr_of (by decide), bits]
  rw [e273, e272, e271, e270]
  show Ideal.ofBits .f32 (IntOp.ori ((W V main_call0_v30 : IVec S32x192x56x56 32) j) 1065353216#32) = _
  rw [h30]
  exact step _

/-- Taking one off leaves the steps. -/
theorem less (x : ℝ) : ((2 : ℝ) ^ 23 + x) * (2 : ℝ) ^ (-23 : ℤ) - 1 = x * (2 : ℝ) ^ (-23 : ℤ) := by
  have h : (2 : ℝ) ^ 23 * (2 : ℝ) ^ (-23 : ℤ) = 1 := by norm_num
  rw [add_mul, h]
  ring

/-- The float operations at one position. -/
theorem sub_at (x y : FArr) (j : S32x192x56x56.Idx) : subf x y j = ((x j : EReal) - (y j : EReal) : EReal) := rfl

theorem mul_at (x y : FArr) (j : S32x192x56x56.Idx) : mulf x y j = ((x j : EReal) * (y j : EReal) : EReal) := rfl

theorem add_at (x y : FArr) (j : S32x192x56x56.Idx) : addf x y j = ((x j : EReal) + (y j : EReal) : EReal) := rfl

theorem max_at (x y : FArr) (j : S32x192x56x56.Idx) : maximumf x y j = max (x j : EReal) (y j : EReal) := rfl

/-- The draw before its width is applied. -/
theorem unit (j : S32x192x56x56.Idx) :
    (arr (W V main_call0_v35)) j = (((num (flat j) : ℝ) * (2 : ℝ) ^ (-23 : ℤ) : ℝ) : EReal) := by
  have h34 : (arr (W V main_call0_v34)) j = ((1 : ℝ) : EReal) := by
    rw [e275, e274]
    exact one_bits
  rw [e276, sub_at, lifted, h34]
  exact (EReal.coe_sub _ _).symm.trans (congrArg _ (less _))

/-- The draw at a position: its integer, in steps of two to the minus twenty-third. -/
theorem draw (j : S32x192x56x56.Idx) :
    (arr (W V main_v7)) j = ((num (flat j) : ℝ) : EReal) * (((2 : ℝ) ^ (-23 : ℤ) : ℝ) : EReal) := by
  have h37 : (arr (W V main_call0_v37)) j = ((1 : ℝ) : EReal) := by
    rw [e278]
    exact width V _
  have h38 : (arr (W V main_call0_v38)) j = (((num (flat j) : ℝ) * (2 : ℝ) ^ (-23 : ℤ) : ℝ) : EReal) := by
    rw [e279, mul_at, unit, h37, EReal.coe_one, mul_one]
  have h39 : (arr (W V main_call0_v39)) j = ((0 : ℝ) : EReal) := by
    rw [e280]
    exact low V _
  have h40 : (arr (W V main_call0_v40)) j = (((num (flat j) : ℝ) * (2 : ℝ) ^ (-23 : ℤ) : ℝ) : EReal) := by
    rw [e281, add_at, h38, h39, EReal.coe_zero, add_zero]
  have h41 : (arr (W V main_call0_v41)) j = ((0 : ℝ) : EReal) := by
    rw [e282]
    exact low V _
  rw [e283, max_at, h41, h40, ← EReal.coe_mul]
  exact max_eq_right (EReal.coe_le_coe_iff.mpr (by positivity))

/-- The mask at a position: one where the draw hits. -/
theorem mask (j : S32x192x56x56.Idx) : (arr (W V main_v10)) j = if Hit (thr V) (flat j) then 1 else 0 := by
  rw [e286, e285, e284]
  show (((BitVec.ofBool (decide ((arr (W V main_v7)) j < (one (W V main_arg1)) _))).toNat : ℝ) : EReal) = _
  rw [draw, thr_eq]
  unfold Hit
  by_cases h : ((num (flat j) : ℝ) : EReal) * (((2 : ℝ) ^ (-23 : ℤ) : ℝ) : EReal) < thr V
  · rw [if_pos h, decide_eq_true h]; simp
  · rw [if_neg h, decide_eq_false h]; simp

/-- A position is kept: by its coordinates. -/
abbrev KeptAt (γ : EReal) (j : S32x192x56x56.Idx) : Prop := Kept γ (j 0).val (j 1).val (j 2).val (j 3).val

/-- What a window reads at one of its places: the operand there, or nothing above the array's edge. -/
def cell (x : FArr) (j : S32x192x56x56.Idx) (k : (⟨4, ![1, 1, 7, 7]⟩ : Shape).Idx) : EReal :=
  if hin : ∀ a : Fin 4, ![0, 0, 6, 6] a ≤ (j a).val * ![1, 1, 1, 1] a + (k a).val
      ∧ (j a).val * ![1, 1, 1, 1] a + (k a).val - ![0, 0, 6, 6] a < S32x192x56x56.size a then
    x fun a => ⟨(j a).val * ![1, 1, 1, 1] a + (k a).val - ![0, 0, 6, 6] a, (hin a).2⟩
  else ⊥

theorem cell_mask (j : S32x192x56x56.Idx) (k : (⟨4, ![1, 1, 7, 7]⟩ : Shape).Idx) :
    cell (arr (W V main_v10)) j k = if 6 ≤ (j 2).val + (k 2).val ∧ 6 ≤ (j 3).val + (k 3).val then
      (if Hit (thr V) (pos (j 0).val (j 1).val ((j 2).val + (k 2).val - 6) ((j 3).val + (k 3).val - 6)) then 1 else 0) else ⊥ := by
  have h0 : (j 0).val < 32 := (j 0).isLt
  have h1 : (j 1).val < 192 := (j 1).isLt
  have h2 : (j 2).val < 56 := (j 2).isLt
  have h3 : (j 3).val < 56 := (j 3).isLt
  have k0 : (k 0).val < 1 := (k 0).isLt
  have k1 : (k 1).val < 1 := (k 1).isLt
  have k2 : (k 2).val < 7 := (k 2).isLt
  have k3 : (k 3).val < 7 := (k 3).isLt
  unfold cell
  by_cases h : 6 ≤ (j 2).val + (k 2).val ∧ 6 ≤ (j 3).val + (k 3).val
  · rw [if_pos h, dif_pos, mask]
    · have e : flat (fun a => ⟨(j a).val * ![1, 1, 1, 1] a + (k a).val - ![0, 0, 6, 6] a, by
          revert a; intro a; fin_cases a
          · show (j 0).val * 1 + (k 0).val - 0 < 32; omega
          · show (j 1).val * 1 + (k 1).val - 0 < 192; omega
          · show (j 2).val * 1 + (k 2).val - 6 < 56; omega
          · show (j 3).val * 1 + (k 3).val - 6 < 56; omega⟩)
          = pos (j 0).val (j 1).val ((j 2).val + (k 2).val - 6) ((j 3).val + (k 3).val - 6) := by
        show ((j 0).val * 1 + (k 0).val - 0) * 602112 + ((j 1).val * 1 + (k 1).val - 0) * 3136
          + ((j 2).val * 1 + (k 2).val - 6) * 56 + ((j 3).val * 1 + (k 3).val - 6) = _
        unfold pos
        omega
      rw [e]
    · intro a; fin_cases a
      · show 0 ≤ (j 0).val * 1 + (k 0).val ∧ (j 0).val * 1 + (k 0).val - 0 < 32; omega
      · show 0 ≤ (j 1).val * 1 + (k 1).val ∧ (j 1).val * 1 + (k 1).val - 0 < 192; omega
      · show 6 ≤ (j 2).val * 1 + (k 2).val ∧ (j 2).val * 1 + (k 2).val - 6 < 56; omega
      · show 6 ≤ (j 3).val * 1 + (k 3).val ∧ (j 3).val * 1 + (k 3).val - 6 < 56; omega
  · rw [if_neg h, dif_neg]
    intro hin
    have a2 : 6 ≤ (j 2).val * 1 + (k 2).val := (hin 2).1
    have a3 : 6 ≤ (j 3).val * 1 + (k 3).val := (hin 3).1
    omega

/-- The window's maximum as a fold over its places. -/
theorem fold (j : S32x192x56x56.Idx) : (arr (W V main_v12)) j
    = (List.finRange (⟨4, ![1, 1, 7, 7]⟩ : Shape).numel).foldl
        (fun r n => max r (cell (arr (W V main_v10)) j ((⟨4, ![1, 1, 7, 7]⟩ : Shape).rowMajor.symm n))) ⊥ := by
  have h : ∀ b, b = (⊥ : EReal) → (arr (W V main_v12)) j = (List.finRange (⟨4, ![1, 1, 7, 7]⟩ : Shape).numel).foldl
        (fun r n => max r (cell (arr (W V main_v10)) j ((⟨4, ![1, 1, 7, 7]⟩ : Shape).rowMajor.symm n))) b := by
    intro b hb
    have e : (one (W V main_v11)) (Shape.Idx.first h_S_) = b := by
      rw [e288, e287, hb]; exact ofBits_bot
    rw [e289]
    unfold Host.reduceWindow
    dsimp only
    rw [e, hb]
    refine congrArg (fun f => List.foldl f (⊥ : EReal) _) (funext fun r => funext fun n => congrArg (max r) ?_)
    unfold cell
    by_cases hin : ∀ a : Fin 4, ![0, 0, 6, 6] a ≤ (j a).val * ![1, 1, 1, 1] a + ((⟨4, ![1, 1, 7, 7]⟩ : Shape).rowMajor.symm n a).val
      ∧ (j a).val * ![1, 1, 1, 1] a + ((⟨4, ![1, 1, 7, 7]⟩ : Shape).rowMajor.symm n a).val - ![0, 0, 6, 6] a < S32x192x56x56.size a
    · rw [dif_pos hin]; exact dif_pos hin
    · rw [dif_neg hin]; exact dif_neg hin
  exact h _ rfl

/-- One minus the clipped window maximum: one where the position is kept. -/
theorem inv (j : S32x192x56x56.Idx) : (arr (W V main_v15)) j = if KeptAt (thr V) j then 1 else 0 := by
  have h2 : (j 2).val < 56 := (j 2).isLt
  have h3 : (j 3).val < 56 := (j 3).isLt
  have h43 : (arr (W V main_v13)) j = if ¬ KeptAt (thr V) j then 1 else 0 := by
    rw [e297, e296, e295, e291, e294, e293, e292, e290]
    show min (Ideal.ofBits .f32 0x3F800000#32) (max (Ideal.ofBits .f32 0x00000000#32) ((arr (W V main_v12)) j)) = _
    rw [Ideal.ofBits_one_f32, Ideal.ofBits_zero_f32, fold]
    refine clip_foldl _ _ _ (fun n _ => ?_) (fun h => ?_) fun h n _ => ?_
    · rw [cell_mask]
      split
      · split
        · exact le_rfl
        · exact zero_le_one
      · exact bot_le
    · unfold KeptAt Kept at h
      push Not at h
      obtain ⟨a, ha, hp, b, hb, hq, hit⟩ := h
      refine ⟨(⟨4, ![1, 1, 7, 7]⟩ : Shape).rowMajor (ValueIdx.ix4 (0 : Fin 1) (0 : Fin 1) (⟨6 - a, by omega⟩ : Fin 7) (⟨6 - b, by omega⟩ : Fin 7)),
        List.mem_finRange _, ?_⟩
      rw [Equiv.symm_apply_apply, cell_mask]
      have e2 : ((ValueIdx.ix4 (0 : Fin 1) (0 : Fin 1) (⟨6 - a, by omega⟩ : Fin 7) (⟨6 - b, by omega⟩ : Fin 7)) 2).val = 6 - a := rfl
      have e3 : ((ValueIdx.ix4 (0 : Fin 1) (0 : Fin 1) (⟨6 - a, by omega⟩ : Fin 7) (⟨6 - b, by omega⟩ : Fin 7)) 3).val = 6 - b := rfl
      rw [e2, e3, if_pos (by omega), if_pos]
      have a2 : (j 2).val + (6 - a) - 6 = (j 2).val - a := by omega
      have a3 : (j 3).val + (6 - b) - 6 = (j 3).val - b := by omega
      rw [a2, a3]
      exact hit
    · rw [cell_mask]
      generalize (⟨4, ![1, 1, 7, 7]⟩ : Shape).rowMajor.symm n = k
      have k2 : (k 2).val < 7 := (k 2).isLt
      have k3 : (k 3).val < 7 := (k 3).isLt
      by_cases hc : 6 ≤ (j 2).val + (k 2).val ∧ 6 ≤ (j 3).val + (k 3).val
      · rw [if_pos hc, if_neg]
        have a2 : (j 2).val + (k 2).val - 6 = (j 2).val - (6 - (k 2).val) := by omega
        have a3 : (j 3).val + (k 3).val - 6 = (j 3).val - (6 - (k 3).val) := by omega
        rw [a2, a3]
        exact not_not.mp h _ (by omega) (by omega) _ (by omega) (by omega)
      · rw [if_neg hc]; exact bot_le
  rw [e300, e299, e298]
  show Ideal.ofBits .f32 0x3F800000#32 - (arr (W V main_v13)) j = _
  rw [Ideal.ofBits_one_f32, h43]
  by_cases h : KeptAt (thr V) j
  · rw [if_pos h, if_neg (not_not.mpr h)]; simp
  · rw [if_neg h, if_pos h, ← EReal.coe_one, ← EReal.coe_sub, sub_self, EReal.coe_zero]

/-- The number of kept positions. -/
def total : ℕ := ∑ j : S32x192x56x56.Idx, if KeptAt (thr V) j then 1 else 0

theorem sum_inv (i : S_.Idx) : (one (W V main_v16)) i = ((total V : ℝ) : EReal) := by
  rw [e302, e301]
  show Ideal.hostReduceAdd _ (arr (W V main_v15)) (Ideal.ofBits .f32 0x00000000#32) i = _
  rw [Ideal.hostReduceAdd_total _ (fun b => b.elim0), Ideal.ofBits_zero_f32, zero_add, Finset.sum_congr rfl fun j _ => inv V j, total]
  exact sum_ite _ _

/-- The reference's result at a position. -/
theorem result (j : S32x192x56x56.Idx) : (arr (W V main_v20)) j
    = (if KeptAt (thr V) j then 1 else 0) * (arr (W V main_arg0)) j
      * Ideal.div (Ideal.ofBits .f32 0x4B930000#32) ((total V : ℝ) : EReal) := by
  have h : (arr (W V main_v19)) j = Ideal.div (Ideal.ofBits .f32 0x4B930000#32) ((total V : ℝ) : EReal) := by
    rw [e306, ← sum_inv V (fun a => a.elim0), e305, e304]
    show Host.divf _ _ _ = _
    rw [ValueIdx.hostDivf_apply]
    rfl
  rw [e307, e303]
  show (arr (W V main_v15)) j * (arr (W V main_arg0)) j * (arr (W V main_v19)) j = _
  rw [inv, h]

end Cert.ReferenceIdeal.Run

end
-- ==== Proof.Agree.lean ====
/-
  The two programs' results agree at the ideal instance, position by position.
-/
module

public import proofs.«01_k».proof.Proof.Arrays
public import proofs.«01_k».proof.Proof.RefValue

@[expose] public section

set_option maxRecDepth 16384

noncomputable section

namespace Cert.Agree

open Idealize.ShloMosaic Idealize.ShloMosaic.TcCoe Cert.Mix
open Cert.KernelIdeal.Planes (xs gamma one allSum)
open Classical

/-- A sum over the four-axis indices, axis by axis. -/
theorem sum_axes (f : Cert.ReferenceIdeal.S32x192x56x56.Idx → ℕ) :
    ∑ j, f j = ∑ n : Fin 32, ∑ k : Fin 192, ∑ p : Fin 56, ∑ q : Fin 56, f (ix4 n k p q) := by
  let e : Fin 32 × Fin 192 × Fin 56 × Fin 56 ≃ Cert.ReferenceIdeal.S32x192x56x56.Idx :=
    { toFun := fun x => ix4 x.1 x.2.1 x.2.2.1 x.2.2.2
      invFun := fun j => (j 0, j 1, j 2, j 3)
      left_inv := fun x => rfl
      right_inv := fun j => by
        funext a
        fin_cases a <;> rfl }
  rw [← Equiv.sum_comp e, Fintype.sum_prod_type]
  refine Finset.sum_congr rfl fun n _ => ?_
  rw [Fintype.sum_prod_type]
  refine Finset.sum_congr rfl fun k _ => ?_
  rw [Fintype.sum_prod_type]
  rfl

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))

theorem value_eq
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1)) :
    (Cert.ReferenceIdeal.Run.arr (Cert.ReferenceIdeal.Run.W V Cert.ReferenceIdeal.main_v20))
      = (show FVec Ideal Cert.ReferenceIdeal.S32x192x56x56 FTy.f32 from
          Cert.KernelIdeal.Gen.V5 m (Cert.KernelIdeal.Spec.outs m) c Cert.KernelIdeal.main_v7) := by
  have hγ : Cert.ReferenceIdeal.Run.thr V = gamma m c := by
    unfold Cert.ReferenceIdeal.Run.thr gamma
    rw [Cert.ReferenceIdeal.Run.W_arg1, h1]
    rfl
  have hx : Cert.ReferenceIdeal.Run.arr (Cert.ReferenceIdeal.Run.W V Cert.ReferenceIdeal.main_arg0) = xs m c := by
    rw [Cert.ReferenceIdeal.Run.W_arg0, h0]
    rfl
  have ht : Cert.ReferenceIdeal.Run.total V = allSum (gamma m c) := by
    unfold Cert.ReferenceIdeal.Run.total allSum
    rw [sum_axes, hγ]
    rfl
  funext j
  have hj : j = ix4 (j 0) (j 1) (j 2) (j 3) := by
    funext a
    fin_cases a <;> rfl
  rw [Cert.ReferenceIdeal.Run.result, hγ, hx, ht, hj]
  refine Eq.trans ?_ (Cert.KernelIdeal.Planes.v7_value m c (j 0) (j 1) (j 2) (j 3)).symm
  rw [← mul_assoc]
  refine congrArg (fun a : EReal => a * Ideal.div (Ideal.ofBits .f32 0x4B930000#32) ((allSum (gamma m c) : ℝ) : EReal)) ?_
  exact mul_comm _ _

end Cert.Agree

end
-- ==== Proof.lean ====
/-
  The proof of `Cert.Claim`. The kernel's run, once at the machine's floats and once at the reals, is in
  `Proof/Exact/Launched.lean` and `Proof/Launched.lean`; the reference's in `Proof/RefRun.lean`. That the two
  results agree at the reals is `Proof/Agree.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launched
public import proofs.«01_k».proof.Proof.Exact.Launched
public import proofs.«01_k».proof.Proof.RefRun
public import proofs.«01_k».proof.Proof.Agree

@[expose] public section

noncomputable section

namespace Cert.Proof

open Idealize.ShloMosaic Idealize.SL.Sem

/-- The kernel leaves its arguments as they were, at the machine's floats. -/
theorem frame_kernel : Cert.quiescent_Kernel := fun m ρ _ =>
  θ_run_mono (Cert.Kernel.Spec.run_main m ρ) fun _ h => ⟨fun c => ⟨(h.1 c).1, (h.1 c).2.1⟩, h.2⟩

/-- The kernel leaves its arguments as they were, at the reals. -/
theorem frame_ideal : Cert.quiescent_KernelIdeal := fun m ρ _ =>
  θ_run_mono (Cert.KernelIdeal.Spec.run_main m ρ) fun _ h => ⟨fun c => ⟨(h.1 c).1, (h.1 c).2.1⟩, h.2⟩

/-- The kernel's result is the reference's, at the reals. -/
theorem agrees : Cert.algebraic_KernelIdeal_ReferenceIdeal := fun m ρ m' ρ' _ hm =>
  ⟨fun c => Cert.KernelIdeal.Gen.V5 m (Cert.KernelIdeal.Spec.outs m) c (Proc.devRef .tc Cert.KernelIdeal.main_v7),
    θ_run_mono (Cert.KernelIdeal.Spec.run_main m ρ) fun _ h c => ⟨(h.1 c).2.2, (h.1 c).1, (h.1 c).2.1⟩,
    θ_run_mono (Cert.ReferenceIdeal.Run.run_line m' ρ') fun _ h c =>
      ⟨(h c Cert.ReferenceIdeal.main_v20).trans (Cert.Agree.value_eq m c (StableHlo.launchContents m' c) (hm c).1 (hm c).2),
        (h c Cert.ReferenceIdeal.main_arg0).trans (Cert.ReferenceIdeal.Run.W_arg0 (StableHlo.launchContents m' c)),
        (h c Cert.ReferenceIdeal.main_arg1).trans (Cert.ReferenceIdeal.Run.W_arg1 (StableHlo.launchContents m' c))⟩⟩

theorem claim : Cert.Claim :=
  ⟨Cert.Kernel.Gen.facts, Cert.KernelIdeal.Gen.facts, Cert.ReferenceIdeal.Gen.facts,
    frame_kernel, frame_ideal, Cert.ReferenceIdeal.Run.frame, trivial, agrees⟩

end Cert.Proof

end
